-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)) (v3 : (c : Dev Cert.Kernel3Ideal.nD) → Buf (Elt Ideal) ((c.tc : Thread Cert.Kernel3Ideal.nD Cert.Kernel3Ideal.τ).loc Cert.Kernel3Ideal.main_v29_3)) (v4 : (c : Dev Cert.Kernel3Ideal.nD) → Buf (Elt Ideal) ((c.tc : Thread Cert.Kernel3Ideal.nD Cert.Kernel3Ideal.τ).loc Cert.Kernel3Ideal.main_v29_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_v29_3) = v3 c
          ∧ r.2.mem ((c.tc : Thread Cert.Kernel3Ideal.nD Cert.Kernel3Ideal.τ).loc Cert.Kernel3Ideal.main_v29_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v122) = v0 c
          ∧ r.2.mem ((c.tc : Thread Cert.Reference3Ideal.nD Cert.Reference3Ideal.τ).loc Cert.Reference3Ideal.main_v123) = v1 c
          ∧ r.2.mem ((c.tc : Thread Cert.Reference3Ideal.nD Cert.Reference3Ideal.τ).loc Cert.Reference3Ideal.main_v124) = v2 c
          ∧ r.2.mem ((c.tc : Thread Cert.Reference3Ideal.nD Cert.Reference3Ideal.τ).loc Cert.Reference3Ideal.main_v125) = v3 c
          ∧ r.2.mem ((c.tc : Thread Cert.Reference3Ideal.nD Cert.Reference3Ideal.τ).loc Cert.Reference3Ideal.main_v126) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v29_0)) (v1 : (c : Dev Cert.Kernel8Ideal.nD) → Buf (Elt Ideal) ((c.tc : Thread Cert.Kernel8Ideal.nD Cert.Kernel8Ideal.τ).loc Cert.Kernel8Ideal.main_v29_1)) (v2 : (c : Dev Cert.Kernel8Ideal.nD) → Buf (Elt Ideal) ((c.tc : Thread Cert.Kernel8Ideal.nD Cert.Kernel8Ideal.τ).loc Cert.Kernel8Ideal.main_v29_2)) (v3 : (c : Dev Cert.Kernel8Ideal.nD) → Buf (Elt Ideal) ((c.tc : Thread Cert.Kernel8Ideal.nD Cert.Kernel8Ideal.τ).loc Cert.Kernel8Ideal.main_v29_3)) (v4 : (c : Dev Cert.Kernel8Ideal.nD) → Buf (Elt Ideal) ((c.tc : Thread Cert.Kernel8Ideal.nD Cert.Kernel8Ideal.τ).loc Cert.Kernel8Ideal.main_v29_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v29_0) = v0 c
          ∧ r.2.mem ((c.tc : Thread Cert.Kernel8Ideal.nD Cert.Kernel8Ideal.τ).loc Cert.Kernel8Ideal.main_v29_1) = v1 c
          ∧ r.2.mem ((c.tc : Thread Cert.Kernel8Ideal.nD Cert.Kernel8Ideal.τ).loc Cert.Kernel8Ideal.main_v29_2) = v2 c
          ∧ r.2.mem ((c.tc : Thread Cert.Kernel8Ideal.nD Cert.Kernel8Ideal.τ).loc Cert.Kernel8Ideal.main_v29_3) = v3 c
          ∧ r.2.mem ((c.tc : Thread Cert.Kernel8Ideal.nD Cert.Kernel8Ideal.τ).loc Cert.Kernel8Ideal.main_v29_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v124) = v0 c
          ∧ r.2.mem ((c.tc : Thread Cert.Reference8Ideal.nD Cert.Reference8Ideal.τ).loc Cert.Reference8Ideal.main_v125) = v1 c
          ∧ r.2.mem ((c.tc : Thread Cert.Reference8Ideal.nD Cert.Reference8Ideal.τ).loc Cert.Reference8Ideal.main_v126) = v2 c
          ∧ r.2.mem ((c.tc : Thread Cert.Reference8Ideal.nD Cert.Reference8Ideal.τ).loc Cert.Reference8Ideal.main_v127) = v3 c
          ∧ r.2.mem ((c.tc : Thread Cert.Reference8Ideal.nD Cert.Reference8Ideal.τ).loc Cert.Reference8Ideal.main_v128) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v16_0)) (v1 : (c : Dev Cert.Kernel11Ideal.nD) → Buf (Elt Ideal) ((c.tc : Thread Cert.Kernel11Ideal.nD Cert.Kernel11Ideal.τ).loc Cert.Kernel11Ideal.main_v16_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v16_0) = v0 c
          ∧ r.2.mem ((c.tc : Thread Cert.Kernel11Ideal.nD Cert.Kernel11Ideal.τ).loc Cert.Kernel11Ideal.main_v16_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v102) = v0 c
          ∧ r.2.mem ((c.tc : Thread Cert.Reference11Ideal.nD Cert.Reference11Ideal.τ).loc Cert.Reference11Ideal.main_v87) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_qk.lean ====
abbrev S8x2048x8x128 : Shape := ⟨4, ![8, 2048, 8, 128]⟩
abbrev S_ : Shape := ⟨0, ![]⟩

class Facts : Prop where
  bcast_S_S8x2048x8x128 : S_.BroadcastsInDim S8x2048x8x128 (![] : Fin 0 → Fin S8x2048x8x128.rank)
  reducesTo_S8x2048x8x128_S_d0_1_2_3 : S8x2048x8x128.ReducesTo [0, 1, 2, 3] S_
  h_S_ : 0 < S_.numel

variable [Facts]

def fn {F : FTy → Type} [FloatOps F] (main_arg0 : FVec F S8x2048x8x128 .f32) (main_arg1 : FVec F S8x2048x8x128 .f32) (main_arg2 : FVec F S8x2048x8x128 .f32) : IVec S_ 1 :=
  let main_v0 : FVec F S8x2048x8x128 .f32 := Host.absf main_arg0
  let main_cst : FVec F S_ .f32 := constant S_ .f32 0x7F800000#32
  let main_v1 : FVec F S8x2048x8x128 .f32 := broadcastInDim S8x2048x8x128 ![] bcast_S_S8x2048x8x128 main_cst
  let main_v2 : IVec S8x2048x8x128 1 := cmpf .olt main_v0 main_v1
  let main_c : IVec S_ 1 := constantI S_ 1 1#1
  let main_v3 : IVec S_ 1 := (fun x v => Host.reduce IntOp.andi x v reducesTo_S8x2048x8x128_S_d0_1_2_3 h_S_) main_v2 main_c
  let main_v4 : FVec F S8x2048x8x128 .f32 := Host.absf main_arg1
  let main_cst_0 : FVec F S_ .f32 := constant S_ .f32 0x7F800000#32
  let main_v5 : FVec F S8x2048x8x128 .f32 := broadcastInDim S8x2048x8x128 ![] bcast_S_S8x2048x8x128 main_cst_0
  let main_v6 : IVec S8x2048x8x128 1 := cmpf .olt main_v4 main_v5
  let main_c_1 : IVec S_ 1 := constantI S_ 1 1#1
  let main_v7 : IVec S_ 1 := (fun x v => Host.reduce IntOp.andi x v reducesTo_S8x2048x8x128_S_d0_1_2_3 h_S_) main_v6 main_c_1
  let main_v8 : IVec S_ 1 := andi main_v3 main_v7
  main_v8
-- ==== Kernel.lean ====
abbrev S8x2048x8x128 : Shape := ⟨4, ![8, 2048, 8, 128]⟩
abbrev S16384x1024 : Shape := ⟨2, ![16384, 1024]⟩
abbrev S2048x128 : Shape := ⟨2, ![2048, 128]⟩
abbrev S_ : Shape := ⟨0, ![]⟩
abbrev S2048x256 : Shape := ⟨2, ![2048, 256]⟩
abbrev S8x128 : Shape := ⟨2, ![8, 128]⟩
abbrev S256x128 : Shape := ⟨2, ![256, 128]⟩
abbrev S128 : Shape := ⟨1, ![128]⟩
abbrev S1x128 : Shape := ⟨2, ![1, 128]⟩
abbrev S256x256 : Shape := ⟨2, ![256, 256]⟩
abbrev S8x256 : Shape := ⟨2, ![8, 256]⟩
abbrev S256 : Shape := ⟨1, ![256]⟩
abbrev S256x1 : Shape := ⟨2, ![256, 1]⟩
abbrev S512x256 : Shape := ⟨2, ![512, 256]⟩
abbrev S256x512 : Shape := ⟨2, ![256, 512]⟩
abbrev S512x128 : Shape := ⟨2, ![512, 128]⟩
abbrev S768x256 : Shape := ⟨2, ![768, 256]⟩
abbrev S256x768 : Shape := ⟨2, ![256, 768]⟩
abbrev S768x128 : Shape := ⟨2, ![768, 128]⟩
abbrev S1x256 : Shape := ⟨2, ![1, 256]⟩
abbrev S120x256 : Shape := ⟨2, ![120, 256]⟩
abbrev S128x256 : Shape := ⟨2, ![128, 256]⟩
abbrev S1024x256 : Shape := ⟨2, ![1024, 256]⟩
abbrev S256x1024 : Shape := ⟨2, ![256, 1024]⟩
abbrev S1024x128 : Shape := ⟨2, ![1024, 128]⟩
abbrev S1280x256 : Shape := ⟨2, ![1280, 256]⟩
abbrev S256x1280 : Shape := ⟨2, ![256, 1280]⟩
abbrev S1280x128 : Shape := ⟨2, ![1280, 128]⟩
abbrev S1536x256 : Shape := ⟨2, ![1536, 256]⟩
abbrev S256x1536 : Shape := ⟨2, ![256, 1536]⟩
abbrev S1536x128 : Shape := ⟨2, ![1536, 128]⟩
abbrev S1792x256 : Shape := ⟨2, ![1792, 256]⟩
abbrev S256x1792 : Shape := ⟨2, ![256, 1792]⟩
abbrev S1792x128 : Shape := ⟨2, ![1792, 128]⟩

abbrev nBuf : Space → Nat
  | .hbm => 29
  | .vmem => 12
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x8x128, .f32⟩
  | .hbm, ⟨2, _⟩ => ⟨S8x2048x8x128, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S2048x128, .i32⟩
  | .hbm, ⟨7, _⟩ => ⟨S_, .i32⟩
  | .hbm, ⟨8, _⟩ => ⟨S_, .i32⟩
  | .hbm, ⟨9, _⟩ => ⟨S2048x128, .i32⟩
  | .hbm, ⟨10, _⟩ => ⟨S2048x128, .i32⟩
  | .hbm, ⟨11, _⟩ => ⟨S2048x128, .i32⟩
  | .hbm, ⟨12, _⟩ => ⟨S_, .i32⟩
  | .hbm, ⟨13, _⟩ => ⟨S2048x128, .i32⟩
  | .hbm, ⟨14, _⟩ => ⟨S2048x128, .i1⟩
  | .hbm, ⟨15, _⟩ => ⟨S2048x128, .i32⟩
  | .hbm, ⟨16, _⟩ => ⟨S2048x128, .i32⟩
  | .hbm, ⟨17, _⟩ => ⟨S_, .i32⟩
  | .hbm, ⟨18, _⟩ => ⟨S2048x128, .i32⟩
  | .hbm, ⟨19, _⟩ => ⟨S2048x128, .i1⟩
  | .hbm, ⟨20, _⟩ => ⟨S2048x128, .i1⟩
  | .hbm, ⟨21, _⟩ => ⟨S_, .i32⟩
  | .hbm, ⟨22, _⟩ => ⟨S2048x128, .i32⟩
  | .hbm, ⟨23, _⟩ => ⟨S2048x128, .i32⟩
  | .hbm, ⟨24, _⟩ => ⟨S2048x128, .i32⟩
  | .hbm, ⟨25, _⟩ => ⟨S2048x128, .i32⟩
  | .hbm, ⟨26, _⟩ => ⟨S2048x128, .i1⟩
  | .hbm, ⟨27, _⟩ => ⟨S2048x128, .bf16⟩
  | .hbm, ⟨28, _⟩ => ⟨S16384x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x256, .bf16⟩
  | .local _ .vmem, ⟨10, _⟩ => ⟨S2048x128, .bf16⟩
  | .local _ .vmem, ⟨11, _⟩ => ⟨S8x128, .f32⟩
  | _, _ => ⟨S8x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== ReferenceIdeal.lean ====
abbrev S8x2048x8x128 : Shape := ⟨4, ![8, 2048, 8, 128]⟩
abbrev S2048 : Shape := ⟨1, ![2048]⟩
abbrev S_ : Shape := ⟨0, ![]⟩
abbrev S8x8x256x8x128 : Shape := ⟨5, ![8, 8, 256, 8, 128]⟩
abbrev S8x8x8x128 : Shape := ⟨4, ![8, 8, 8, 128]⟩
abbrev S8x8x8x2048 : Shape := ⟨4, ![8, 8, 8, 2048]⟩
abbrev S8x2048x8x8 : Shape := ⟨4, ![8, 2048, 8, 8]⟩
abbrev S8 : Shape := ⟨1, ![8]⟩
abbrev S1x1x1x8 : Shape := ⟨4, ![1, 1, 1, 8]⟩
abbrev S1x2048x1x1 : Shape := ⟨4, ![1, 2048, 1, 1]⟩
abbrev S1x2048x1x8 : Shape := ⟨4, ![1, 2048, 1, 8]⟩
abbrev S8x2048x8x3 : Shape := ⟨4, ![8, 2048, 8, 3]⟩
abbrev S8x2048x8x1 : Shape := ⟨4, ![8, 2048, 8, 1]⟩
abbrev S8x2048x8x4 : Shape := ⟨4, ![8, 2048, 8, 4]⟩
abbrev S8x2048x8x4x1 : Shape := ⟨5, ![8, 2048, 8, 4, 1]⟩
abbrev S256 : Shape := ⟨1, ![256]⟩
abbrev S1x1x1x1x256 : Shape := ⟨5, ![1, 1, 1, 1, 256]⟩
abbrev S8x2048x8x4x256 : Shape := ⟨5, ![8, 2048, 8, 4, 256]⟩
abbrev S8x2048x8x1024 : Shape := ⟨4, ![8, 2048, 8, 1024]⟩
abbrev S8x1x1x1 : Shape := ⟨4, ![8, 1, 1, 1]⟩
abbrev S1x1x8x1 : Shape := ⟨4, ![1, 1, 8, 1]⟩
abbrev S8x2048x8x1024x1 : Shape := ⟨5, ![8, 2048, 8, 1024, 1]⟩
abbrev S8x2048x8x1024x3 : Shape := ⟨5, ![8, 2048, 8, 1024, 3]⟩
abbrev S8x2048x8x1024x128 : Shape := ⟨5, ![8, 2048, 8, 1024, 128]⟩
abbrev S8x2048x8 : Shape := ⟨3, ![8, 2048, 8]⟩
abbrev S16384x1024 : Shape := ⟨2, ![16384, 1024]⟩

abbrev nBuf : Space → Nat
  | .hbm => 155
  | .vmem => 0
  | .smem => 0
  | _ => 0

abbrev hbmTy0_0 (i : Nat) : BufTy := match i % 128 with
  | 0 => ⟨S8x2048x8x128, .f32⟩
  | 1 => ⟨S8x2048x8x128, .f32⟩
  | 2 => ⟨S8x2048x8x128, .f32⟩
  | 3 => ⟨S2048, .i32⟩
  | 4 => ⟨S_, .i32⟩
  | 5 => ⟨S_, .i32⟩
  | 6 => ⟨S2048, .i32⟩
  | 7 => ⟨S2048, .i32⟩
  | 8 => ⟨S2048, .i32⟩
  | 9 => ⟨S_, .i32⟩
  | 10 => ⟨S2048, .i32⟩
  | 11 => ⟨S2048, .i1⟩
  | 12 => ⟨S2048, .i32⟩
  | 13 => ⟨S2048, .i32⟩
  | 14 => ⟨S_, .i32⟩
  | 15 => ⟨S2048, .i32⟩
  | 16 => ⟨S2048, .i1⟩
  | 17 => ⟨S2048, .i1⟩
  | 18 => ⟨S_, .i32⟩
  | 19 => ⟨S2048, .i32⟩
  | 20 => ⟨S2048, .i32⟩
  | 21 => ⟨S2048, .i32⟩
  | 22 => ⟨S8x8x256x8x128, .f32⟩
  | 23 => ⟨S_, .f32⟩
  | 24 => ⟨S8x8x8x128, .f32⟩
  | 25 => ⟨S_, .f32⟩
  | 26 => ⟨S8x8x8x128, .f32⟩
  | 27 => ⟨S8x8x8x128, .f32⟩
  | 28 => ⟨S8x8x8x2048, .f32⟩
  | 29 => ⟨S8x2048x8x8, .f32⟩
  | 30 => ⟨S8, .i32⟩
  | 31 => ⟨S1x1x1x8, .i32⟩
  | 32 => ⟨S1x2048x1x1, .i32⟩
  | 33 => ⟨S1x2048x1x8, .i32⟩
  | 34 => ⟨S1x2048x1x8, .i32⟩
  | 35 => ⟨S1x2048x1x8, .i1⟩
  | 36 => ⟨S_, .f32⟩
  | 37 => ⟨S_, .f32⟩
  | 38 => ⟨S8x2048x8x8, .i1⟩
  | 39 => ⟨S8x2048x8x8, .f32⟩
  | 40 => ⟨S8x2048x8x8, .f32⟩
  | 41 => ⟨S8x2048x8x3, .f32⟩
  | 42 => ⟨S8x2048x8x3, .i32⟩
  | 43 => ⟨S1x2048x1x1, .i32⟩
  | 44 => ⟨S8x2048x8x1, .i32⟩
  | 45 => ⟨S8x2048x8x3, .i32⟩
  | 46 => ⟨S8x2048x8x3, .i1⟩
  | 47 => ⟨S8x2048x8x3, .i32⟩
  | 48 => ⟨S8x2048x8x3, .i32⟩
  | 49 => ⟨S8x2048x8x4, .i32⟩
  | 50 => ⟨S_, .i1⟩
  | 51 => ⟨S8x2048x8x1, .i1⟩
  | 52 => ⟨S8x2048x8x4, .i1⟩
  | 53 => ⟨S8x2048x8x4x1, .i32⟩
  | 54 => ⟨S_, .i32⟩
  | 55 => ⟨S8x2048x8x4x1, .i32⟩
  | 56 => ⟨S8x2048x8x4x1, .i32⟩
  | 57 => ⟨S256, .i32⟩
  | 58 => ⟨S1x1x1x1x256, .i32⟩
  | 59 => ⟨S8x2048x8x4x256, .i32⟩
  | 60 => ⟨S8x2048x8x4x256, .i32⟩
  | 61 => ⟨S8x2048x8x4x256, .i32⟩
  | 62 => ⟨S8x2048x8x1024, .i32⟩
  | 63 => ⟨S8x2048x8x4x256, .i1⟩
  | 64 => ⟨S8x2048x8x1024, .i1⟩
  | 65 => ⟨S1x2048x1x1, .i32⟩
  | 66 => ⟨S8x2048x8x1024, .i32⟩
  | 67 => ⟨S8x2048x8x1024, .i1⟩
  | 68 => ⟨S8x2048x8x1024, .i1⟩
  | 69 => ⟨S8, .i32⟩
  | 70 => ⟨S8x1x1x1, .i32⟩
  | 71 => ⟨S8, .i32⟩
  | 72 => ⟨S1x1x8x1, .i32⟩
  | 73 => ⟨S_, .i32⟩
  | 74 => ⟨S8x1x1x1, .i32⟩
  | 75 => ⟨S8x1x1x1, .i1⟩
  | 76 => ⟨S_, .i32⟩
  | 77 => ⟨S8x1x1x1, .i32⟩
  | 78 => ⟨S8x1x1x1, .i32⟩
  | 79 => ⟨S8x1x1x1, .i32⟩
  | 80 => ⟨S_, .i32⟩
  | 81 => ⟨S8x2048x8x1024, .i32⟩
  | 82 => ⟨S8x2048x8x1024, .i1⟩
  | 83 => ⟨S_, .i32⟩
  | 84 => ⟨S8x2048x8x1024, .i32⟩
  | 85 => ⟨S8x2048x8x1024, .i32⟩
  | 86 => ⟨S8x2048x8x1024, .i32⟩
  | 87 => ⟨S_, .i32⟩
  | 88 => ⟨S1x1x8x1, .i32⟩
  | 89 => ⟨S1x1x8x1, .i1⟩
  | 90 => ⟨S_, .i32⟩
  | 91 => ⟨S1x1x8x1, .i32⟩
  | 92 => ⟨S1x1x8x1, .i32⟩
  | 93 => ⟨S1x1x8x1, .i32⟩
  | 94 => ⟨S8x2048x8x1024, .i32⟩
  | 95 => ⟨S8x2048x8x1024, .i32⟩
  | 96 => ⟨S8x2048x8x1024x1, .i32⟩
  | 97 => ⟨S8x2048x8x1024x1, .i32⟩
  | 98 => ⟨S8x2048x8x1024x1, .i32⟩
  | 99 => ⟨S8x2048x8x1024x3, .i32⟩
  | 100 => ⟨S8x2048x8x1024x128, .f32⟩
  | 101 => ⟨S_, .i32⟩
  | 102 => ⟨S8x1x1x1, .i32⟩
  | 103 => ⟨S8x1x1x1, .i1⟩
  | 104 => ⟨S_, .i32⟩
  | 105 => ⟨S8x1x1x1, .i32⟩
  | 106 => ⟨S8x1x1x1, .i32⟩
  | 107 => ⟨S8x1x1x1, .i32⟩
  | 108 => ⟨S_, .i32⟩
  | 109 => ⟨S8x2048x8x1024, .i32⟩
  | 110 => ⟨S8x2048x8x1024, .i1⟩
  | 111 => ⟨S_, .i32⟩
  | 112 => ⟨S8x2048x8x1024, .i32⟩
  | 113 => ⟨S8x2048x8x1024, .i32⟩
  | 114 => ⟨S8x2048x8x1024, .i32⟩
  | 115 => ⟨S_, .i32⟩
  | 116 => ⟨S1x1x8x1, .i32⟩
  | 117 => ⟨S1x1x8x1, .i1⟩
  | 118 => ⟨S_, .i32⟩
  | 119 => ⟨S1x1x8x1, .i32⟩
  | 120 => ⟨S1x1x8x1, .i32⟩
  | 121 => ⟨S1x1x8x1, .i32⟩
  | 122 => ⟨S8x2048x8x1024, .i32⟩
  | 123 => ⟨S8x2048x8x1024, .i32⟩
  | 124 => ⟨S8x2048x8x1024x1, .i32⟩
  | 125 => ⟨S8x2048x8x1024x1, .i32⟩
  | 126 => ⟨S8x2048x8x1024x1, .i32⟩
  | 127 => ⟨S8x2048x8x1024x3, .i32⟩
  | _ => ⟨S8x2048x8x128, .f32⟩

abbrev hbmTy0_1 (i : Nat) : BufTy := match i % 128 with
  | 0 => ⟨S8x2048x8x1024x128, .f32⟩
  | 1 => ⟨S8x2048x8x1024, .f32⟩
  | 2 => ⟨S_, .f32⟩
  | 3 => ⟨S_, .f32⟩
  | 4 => ⟨S8x2048x8x1024, .f32⟩
  | 5 => ⟨S8x2048x8x1024, .f32⟩
  | 6 => ⟨S_, .f32⟩
  | 7 => ⟨S_, .f32⟩
  | 8 => ⟨S8x2048x8x1024, .f32⟩
  | 9 => ⟨S8x2048x8x1024, .f32⟩
  | 10 => ⟨S_, .f32⟩
  | 11 => ⟨S8x2048x8, .f32⟩
  | 12 => ⟨S_, .f32⟩
  | 13 => ⟨S8x2048x8, .f32⟩
  | 14 => ⟨S8x2048x8, .f32⟩
  | 15 => ⟨S8x2048x8x1, .f32⟩
  | 16 => ⟨S8x2048x8x1024, .f32⟩
  | 17 => ⟨S8x2048x8x1024, .f32⟩
  | 18 => ⟨S8x2048x8x1024, .f32⟩
  | 19 => ⟨S_, .f32⟩
  | 20 => ⟨S8x2048x8, .f32⟩
  | 21 => ⟨S8x2048x8x1, .f32⟩
  | 22 => ⟨S8x2048x8x1024, .f32⟩
  | 23 => ⟨S8x2048x8x1024, .f32⟩
  | 24 => ⟨S8x2048x8x128, .f32⟩
  | 25 => ⟨S16384x1024, .f32⟩
  | 26 => ⟨S16384x1024, .bf16⟩
  | _ => ⟨S8x2048x8x128, .f32⟩

abbrev hbmTy (i : Nat) : BufTy := match i / 128 with
  | 0 => hbmTy0_0 i
  | 1 => hbmTy0_1 i
  | _ => ⟨S8x2048x8x128, .f32⟩

abbrev bufTy : (tb : Table) → Fin (tcTables nBuf tb) → BufTy
  | .hbm, ⟨i, _⟩ => hbmTy i
  | _, _ => ⟨S8x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_cst_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v14 : Ref sig .tc := ⟨.hbm, 40, rfl⟩
abbrev main_values : Ref sig .tc := ⟨.hbm, 41, rfl⟩
abbrev main_indices : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call2_v0 : Ref sig .tc := ⟨.hbm, 47, rfl⟩
abbrev main_v19 : Ref sig .tc := ⟨.hbm, 48, rfl⟩
abbrev main_v20 : Ref sig .tc := ⟨.hbm, 49, rfl⟩
abbrev main_c_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_3 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_4 : Ref sig .tc := ⟨.hbm, 73, rfl⟩
abbrev main_v42 : Ref sig .tc := ⟨.hbm, 74, rfl⟩
abbrev main_v43 : Ref sig .tc := ⟨.hbm, 75, rfl⟩
abbrev main_c_5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_6 : Ref sig .tc := ⟨.hbm, 80, rfl⟩
abbrev main_v47 : Ref sig .tc := ⟨.hbm, 81, rfl⟩
abbrev main_v48 : Ref sig .tc := ⟨.hbm, 82, rfl⟩
abbrev main_c_7 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_8 : Ref sig .tc := ⟨.hbm, 87, rfl⟩
abbrev main_v52 : Ref sig .tc := ⟨.hbm, 88, rfl⟩
abbrev main_v53 : Ref sig .tc := ⟨.hbm, 89, rfl⟩
abbrev main_c_9 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_10 : Ref sig .tc := ⟨.hbm, 101, rfl⟩
abbrev main_v64 : Ref sig .tc := ⟨.hbm, 102, rfl⟩
abbrev main_v65 : Ref sig .tc := ⟨.hbm, 103, rfl⟩
abbrev main_c_11 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_12 : Ref sig .tc := ⟨.hbm, 108, rfl⟩
abbrev main_v69 : Ref sig .tc := ⟨.hbm, 109, rfl⟩
abbrev main_v70 : Ref sig .tc := ⟨.hbm, 110, rfl⟩
abbrev main_c_13 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_14 : Ref sig .tc := ⟨.hbm, 115, rfl⟩
abbrev main_v74 : Ref sig .tc := ⟨.hbm, 116, rfl⟩
abbrev main_v75 : Ref sig .tc := ⟨.hbm, 117, rfl⟩
abbrev main_c_15 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_16 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_17 : Ref sig .tc := ⟨.hbm, 134, rfl⟩
abbrev main_call3_v0 : Ref sig .tc := ⟨.hbm, 135, rfl⟩
abbrev main_call3_v1 : Ref sig .tc := ⟨.hbm, 136, rfl⟩
abbrev main_v90 : Ref sig .tc := ⟨.hbm, 137, rfl⟩
abbrev main_cst_18 : Ref sig .tc := ⟨.hbm, 138, rfl⟩
abbrev main_v91 : Ref sig .tc := ⟨.hbm, 139, rfl⟩
abbrev main_cst_19 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_20 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩

abbrev nD : Nat := 1
abbrev τ : Topo := Topo.v7x

variable {F : FTy → Type} [FloatOps F]
-- ==== Kernel2.lean ====
abbrev S8x2048x2048 : Shape := ⟨3, ![8, 2048, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S16384x2048 : Shape := ⟨2, ![16384, 2048]⟩
abbrev S1x2048 : Shape := ⟨2, ![1, 2048]⟩
abbrev S2048 : Shape := ⟨1, ![2048]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S16384x2048, .f32⟩
  | .hbm, ⟨5, _⟩ => ⟨S1x2048, .f32⟩
  | .hbm, ⟨6, _⟩ => ⟨S2048, .f32⟩
  | .hbm, ⟨7, _⟩ => ⟨S2x2048x8192, .bf16⟩
  | .hbm, ⟨8, _⟩ => ⟨S2x8192x2048, .bf16⟩
  | .hbm, ⟨9, _⟩ => ⟨S1x2048, .f32⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8x2048x2048 : Shape := ⟨3, ![8, 2048, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S_ : Shape := ⟨0, ![]⟩
abbrev S8x2048 : Shape := ⟨2, ![8, 2048]⟩
abbrev S8x2048x1 : Shape := ⟨3, ![8, 2048, 1]⟩
abbrev S1x2048 : Shape := ⟨2, ![1, 2048]⟩
abbrev S2048 : Shape := ⟨1, ![2048]⟩
abbrev S1x1x2048 : Shape := ⟨3, ![1, 1, 2048]⟩
abbrev S1x2048x8192 : Shape := ⟨3, ![1, 2048, 8192]⟩
abbrev S2048x8192 : Shape := ⟨2, ![2048, 8192]⟩
abbrev S8x2048x8192 : Shape := ⟨3, ![8, 2048, 8192]⟩
abbrev S1x8192x2048 : Shape := ⟨3, ![1, 8192, 2048]⟩
abbrev S8192x2048 : Shape := ⟨2, ![8192, 2048]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S1x2048x8192, .f32⟩
  | .hbm, ⟨23, _⟩ => ⟨S2048x8192, .f32⟩
  | .hbm, ⟨24, _⟩ => ⟨S8x2048x8192, .f32⟩
  | .hbm, ⟨25, _⟩ => ⟨S_, .f32⟩
  | .hbm, ⟨26, _⟩ => ⟨S8x2048x8192, .f32⟩
  | .hbm, ⟨27, _⟩ => ⟨S8x2048x8192, .f32⟩
  | .hbm, ⟨28, _⟩ => ⟨S8x2048x8192, .f32⟩
  | .hbm, ⟨29, _⟩ => ⟨S1x8192x2048, .f32⟩
  | .hbm, ⟨30, _⟩ => ⟨S8192x2048, .f32⟩
  | .hbm, ⟨31, _⟩ => ⟨S8x2048x2048, .f32⟩
  | .hbm, ⟨32, _⟩ => ⟨S8x2048x2048, .f32⟩
  | .hbm, ⟨33, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel3.lean ====
abbrev S8x2048x2048 : Shape := ⟨3, ![8, 2048, 2048]⟩
abbrev S2x2048 : Shape := ⟨2, ![2, 2048]⟩
abbrev S1x2048x5120 : Shape := ⟨3, ![1, 2048, 5120]⟩
abbrev S1x128 : Shape := ⟨2, ![1, 128]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S16384x2048 : Shape := ⟨2, ![16384, 2048]⟩
abbrev S1x2048 : Shape := ⟨2, ![1, 2048]⟩
abbrev S128 : Shape := ⟨1, ![128]⟩
abbrev S16384x1024 : Shape := ⟨2, ![16384, 1024]⟩
abbrev S256x2048 : Shape := ⟨2, ![256, 2048]⟩
abbrev S1x2048x1024 : Shape := ⟨3, ![1, 2048, 1024]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩

abbrev nBuf : Space → Nat
  | .hbm => 43
  | .vmem => 24
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x5120, .f32⟩
  | .hbm, ⟨3, _⟩ => ⟨S1x128, .f32⟩
  | .hbm, ⟨4, _⟩ => ⟨S1x128, .f32⟩
  | .hbm, ⟨5, _⟩ => ⟨S2048, .i32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S2048, .f32⟩
  | .hbm, ⟨15, _⟩ => ⟨S2048x1, .f32⟩
  | .hbm, ⟨16, _⟩ => ⟨S1x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S_, .f32⟩
  | .hbm, ⟨23, _⟩ => ⟨S2048x96, .f32⟩
  | .hbm, ⟨24, _⟩ => ⟨S2048x128, .f32⟩
  | .hbm, ⟨25, _⟩ => ⟨S2048x16, .f32⟩
  | .hbm, ⟨26, _⟩ => ⟨S_, .f32⟩
  | .hbm, ⟨27, _⟩ => ⟨S2048x96, .f32⟩
  | .hbm, ⟨28, _⟩ => ⟨S2048x128, .f32⟩
  | .hbm, ⟨29, _⟩ => ⟨S16384x2048, .f32⟩
  | .hbm, ⟨30, _⟩ => ⟨S1x2048, .f32⟩
  | .hbm, ⟨31, _⟩ => ⟨S2048, .f32⟩
  | .hbm, ⟨32, _⟩ => ⟨S1x2048x5120, .bf16⟩
  | .hbm, ⟨33, _⟩ => ⟨S128, .f32⟩
  | .hbm, ⟨34, _⟩ => ⟨S128, .f32⟩
  | .hbm, ⟨35, _⟩ => ⟨S1x2048, .f32⟩
  | .hbm, ⟨36, _⟩ => ⟨S1x128, .f32⟩
  | .hbm, ⟨37, _⟩ => ⟨S1x128, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev main_v29_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S8x2048x2048 : Shape := ⟨3, ![8, 2048, 2048]⟩
abbrev S2x2048 : Shape := ⟨2, ![2, 2048]⟩
abbrev S1x2048x5120 : Shape := ⟨3, ![1, 2048, 5120]⟩
abbrev S1x128 : Shape := ⟨2, ![1, 128]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x5120 : Shape := ⟨2, ![2048, 5120]⟩
abbrev S8x2048x5120 : Shape := ⟨3, ![8, 2048, 5120]⟩
abbrev S8x2048x1024 : Shape := ⟨3, ![8, 2048, 1024]⟩
abbrev S8x2048x8x128 : Shape := ⟨4, ![8, 2048, 8, 128]⟩
abbrev S128 : Shape := ⟨1, ![128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S8x2048x8x16 : Shape := ⟨4, ![8, 2048, 8, 16]⟩
abbrev S1x2048x1x16 : Shape := ⟨4, ![1, 2048, 1, 16]⟩
abbrev S8x2048x8x96 : Shape := ⟨4, ![8, 2048, 8, 96]⟩
abbrev S16384x1024 : Shape := ⟨2, ![16384, 1024]⟩

abbrev nBuf : Space → Nat
  | .hbm => 145
  | .vmem => 0
  | .smem => 0
  | _ => 0

abbrev hbmTy0_0 (i : Nat) : BufTy := match i % 128 with
  | 0 => ⟨S8x2048x2048, .f32⟩
  | 1 => ⟨S2x2048, .f32⟩
  | 2 => ⟨S1x2048x5120, .f32⟩
  | 3 => ⟨S1x128, .f32⟩
  | 4 => ⟨S1x128, .f32⟩
  | 5 => ⟨S1x2048, .f32⟩
  | 6 => ⟨S2048, .f32⟩
  | 7 => ⟨S8x2048x2048, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x2048, .f32⟩
  | 19 => ⟨S8x2048x2048, .f32⟩
  | 20 => ⟨S1x1x2048, .f32⟩
  | 21 => ⟨S8x2048x2048, .f32⟩
  | 22 => ⟨S8x2048x2048, .f32⟩
  | 23 => ⟨S2048x5120, .f32⟩
  | 24 => ⟨S8x2048x5120, .f32⟩
  | 25 => ⟨S8x2048x1024, .f32⟩
  | 26 => ⟨S8x2048x1024, .f32⟩
  | 27 => ⟨S8x2048x1024, .f32⟩
  | 28 => ⟨S8x2048x1024, .f32⟩
  | 29 => ⟨S8x2048x1024, .f32⟩
  | 30 => ⟨S8x2048x8x128, .f32⟩
  | 31 => ⟨S128, .f32⟩
  | 32 => ⟨S8x2048x8x128, .f32⟩
  | 33 => ⟨S_, .f32⟩
  | 34 => ⟨S8x2048x8, .f32⟩
  | 35 => ⟨S8x2048x8x1, .f32⟩
  | 36 => ⟨S_, .f32⟩
  | 37 => ⟨S8x2048x8x1, .f32⟩
  | 38 => ⟨S8x2048x8x1, .f32⟩
  | 39 => ⟨S_, .f32⟩
  | 40 => ⟨S8x2048x8x1, .f32⟩
  | 41 => ⟨S8x2048x8x1, .f32⟩
  | 42 => ⟨S8x2048x8x1, .f32⟩
  | 43 => ⟨S8x2048x8x128, .f32⟩
  | 44 => ⟨S8x2048x8x128, .f32⟩
  | 45 => ⟨S1x1x1x128, .f32⟩
  | 46 => ⟨S8x2048x8x128, .f32⟩
  | 47 => ⟨S8x2048x8x128, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S2048, .i32⟩
  | 57 => ⟨S2048, .f32⟩
  | 58 => ⟨S2048x1, .f32⟩
  | 59 => ⟨S1x16, .f32⟩
  | 60 => ⟨S2048x16, .f32⟩
  | 61 => ⟨S2048x16, .f32⟩
  | 62 => ⟨S2048x16, .f32⟩
  | 63 => ⟨S2048x16, .f32⟩
  | 64 => ⟨S2048x1x16, .f32⟩
  | 65 => ⟨S2048x16, .f32⟩
  | 66 => ⟨S2048x1x16, .f32⟩
  | 67 => ⟨S8x2048x8x16, .f32⟩
  | 68 => ⟨S8x2048x8x16, .f32⟩
  | 69 => ⟨S1x2048x1x16, .f32⟩
  | 70 => ⟨S8x2048x8x16, .f32⟩
  | 71 => ⟨S8x2048x8x16, .f32⟩
  | 72 => ⟨S1x2048x1x16, .f32⟩
  | 73 => ⟨S8x2048x8x16, .f32⟩
  | 74 => ⟨S8x2048x8x16, .f32⟩
  | 75 => ⟨S8x2048x8x16, .f32⟩
  | 76 => ⟨S1x2048x1x16, .f32⟩
  | 77 => ⟨S8x2048x8x16, .f32⟩
  | 78 => ⟨S8x2048x8x16, .f32⟩
  | 79 => ⟨S1x2048x1x16, .f32⟩
  | 80 => ⟨S8x2048x8x16, .f32⟩
  | 81 => ⟨S8x2048x8x16, .f32⟩
  | 82 => ⟨S8x2048x8x16, .f32⟩
  | 83 => ⟨S8x2048x8x96, .f32⟩
  | 84 => ⟨S8x2048x8x128, .f32⟩
  | 85 => ⟨S8x2048x8x128, .f32⟩
  | 86 => ⟨S128, .f32⟩
  | 87 => ⟨S8x2048x8x128, .f32⟩
  | 88 => ⟨S_, .f32⟩
  | 89 => ⟨S8x2048x8, .f32⟩
  | 90 => ⟨S8x2048x8x1, .f32⟩
  | 91 => ⟨S_, .f32⟩
  | 92 => ⟨S8x2048x8x1, .f32⟩
  | 93 => ⟨S8x2048x8x1, .f32⟩
  | 94 => ⟨S_, .f32⟩
  | 95 => ⟨S8x2048x8x1, .f32⟩
  | 96 => ⟨S8x2048x8x1, .f32⟩
  | 97 => ⟨S8x2048x8x1, .f32⟩
  | 98 => ⟨S8x2048x8x128, .f32⟩
  | 99 => ⟨S8x2048x8x128, .f32⟩
  | 100 => ⟨S1x1x1x128, .f32⟩
  | 101 => ⟨S8x2048x8x128, .f32⟩
  | 102 => ⟨S8x2048x8x128, .f32⟩
  | 103 => ⟨S16, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S2048, .i32⟩
  | 112 => ⟨S2048, .f32⟩
  | 113 => ⟨S2048x1, .f32⟩
  | 114 => ⟨S1x16, .f32⟩
  | 115 => ⟨S2048x16, .f32⟩
  | 116 => ⟨S2048x16, .f32⟩
  | 117 => ⟨S2048x16, .f32⟩
  | 118 => ⟨S2048x16, .f32⟩
  | 119 => ⟨S2048x1x16, .f32⟩
  | 120 => ⟨S2048x16, .f32⟩
  | 121 => ⟨S2048x1x16, .f32⟩
  | 122 => ⟨S8x2048x8x16, .f32⟩
  | 123 => ⟨S8x2048x8x16, .f32⟩
  | 124 => ⟨S1x2048x1x16, .f32⟩
  | 125 => ⟨S8x2048x8x16, .f32⟩
  | 126 => ⟨S8x2048x8x16, .f32⟩
  | 127 => ⟨S1x2048x1x16, .f32⟩
  | _ => ⟨S8x2048x2048, .f32⟩

abbrev hbmTy0_1 (i : Nat) : BufTy := match i % 128 with
  | 0 => ⟨S8x2048x8x16, .f32⟩
  | 1 => ⟨S8x2048x8x16, .f32⟩
  | 2 => ⟨S8x2048x8x16, .f32⟩
  | 3 => ⟨S1x2048x1x16, .f32⟩
  | 4 => ⟨S8x2048x8x16, .f32⟩
  | 5 => ⟨S8x2048x8x16, .f32⟩
  | 6 => ⟨S1x2048x1x16, .f32⟩
  | 7 => ⟨S8x2048x8x16, .f32⟩
  | 8 => ⟨S8x2048x8x16, .f32⟩
  | 9 => ⟨S8x2048x8x16, .f32⟩
  | 10 => ⟨S8x2048x8x96, .f32⟩
  | 11 => ⟨S8x2048x8x128, .f32⟩
  | 12 => ⟨S16384x1024, .f32⟩
  | 13 => ⟨S16384x1024, .f32⟩
  | 14 => ⟨S16384x1024, .f32⟩
  | 15 => ⟨S16384x1024, .f32⟩
  | 16 => ⟨S16384x1024, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_7 : Ref sig .tc := ⟨.hbm, 88, rfl⟩
abbrev main_v75 : Ref sig .tc := ⟨.hbm, 89, rfl⟩
abbrev main_v76 : Ref sig .tc := ⟨.hbm, 90, rfl⟩
abbrev main_cst_8 : Ref sig .tc := ⟨.hbm, 91, rfl⟩
abbrev main_v77 : Ref sig .tc := ⟨.hbm, 92, rfl⟩
abbrev main_v78 : Ref sig .tc := ⟨.hbm, 93, rfl⟩
abbrev main_cst_9 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_10 : Ref sig .tc := ⟨.hbm, 105, rfl⟩
abbrev main_v89 : Ref sig .tc := ⟨.hbm, 106, rfl⟩
abbrev main_v90 : Ref sig .tc := ⟨.hbm, 107, rfl⟩
abbrev main_cst_11 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩

abbrev nD : Nat := 1
abbrev τ : Topo := Topo.v7x

variable {F : FTy → Type} [FloatOps F]
-- ==== Kernel4.lean ====
abbrev S8x2048x2048 : Shape := ⟨3, ![8, 2048, 2048]⟩
abbrev S2x2048 : Shape := ⟨2, ![2, 2048]⟩
abbrev S1x2048x10304 : Shape := ⟨3, ![1, 2048, 10304]⟩
abbrev S2048x10304 : Shape := ⟨2, ![2048, 10304]⟩
abbrev S2048x64 : Shape := ⟨2, ![2048, 64]⟩
abbrev S_ : Shape := ⟨0, ![]⟩
abbrev S2048x128 : Shape := ⟨2, ![2048, 128]⟩
abbrev S16384x2048 : Shape := ⟨2, ![16384, 2048]⟩
abbrev S1x2048 : Shape := ⟨2, ![1, 2048]⟩
abbrev S2048 : Shape := ⟨1, ![2048]⟩
abbrev S32x16384x128 : Shape := ⟨3, ![32, 16384, 128]⟩
abbrev S16384x128 : Shape := ⟨2, ![16384, 128]⟩
abbrev S512x2048 : Shape := ⟨2, ![512, 2048]⟩
abbrev S1x2048x1024 : Shape := ⟨3, ![1, 2048, 1024]⟩
abbrev S32x512x128 : Shape := ⟨3, ![32, 512, 128]⟩
abbrev S512x128 : Shape := ⟨2, ![512, 128]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1x512x128 : Shape := ⟨3, ![1, 512, 128]⟩

abbrev nBuf : Space → Nat
  | .hbm => 16
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x10304, .f32⟩
  | .hbm, ⟨3, _⟩ => ⟨S2048x10304, .f32⟩
  | .hbm, ⟨4, _⟩ => ⟨S2048x64, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S16384x2048, .f32⟩
  | .hbm, ⟨10, _⟩ => ⟨S1x2048, .f32⟩
  | .hbm, ⟨11, _⟩ => ⟨S2048, .f32⟩
  | .hbm, ⟨12, _⟩ => ⟨S1x2048x10304, .bf16⟩
  | .hbm, ⟨13, _⟩ => ⟨S1x2048, .f32⟩
  | .hbm, ⟨14, _⟩ => ⟨S32x16384x128, .f32⟩
  | .hbm, ⟨15, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S2048x128, .bf16⟩
  | .local _ .vmem, ⟨8, _⟩ => ⟨S32x512x128, .f32⟩
  | .local _ .vmem, ⟨9, _⟩ => ⟨S32x512x128, .f32⟩
  | .local _ .vmem, ⟨10, _⟩ => ⟨S512x128, .f32⟩
  | .local _ .vmem, ⟨11, _⟩ => ⟨S512x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8x2048x2048 : Shape := ⟨3, ![8, 2048, 2048]⟩
abbrev S2x2048 : Shape := ⟨2, ![2, 2048]⟩
abbrev S1x2048x10304 : Shape := ⟨3, ![1, 2048, 10304]⟩
abbrev S_ : Shape := ⟨0, ![]⟩
abbrev S8x2048 : Shape := ⟨2, ![8, 2048]⟩
abbrev S8x2048x1 : Shape := ⟨3, ![8, 2048, 1]⟩
abbrev S1x2048 : Shape := ⟨2, ![1, 2048]⟩
abbrev S2048 : Shape := ⟨1, ![2048]⟩
abbrev S1x1x2048 : Shape := ⟨3, ![1, 1, 2048]⟩
abbrev S2048x10304 : Shape := ⟨2, ![2048, 10304]⟩
abbrev S8x2048x10304 : Shape := ⟨3, ![8, 2048, 10304]⟩
abbrev S8x2048x4096 : Shape := ⟨3, ![8, 2048, 4096]⟩
abbrev S8x2048x6144 : Shape := ⟨3, ![8, 2048, 6144]⟩
abbrev S8x2048x64 : Shape := ⟨3, ![8, 2048, 64]⟩
abbrev S16384x32x128 : Shape := ⟨3, ![16384, 32, 128]⟩
abbrev S32x16384x128 : Shape := ⟨3, ![32, 16384, 128]⟩
abbrev S16384x64 : Shape := ⟨2, ![16384, 64]⟩
abbrev S16384x128 : Shape := ⟨2, ![16384, 128]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x10304, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S2048x10304, .f32⟩
  | .hbm, ⟨22, _⟩ => ⟨S8x2048x10304, .f32⟩
  | .hbm, ⟨23, _⟩ => ⟨S8x2048x4096, .f32⟩
  | .hbm, ⟨24, _⟩ => ⟨S8x2048x6144, .f32⟩
  | .hbm, ⟨25, _⟩ => ⟨S8x2048x64, .f32⟩
  | .hbm, ⟨26, _⟩ => ⟨S16384x32x128, .f32⟩
  | .hbm, ⟨27, _⟩ => ⟨S32x16384x128, .f32⟩
  | .hbm, ⟨28, _⟩ => ⟨S16384x64, .f32⟩
  | .hbm, ⟨29, _⟩ => ⟨S_, .i32⟩
  | .hbm, ⟨30, _⟩ => ⟨S_, .f32⟩
  | .hbm, ⟨31, _⟩ => ⟨S16384x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S8x2048x2048 : Shape := ⟨3, ![8, 2048, 2048]⟩
abbrev S2x2048 : Shape := ⟨2, ![2, 2048]⟩
abbrev S1x2048x10304 : Shape := ⟨3, ![1, 2048, 10304]⟩
abbrev S16384x2048 : Shape := ⟨2, ![16384, 2048]⟩
abbrev S1x2048 : Shape := ⟨2, ![1, 2048]⟩
abbrev S2048 : Shape := ⟨1, ![2048]⟩
abbrev S48x16384x128 : Shape := ⟨3, ![48, 16384, 128]⟩
abbrev S256x2048 : Shape := ⟨2, ![256, 2048]⟩
abbrev S1x2048x1024 : Shape := ⟨3, ![1, 2048, 1024]⟩
abbrev S48x256x128 : Shape := ⟨3, ![48, 256, 128]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 9
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x10304, .f32⟩
  | .hbm, ⟨3, _⟩ => ⟨S16384x2048, .f32⟩
  | .hbm, ⟨4, _⟩ => ⟨S1x2048, .f32⟩
  | .hbm, ⟨5, _⟩ => ⟨S2048, .f32⟩
  | .hbm, ⟨6, _⟩ => ⟨S1x2048x10304, .bf16⟩
  | .hbm, ⟨7, _⟩ => ⟨S1x2048, .f32⟩
  | .hbm, ⟨8, _⟩ => ⟨S48x16384x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S48x256x128, .f32⟩
  | .local _ .vmem, ⟨10, _⟩ => ⟨S48x256x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c7_i32 : BitVec 32 := 7#32
  let c0_i32_1 : BitVec 32 := 0#32
  ![c0_i32.toNat, c0_i32_0.toNat, c7_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c8_i32 : BitVec 32 := 8#32
  let c0_i32_1 : BitVec 32 := 0#32
  ![c0_i32.toNat, c0_i32_0.toNat, c8_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c9_i32 : BitVec 32 := 9#32
  let c0_i32_1 : BitVec 32 := 0#32
  ![c0_i32.toNat, c0_i32_0.toNat, c9_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S48x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8x2048x2048 : Shape := ⟨3, ![8, 2048, 2048]⟩
abbrev S2x2048 : Shape := ⟨2, ![2, 2048]⟩
abbrev S1x2048x10304 : Shape := ⟨3, ![1, 2048, 10304]⟩
abbrev S_ : Shape := ⟨0, ![]⟩
abbrev S8x2048 : Shape := ⟨2, ![8, 2048]⟩
abbrev S8x2048x1 : Shape := ⟨3, ![8, 2048, 1]⟩
abbrev S1x2048 : Shape := ⟨2, ![1, 2048]⟩
abbrev S2048 : Shape := ⟨1, ![2048]⟩
abbrev S1x1x2048 : Shape := ⟨3, ![1, 1, 2048]⟩
abbrev S2048x10304 : Shape := ⟨2, ![2048, 10304]⟩
abbrev S8x2048x10304 : Shape := ⟨3, ![8, 2048, 10304]⟩
abbrev S8x2048x4096 : Shape := ⟨3, ![8, 2048, 4096]⟩
abbrev S8x2048x6144 : Shape := ⟨3, ![8, 2048, 6144]⟩
abbrev S8x2048x64 : Shape := ⟨3, ![8, 2048, 64]⟩
abbrev S16384x48x128 : Shape := ⟨3, ![16384, 48, 128]⟩
abbrev S48x16384x128 : Shape := ⟨3, ![48, 16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x10304, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S2048x10304, .f32⟩
  | .hbm, ⟨22, _⟩ => ⟨S8x2048x10304, .f32⟩
  | .hbm, ⟨23, _⟩ => ⟨S8x2048x4096, .f32⟩
  | .hbm, ⟨24, _⟩ => ⟨S8x2048x6144, .f32⟩
  | .hbm, ⟨25, _⟩ => ⟨S8x2048x64, .f32⟩
  | .hbm, ⟨26, _⟩ => ⟨S16384x48x128, .f32⟩
  | .hbm, ⟨27, _⟩ => ⟨S48x16384x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel6.lean ====
abbrev S16384x1024 : Shape := ⟨2, ![16384, 1024]⟩
abbrev S1x2048x2048 : Shape := ⟨3, ![1, 2048, 2048]⟩
abbrev S8x2048x2048 : Shape := ⟨3, ![8, 2048, 2048]⟩
abbrev S2048x2048 : Shape := ⟨2, ![2048, 2048]⟩
abbrev S16384x2048 : Shape := ⟨2, ![16384, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S8x2048x2048, .f32⟩
  | .hbm, ⟨4, _⟩ => ⟨S2048x2048, .f32⟩
  | .hbm, ⟨5, _⟩ => ⟨S2048x2048, .bf16⟩
  | .hbm, ⟨6, _⟩ => ⟨S16384x2048, .f32⟩
  | .hbm, ⟨7, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16384x1024 : Shape := ⟨2, ![16384, 1024]⟩
abbrev S1x2048x2048 : Shape := ⟨3, ![1, 2048, 2048]⟩
abbrev S8x2048x2048 : Shape := ⟨3, ![8, 2048, 2048]⟩
abbrev S16384x2048 : Shape := ⟨2, ![16384, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S8x2048x2048, .f32⟩
  | .hbm, ⟨4, _⟩ => ⟨S16384x2048, .f32⟩
  | .hbm, ⟨5, _⟩ => ⟨S16384x2048, .bf16⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S16384x4096 : Shape := ⟨2, ![16384, 4096]⟩
abbrev S1x4096x2048 : Shape := ⟨3, ![1, 4096, 2048]⟩
abbrev S16384x2048 : Shape := ⟨2, ![16384, 2048]⟩
abbrev S4096x2048 : Shape := ⟨2, ![4096, 2048]⟩
abbrev S512x4096 : Shape := ⟨2, ![512, 4096]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S1x4096x2048, .f32⟩
  | .hbm, ⟨2, _⟩ => ⟨S16384x2048, .f32⟩
  | .hbm, ⟨3, _⟩ => ⟨S4096x2048, .f32⟩
  | .hbm, ⟨4, _⟩ => ⟨S4096x2048, .bf16⟩
  | .hbm, ⟨5, _⟩ => ⟨S16384x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x4096 : Shape := ⟨2, ![16384, 4096]⟩
abbrev S1x4096x2048 : Shape := ⟨3, ![1, 4096, 2048]⟩
abbrev S16384x2048 : Shape := ⟨2, ![16384, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x2048, .f32⟩
  | .hbm, ⟨2, _⟩ => ⟨S16384x2048, .f32⟩
  | .hbm, ⟨3, _⟩ => ⟨S16384x4096, .f32⟩
  | .hbm, ⟨4, _⟩ => ⟨S4096x2048, .f32⟩
  | .hbm, ⟨5, _⟩ => ⟨S16384x2048, .f32⟩
  | .hbm, ⟨6, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S32x1x2048 : Shape := ⟨3, ![32, 1, 2048]⟩
abbrev S2x2048 : Shape := ⟨2, ![2, 2048]⟩
abbrev S1x2048x5120 : Shape := ⟨3, ![1, 2048, 5120]⟩
abbrev S1x128 : Shape := ⟨2, ![1, 128]⟩
abbrev S_ : Shape := ⟨0, ![]⟩
abbrev S32 : Shape := ⟨1, ![32]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S32x96 : Shape := ⟨2, ![32, 96]⟩
abbrev S32x128 : Shape := ⟨2, ![32, 128]⟩
abbrev S32x2048 : Shape := ⟨2, ![32, 2048]⟩
abbrev S1x2048 : Shape := ⟨2, ![1, 2048]⟩
abbrev S2048 : Shape := ⟨1, ![2048]⟩
abbrev S128 : Shape := ⟨1, ![128]⟩
abbrev S32x1024 : Shape := ⟨2, ![32, 1024]⟩
abbrev S1x2048x1024 : Shape := ⟨3, ![1, 2048, 1024]⟩
abbrev S2048x1024 : Shape := ⟨2, ![2048, 1024]⟩

abbrev nBuf : Space → Nat
  | .hbm => 44
  | .vmem => 16
  | .smem => 0
  | _ => 0

abbrev bufTy : (tb : Table) → Fin (tcTables nBuf tb) → BufTy
  | .hbm, ⟨0, _⟩ => ⟨S32x1x2048, .f32⟩
  | .hbm, ⟨1, _⟩ => ⟨S2x2048, .f32⟩
  | .hbm, ⟨2, _⟩ => ⟨S1x2048x5120, .f32⟩
  | .hbm, ⟨3, _⟩ => ⟨S1x128, .f32⟩
  | .hbm, ⟨4, _⟩ => ⟨S1x128, .f32⟩
  | .hbm, ⟨5, _⟩ => ⟨S_, .i32⟩
  | .hbm, ⟨6, _⟩ => ⟨S32, .i32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S32, .f32⟩
  | .hbm, ⟨16, _⟩ => ⟨S32x1, .f32⟩
  | .hbm, ⟨17, _⟩ => ⟨S1x16, .f32⟩
  | .hbm, ⟨18, _⟩ => ⟨S32x16, .f32⟩
  | .hbm, ⟨19, _⟩ => ⟨S32x16, .f32⟩
  | .hbm, ⟨20, _⟩ => ⟨S32x16, .f32⟩
  | .hbm, ⟨21, _⟩ => ⟨S32x16, .f32⟩
  | .hbm, ⟨22, _⟩ => ⟨S32x16, .f32⟩
  | .hbm, ⟨23, _⟩ => ⟨S_, .f32⟩
  | .hbm, ⟨24, _⟩ => ⟨S32x96, .f32⟩
  | .hbm, ⟨25, _⟩ => ⟨S32x128, .f32⟩
  | .hbm, ⟨26, _⟩ => ⟨S32x16, .f32⟩
  | .hbm, ⟨27, _⟩ => ⟨S_, .f32⟩
  | .hbm, ⟨28, _⟩ => ⟨S32x96, .f32⟩
  | .hbm, ⟨29, _⟩ => ⟨S32x128, .f32⟩
  | .hbm, ⟨30, _⟩ => ⟨S32x2048, .f32⟩
  | .hbm, ⟨31, _⟩ => ⟨S1x2048, .f32⟩
  | .hbm, ⟨32, _⟩ => ⟨S2048, .f32⟩
  | .hbm, ⟨33, _⟩ => ⟨S1x2048x5120, .bf16⟩
  | .hbm, ⟨34, _⟩ => ⟨S128, .f32⟩
  | .hbm, ⟨35, _⟩ => ⟨S128, .f32⟩
  | .hbm, ⟨36, _⟩ => ⟨S1x2048, .f32⟩
  | .hbm, ⟨37, _⟩ => ⟨S1x128, .f32⟩
  | .hbm, ⟨38, _⟩ => ⟨S1x128, .f32⟩
  | .hbm, ⟨39, _⟩ => ⟨S32x1024, .f32⟩
  | .hbm, ⟨40, _⟩ => ⟨S32x1024, .f32⟩
  | .hbm, ⟨41, _⟩ => ⟨S32x1024, .f32⟩
  | .hbm, ⟨42, _⟩ => ⟨S32x1024, .f32⟩
  | .hbm, ⟨43, _⟩ => ⟨S32x1024, .f32⟩
  | .local _ .vmem, ⟨0, _⟩ => ⟨S32x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x128, .f32⟩
  | .local _ .vmem, ⟨8, _⟩ => ⟨S1x128, .f32⟩
  | .local _ .vmem, ⟨9, _⟩ => ⟨S32x128, .f32⟩
  | .local _ .vmem, ⟨10, _⟩ => ⟨S32x128, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference8Ideal.lean ====
abbrev S32x1x2048 : Shape := ⟨3, ![32, 1, 2048]⟩
abbrev S2x2048 : Shape := ⟨2, ![2, 2048]⟩
abbrev S1x2048x5120 : Shape := ⟨3, ![1, 2048, 5120]⟩
abbrev S1x128 : Shape := ⟨2, ![1, 128]⟩
abbrev S1x2048 : Shape := ⟨2, ![1, 2048]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x5120 : Shape := ⟨2, ![2048, 5120]⟩
abbrev S32x1x5120 : Shape := ⟨3, ![32, 1, 5120]⟩
abbrev S32x1x1024 : Shape := ⟨3, ![32, 1, 1024]⟩
abbrev S32x1x8x128 : Shape := ⟨4, ![32, 1, 8, 128]⟩
abbrev S128 : Shape := ⟨1, ![128]⟩
abbrev S32x1x8 : Shape := ⟨3, ![32, 1, 8]⟩
abbrev S32x1x8x1 : Shape := ⟨4, ![32, 1, 8, 1]⟩
abbrev S1x1x1x128 : Shape := ⟨4, ![1, 1, 1, 128]⟩
abbrev S16 : Shape := ⟨1, ![16]⟩
abbrev S1 : Shape := ⟨1, ![1]⟩
abbrev S1x1 : Shape := ⟨2, ![1, 1]⟩
abbrev S1x16 : Shape := ⟨2, ![1, 16]⟩
abbrev S1x1x16 : Shape := ⟨3, ![1, 1, 16]⟩
abbrev S32x1x8x16 : Shape := ⟨4, ![32, 1, 8, 16]⟩
abbrev S1x1x1x16 : Shape := ⟨4, ![1, 1, 1, 16]⟩
abbrev S32x1x8x96 : Shape := ⟨4, ![32, 1, 8, 96]⟩
abbrev S32x1024 : Shape := ⟨2, ![32, 1024]⟩

abbrev nBuf : Space → Nat
  | .hbm => 149
  | .vmem => 0
  | .smem => 0
  | _ => 0

abbrev hbmTy0_0 (i : Nat) : BufTy := match i % 128 with
  | 0 => ⟨S32x1x2048, .f32⟩
  | 1 => ⟨S2x2048, .f32⟩
  | 2 => ⟨S1x2048x5120, .f32⟩
  | 3 => ⟨S1x128, .f32⟩
  | 4 => ⟨S1x128, .f32⟩
  | 5 => ⟨S1x2048, .f32⟩
  | 6 => ⟨S2048, .f32⟩
  | 7 => ⟨S32x1x2048, .f32⟩
  | 8 => ⟨S_, .f32⟩
  | 9 => ⟨S32x1, .f32⟩
  | 10 => ⟨S32x1x1, .f32⟩
  | 11 => ⟨S_, .f32⟩
  | 12 => ⟨S32x1x1, .f32⟩
  | 13 => ⟨S32x1x1, .f32⟩
  | 14 => ⟨S_, .f32⟩
  | 15 => ⟨S32x1x1, .f32⟩
  | 16 => ⟨S32x1x1, .f32⟩
  | 17 => ⟨S32x1x1, .f32⟩
  | 18 => ⟨S32x1x2048, .f32⟩
  | 19 => ⟨S32x1x2048, .f32⟩
  | 20 => ⟨S1x1x2048, .f32⟩
  | 21 => ⟨S32x1x2048, .f32⟩
  | 22 => ⟨S32x1x2048, .f32⟩
  | 23 => ⟨S2048x5120, .f32⟩
  | 24 => ⟨S32x1x5120, .f32⟩
  | 25 => ⟨S32x1x1024, .f32⟩
  | 26 => ⟨S32x1x1024, .f32⟩
  | 27 => ⟨S32x1x1024, .f32⟩
  | 28 => ⟨S32x1x1024, .f32⟩
  | 29 => ⟨S32x1x1024, .f32⟩
  | 30 => ⟨S32x1x8x128, .f32⟩
  | 31 => ⟨S128, .f32⟩
  | 32 => ⟨S32x1x8x128, .f32⟩
  | 33 => ⟨S_, .f32⟩
  | 34 => ⟨S32x1x8, .f32⟩
  | 35 => ⟨S32x1x8x1, .f32⟩
  | 36 => ⟨S_, .f32⟩
  | 37 => ⟨S32x1x8x1, .f32⟩
  | 38 => ⟨S32x1x8x1, .f32⟩
  | 39 => ⟨S_, .f32⟩
  | 40 => ⟨S32x1x8x1, .f32⟩
  | 41 => ⟨S32x1x8x1, .f32⟩
  | 42 => ⟨S32x1x8x1, .f32⟩
  | 43 => ⟨S32x1x8x128, .f32⟩
  | 44 => ⟨S32x1x8x128, .f32⟩
  | 45 => ⟨S1x1x1x128, .f32⟩
  | 46 => ⟨S32x1x8x128, .f32⟩
  | 47 => ⟨S32x1x8x128, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S1, .i32⟩
  | 57 => ⟨S_, .i32⟩
  | 58 => ⟨S1, .i32⟩
  | 59 => ⟨S1, .i32⟩
  | 60 => ⟨S1, .f32⟩
  | 61 => ⟨S1x1, .f32⟩
  | 62 => ⟨S1x16, .f32⟩
  | 63 => ⟨S1x16, .f32⟩
  | 64 => ⟨S1x16, .f32⟩
  | 65 => ⟨S1x16, .f32⟩
  | 66 => ⟨S1x1x16, .f32⟩
  | 67 => ⟨S1x16, .f32⟩
  | 68 => ⟨S1x1x16, .f32⟩
  | 69 => ⟨S32x1x8x16, .f32⟩
  | 70 => ⟨S32x1x8x16, .f32⟩
  | 71 => ⟨S1x1x1x16, .f32⟩
  | 72 => ⟨S32x1x8x16, .f32⟩
  | 73 => ⟨S32x1x8x16, .f32⟩
  | 74 => ⟨S1x1x1x16, .f32⟩
  | 75 => ⟨S32x1x8x16, .f32⟩
  | 76 => ⟨S32x1x8x16, .f32⟩
  | 77 => ⟨S32x1x8x16, .f32⟩
  | 78 => ⟨S1x1x1x16, .f32⟩
  | 79 => ⟨S32x1x8x16, .f32⟩
  | 80 => ⟨S32x1x8x16, .f32⟩
  | 81 => ⟨S1x1x1x16, .f32⟩
  | 82 => ⟨S32x1x8x16, .f32⟩
  | 83 => ⟨S32x1x8x16, .f32⟩
  | 84 => ⟨S32x1x8x16, .f32⟩
  | 85 => ⟨S32x1x8x96, .f32⟩
  | 86 => ⟨S32x1x8x128, .f32⟩
  | 87 => ⟨S32x1x8x128, .f32⟩
  | 88 => ⟨S128, .f32⟩
  | 89 => ⟨S32x1x8x128, .f32⟩
  | 90 => ⟨S_, .f32⟩
  | 91 => ⟨S32x1x8, .f32⟩
  | 92 => ⟨S32x1x8x1, .f32⟩
  | 93 => ⟨S_, .f32⟩
  | 94 => ⟨S32x1x8x1, .f32⟩
  | 95 => ⟨S32x1x8x1, .f32⟩
  | 96 => ⟨S_, .f32⟩
  | 97 => ⟨S32x1x8x1, .f32⟩
  | 98 => ⟨S32x1x8x1, .f32⟩
  | 99 => ⟨S32x1x8x1, .f32⟩
  | 100 => ⟨S32x1x8x128, .f32⟩
  | 101 => ⟨S32x1x8x128, .f32⟩
  | 102 => ⟨S1x1x1x128, .f32⟩
  | 103 => ⟨S32x1x8x128, .f32⟩
  | 104 => ⟨S32x1x8x128, .f32⟩
  | 105 => ⟨S16, .f32⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S1, .i32⟩
  | 114 => ⟨S_, .i32⟩
  | 115 => ⟨S1, .i32⟩
  | 116 => ⟨S1, .i32⟩
  | 117 => ⟨S1, .f32⟩
  | 118 => ⟨S1x1, .f32⟩
  | 119 => ⟨S1x16, .f32⟩
  | 120 => ⟨S1x16, .f32⟩
  | 121 => ⟨S1x16, .f32⟩
  | 122 => ⟨S1x16, .f32⟩
  | 123 => ⟨S1x1x16, .f32⟩
  | 124 => ⟨S1x16, .f32⟩
  | 125 => ⟨S1x1x16, .f32⟩
  | 126 => ⟨S32x1x8x16, .f32⟩
  | 127 => ⟨S32x1x8x16, .f32⟩
  | _ => ⟨S32x1x2048, .f32⟩

abbrev hbmTy0_1 (i : Nat) : BufTy := match i % 128 with
  | 0 => ⟨S1x1x1x16, .f32⟩
  | 1 => ⟨S32x1x8x16, .f32⟩
  | 2 => ⟨S32x1x8x16, .f32⟩
  | 3 => ⟨S1x1x1x16, .f32⟩
  | 4 => ⟨S32x1x8x16, .f32⟩
  | 5 => ⟨S32x1x8x16, .f32⟩
  | 6 => ⟨S32x1x8x16, .f32⟩
  | 7 => ⟨S1x1x1x16, .f32⟩
  | 8 => ⟨S32x1x8x16, .f32⟩
  | 9 => ⟨S32x1x8x16, .f32⟩
  | 10 => ⟨S1x1x1x16, .f32⟩
  | 11 => ⟨S32x1x8x16, .f32⟩
  | 12 => ⟨S32x1x8x16, .f32⟩
  | 13 => ⟨S32x1x8x16, .f32⟩
  | 14 => ⟨S32x1x8x96, .f32⟩
  | 15 => ⟨S32x1x8x128, .f32⟩
  | 16 => ⟨S32x1024, .f32⟩
  | 17 => ⟨S32x1024, .f32⟩
  | 18 => ⟨S32x1024, .f32⟩
  | 19 => ⟨S32x1024, .f32⟩
  | 20 => ⟨S32x1024, .f32⟩
  | _ => ⟨S32x1x2048, .f32⟩

abbrev hbmTy (i : Nat) : BufTy := match i / 128 with
  | 0 => hbmTy0_0 i
  | 1 => hbmTy0_1 i
  | _ => ⟨S32x1x2048, .f32⟩

abbrev bufTy : (tb : Table) → Fin (tcTables nBuf tb) → BufTy
  | .hbm, ⟨i, _⟩ => hbmTy i
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_7 : Ref sig .tc := ⟨.hbm, 90, rfl⟩
abbrev main_v76 : Ref sig .tc := ⟨.hbm, 91, rfl⟩
abbrev main_v77 : Ref sig .tc := ⟨.hbm, 92, rfl⟩
abbrev main_cst_8 : Ref sig .tc := ⟨.hbm, 93, rfl⟩
abbrev main_v78 : Ref sig .tc := ⟨.hbm, 94, rfl⟩
abbrev main_v79 : Ref sig .tc := ⟨.hbm, 95, rfl⟩
abbrev main_cst_9 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_10 : Ref sig .tc := ⟨.hbm, 107, rfl⟩
abbrev main_v90 : Ref sig .tc := ⟨.hbm, 108, rfl⟩
abbrev main_v91 : Ref sig .tc := ⟨.hbm, 109, rfl⟩
abbrev main_cst_11 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_c_12 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩

abbrev nD : Nat := 1
abbrev τ : Topo := Topo.v7x

variable {F : FTy → Type} [FloatOps F]
-- ==== Kernel9.lean ====
abbrev S32x1x2048 : Shape := ⟨3, ![32, 1, 2048]⟩
abbrev S2x2048 : Shape := ⟨2, ![2, 2048]⟩
abbrev S1x2048x10304 : Shape := ⟨3, ![1, 2048, 10304]⟩
abbrev S32x2048 : Shape := ⟨2, ![32, 2048]⟩
abbrev S1x2048 : Shape := ⟨2, ![1, 2048]⟩
abbrev S2048 : Shape := ⟨1, ![2048]⟩
abbrev S48x32x128 : Shape := ⟨3, ![48, 32, 128]⟩
abbrev S1x2048x1024 : Shape := ⟨3, ![1, 2048, 1024]⟩
abbrev S32 : Shape := ⟨1, ![32]⟩
abbrev S32x1 : Shape := ⟨2, ![32, 1]⟩
abbrev S2048x1024 : Shape := ⟨2, ![2048, 1024]⟩
abbrev S32x1024 : Shape := ⟨2, ![32, 1024]⟩
abbrev S32x128 : Shape := ⟨2, ![32, 128]⟩
abbrev S1x32x128 : Shape := ⟨3, ![1, 32, 128]⟩

abbrev nBuf : Space → Nat
  | .hbm => 9
  | .vmem => 9
  | .smem => 0
  | _ => 0

abbrev bufTy : (tb : Table) → Fin (tcTables nBuf tb) → BufTy
  | .hbm, ⟨0, _⟩ => ⟨S32x1x2048, .f32⟩
  | .hbm, ⟨1, _⟩ => ⟨S2x2048, .f32⟩
  | .hbm, ⟨2, _⟩ => ⟨S1x2048x10304, .f32⟩
  | .hbm, ⟨3, _⟩ => ⟨S32x2048, .f32⟩
  | .hbm, ⟨4, _⟩ => ⟨S1x2048, .f32⟩
  | .hbm, ⟨5, _⟩ => ⟨S2048, .f32⟩
  | .hbm, ⟨6, _⟩ => ⟨S1x2048x10304, .bf16⟩
  | .hbm, ⟨7, _⟩ => ⟨S1x2048, .f32⟩
  | .hbm, ⟨8, _⟩ => ⟨S48x32x128, .f32⟩
  | .local _ .vmem, ⟨0, _⟩ => ⟨S32x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S48x32x128, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c7_i32 : BitVec 32 := 7#32
  let c0_i32_1 : BitVec 32 := 0#32
  ![c0_i32.toNat, c0_i32_0.toNat, c7_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c8_i32 : BitVec 32 := 8#32
  let c0_i32_1 : BitVec 32 := 0#32
  ![c0_i32.toNat, c0_i32_0.toNat, c8_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c9_i32 : BitVec 32 := 9#32
  let c0_i32_1 : BitVec 32 := 0#32
  ![c0_i32.toNat, c0_i32_0.toNat, c9_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference9Ideal.lean ====
abbrev S32x1x2048 : Shape := ⟨3, ![32, 1, 2048]⟩
abbrev S2x2048 : Shape := ⟨2, ![2, 2048]⟩
abbrev S1x2048x10304 : Shape := ⟨3, ![1, 2048, 10304]⟩
abbrev S_ : Shape := ⟨0, ![]⟩
abbrev S32x1 : Shape := ⟨2, ![32, 1]⟩
abbrev S32x1x1 : Shape := ⟨3, ![32, 1, 1]⟩
abbrev S1x2048 : Shape := ⟨2, ![1, 2048]⟩
abbrev S2048 : Shape := ⟨1, ![2048]⟩
abbrev S1x1x2048 : Shape := ⟨3, ![1, 1, 2048]⟩
abbrev S2048x10304 : Shape := ⟨2, ![2048, 10304]⟩
abbrev S32x1x10304 : Shape := ⟨3, ![32, 1, 10304]⟩
abbrev S32x1x4096 : Shape := ⟨3, ![32, 1, 4096]⟩
abbrev S32x1x6144 : Shape := ⟨3, ![32, 1, 6144]⟩
abbrev S32x1x64 : Shape := ⟨3, ![32, 1, 64]⟩
abbrev S32x48x128 : Shape := ⟨3, ![32, 48, 128]⟩
abbrev S48x32x128 : Shape := ⟨3, ![48, 32, 128]⟩

abbrev nBuf : Space → Nat
  | .hbm => 28
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2x2048, .f32⟩
  | .hbm, ⟨2, _⟩ => ⟨S1x2048x10304, .f32⟩
  | .hbm, ⟨3, _⟩ => ⟨S32x1x2048, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x2048, .f32⟩
  | .hbm, ⟨15, _⟩ => ⟨S32x1x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S32x1x2048, .f32⟩
  | .hbm, ⟨20, _⟩ => ⟨S32x1x2048, .f32⟩
  | .hbm, ⟨21, _⟩ => ⟨S2048x10304, .f32⟩
  | .hbm, ⟨22, _⟩ => ⟨S32x1x10304, .f32⟩
  | .hbm, ⟨23, _⟩ => ⟨S32x1x4096, .f32⟩
  | .hbm, ⟨24, _⟩ => ⟨S32x1x6144, .f32⟩
  | .hbm, ⟨25, _⟩ => ⟨S32x1x64, .f32⟩
  | .hbm, ⟨26, _⟩ => ⟨S32x48x128, .f32⟩
  | .hbm, ⟨27, _⟩ => ⟨S48x32x128, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel10.lean ====
abbrev S32x1x2048 : Shape := ⟨3, ![32, 1, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S32x2048 : Shape := ⟨2, ![32, 2048]⟩
abbrev S1x2048 : Shape := ⟨2, ![1, 2048]⟩
abbrev S2048 : Shape := ⟨1, ![2048]⟩
abbrev S1x2048x1024 : Shape := ⟨3, ![1, 2048, 1024]⟩
abbrev S1x1024x2048 : Shape := ⟨3, ![1, 1024, 2048]⟩
abbrev S32 : Shape := ⟨1, ![32]⟩
abbrev S32x1 : Shape := ⟨2, ![32, 1]⟩
abbrev S2048x1024 : Shape := ⟨2, ![2048, 1024]⟩
abbrev S32x1024 : Shape := ⟨2, ![32, 1024]⟩
abbrev S1024x2048 : Shape := ⟨2, ![1024, 2048]⟩

abbrev nBuf : Space → Nat
  | .hbm => 11
  | .vmem => 8
  | .smem => 0
  | _ => 0

abbrev bufTy : (tb : Table) → Fin (tcTables nBuf tb) → BufTy
  | .hbm, ⟨0, _⟩ => ⟨S32x1x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S32x2048, .f32⟩
  | .hbm, ⟨5, _⟩ => ⟨S1x2048, .f32⟩
  | .hbm, ⟨6, _⟩ => ⟨S2048, .f32⟩
  | .hbm, ⟨7, _⟩ => ⟨S2x2048x8192, .bf16⟩
  | .hbm, ⟨8, _⟩ => ⟨S2x8192x2048, .bf16⟩
  | .hbm, ⟨9, _⟩ => ⟨S1x2048, .f32⟩
  | .hbm, ⟨10, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S32x2048, .f32⟩
  | .local _ .vmem, ⟨7, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference10Ideal.lean ====
abbrev S32x1x2048 : Shape := ⟨3, ![32, 1, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S_ : Shape := ⟨0, ![]⟩
abbrev S32x1 : Shape := ⟨2, ![32, 1]⟩
abbrev S32x1x1 : Shape := ⟨3, ![32, 1, 1]⟩
abbrev S1x2048 : Shape := ⟨2, ![1, 2048]⟩
abbrev S2048 : Shape := ⟨1, ![2048]⟩
abbrev S1x1x2048 : Shape := ⟨3, ![1, 1, 2048]⟩
abbrev S1x2048x8192 : Shape := ⟨3, ![1, 2048, 8192]⟩
abbrev S2048x8192 : Shape := ⟨2, ![2048, 8192]⟩
abbrev S32x1x8192 : Shape := ⟨3, ![32, 1, 8192]⟩
abbrev S1x8192x2048 : Shape := ⟨3, ![1, 8192, 2048]⟩
abbrev S8192x2048 : Shape := ⟨2, ![8192, 2048]⟩
abbrev S32x2048 : Shape := ⟨2, ![32, 2048]⟩

abbrev nBuf : Space → Nat
  | .hbm => 34
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S32x1x2048, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x2048, .f32⟩
  | .hbm, ⟨16, _⟩ => ⟨S32x1x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S32x1x2048, .f32⟩
  | .hbm, ⟨21, _⟩ => ⟨S32x1x2048, .f32⟩
  | .hbm, ⟨22, _⟩ => ⟨S1x2048x8192, .f32⟩
  | .hbm, ⟨23, _⟩ => ⟨S2048x8192, .f32⟩
  | .hbm, ⟨24, _⟩ => ⟨S32x1x8192, .f32⟩
  | .hbm, ⟨25, _⟩ => ⟨S_, .f32⟩
  | .hbm, ⟨26, _⟩ => ⟨S32x1x8192, .f32⟩
  | .hbm, ⟨27, _⟩ => ⟨S32x1x8192, .f32⟩
  | .hbm, ⟨28, _⟩ => ⟨S32x1x8192, .f32⟩
  | .hbm, ⟨29, _⟩ => ⟨S1x8192x2048, .f32⟩
  | .hbm, ⟨30, _⟩ => ⟨S8192x2048, .f32⟩
  | .hbm, ⟨31, _⟩ => ⟨S32x1x2048, .f32⟩
  | .hbm, ⟨32, _⟩ => ⟨S32x1x2048, .f32⟩
  | .hbm, ⟨33, _⟩ => ⟨S32x2048, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel11.lean ====
abbrev S32x1024 : Shape := ⟨2, ![32, 1024]⟩
abbrev S1x32x3x1024 : Shape := ⟨4, ![1, 32, 3, 1024]⟩
abbrev S1x32x1024 : Shape := ⟨3, ![1, 32, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S32x3x1024 : Shape := ⟨3, ![32, 3, 1024]⟩
abbrev S3x32x1024 : Shape := ⟨3, ![3, 32, 1024]⟩
abbrev S4x1024 : Shape := ⟨2, ![4, 1024]⟩
abbrev S1024 : Shape := ⟨1, ![1024]⟩
abbrev S8x128x128 : Shape := ⟨3, ![8, 128, 128]⟩
abbrev S32x128 : Shape := ⟨2, ![32, 128]⟩
abbrev S1x128x128 : Shape := ⟨3, ![1, 128, 128]⟩
abbrev S128x128 : Shape := ⟨2, ![128, 128]⟩

abbrev nBuf : Space → Nat
  | .hbm => 29
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S1x32x3x1024, .f32⟩
  | .hbm, ⟨3, _⟩ => ⟨S1x32x1024, .f32⟩
  | .hbm, ⟨4, _⟩ => ⟨S1x4x1024, .f32⟩
  | .hbm, ⟨5, _⟩ => ⟨S1x1024, .f32⟩
  | .hbm, ⟨6, _⟩ => ⟨S1x8x128x128, .f32⟩
  | .hbm, ⟨7, _⟩ => ⟨S1x1024, .f32⟩
  | .hbm, ⟨8, _⟩ => ⟨S1x8x128x128, .f32⟩
  | .hbm, ⟨9, _⟩ => ⟨S1x1024, .f32⟩
  | .hbm, ⟨10, _⟩ => ⟨S1x1024, .f32⟩
  | .hbm, ⟨11, _⟩ => ⟨S32x3x1024, .f32⟩
  | .hbm, ⟨12, _⟩ => ⟨S3x32x1024, .f32⟩
  | .hbm, ⟨13, _⟩ => ⟨S32x1024, .f32⟩
  | .hbm, ⟨14, _⟩ => ⟨S4x1024, .f32⟩
  | .hbm, ⟨15, _⟩ => ⟨S1024, .f32⟩
  | .hbm, ⟨16, _⟩ => ⟨S8x128x128, .f32⟩
  | .hbm, ⟨17, _⟩ => ⟨S1024, .f32⟩
  | .hbm, ⟨18, _⟩ => ⟨S8x128x128, .f32⟩
  | .hbm, ⟨19, _⟩ => ⟨S1024, .f32⟩
  | .hbm, ⟨20, _⟩ => ⟨S1024, .f32⟩
  | .hbm, ⟨21, _⟩ => ⟨S1x1024, .f32⟩
  | .hbm, ⟨22, _⟩ => ⟨S8x128x128, .bf16⟩
  | .hbm, ⟨23, _⟩ => ⟨S1x1024, .f32⟩
  | .hbm, ⟨24, _⟩ => ⟨S8x128x128, .bf16⟩
  | .hbm, ⟨25, _⟩ => ⟨S1x1024, .f32⟩
  | .hbm, ⟨26, _⟩ => ⟨S1x1024, .f32⟩
  | .hbm, ⟨27, _⟩ => ⟨S32x1024, .bf16⟩
  | .hbm, ⟨28, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S3x32x1024, .f32⟩
  | .local _ .vmem, ⟨3, _⟩ => ⟨S32x1024, .f32⟩
  | .local _ .vmem, ⟨4, _⟩ => ⟨S4x1024, .f32⟩
  | .local _ .vmem, ⟨5, _⟩ => ⟨S1x1024, .f32⟩
  | .local _ .vmem, ⟨6, _⟩ => ⟨S8x128x128, .bf16⟩
  | .local _ .vmem, ⟨7, _⟩ => ⟨S1x1024, .f32⟩
  | .local _ .vmem, ⟨8, _⟩ => ⟨S8x128x128, .bf16⟩
  | .local _ .vmem, ⟨9, _⟩ => ⟨S1x1024, .f32⟩
  | .local _ .vmem, ⟨10, _⟩ => ⟨S1x1024, .f32⟩
  | .local _ .vmem, ⟨11, _⟩ => ⟨S32x1024, .bf16⟩
  | .local _ .vmem, ⟨12, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Reference11Ideal.lean ====
abbrev S32x1024 : Shape := ⟨2, ![32, 1024]⟩
abbrev S1x32x3x1024 : Shape := ⟨4, ![1, 32, 3, 1024]⟩
abbrev S1x32x1024 : Shape := ⟨3, ![1, 32, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S32x3x1024 : Shape := ⟨3, ![32, 3, 1024]⟩
abbrev S32x1x1024 : Shape := ⟨3, ![32, 1, 1024]⟩
abbrev S32x4x1024 : Shape := ⟨3, ![32, 4, 1024]⟩
abbrev S1024 : Shape := ⟨1, ![1024]⟩
abbrev S4x1024 : Shape := ⟨2, ![4, 1024]⟩
abbrev S1x1x1024 : Shape := ⟨3, ![1, 1, 1024]⟩
abbrev S32x1x8x128 : Shape := ⟨4, ![32, 1, 8, 128]⟩
abbrev S8x128x128 : Shape := ⟨3, ![8, 128, 128]⟩
abbrev S8x128x32x1 : Shape := ⟨4, ![8, 128, 32, 1]⟩
abbrev S_ : Shape := ⟨0, ![]⟩

abbrev nBuf : Space → Nat
  | .hbm => 137
  | .vmem => 0
  | .smem => 0
  | _ => 0

abbrev hbmTy0_0 (i : Nat) : BufTy := match i % 128 with
  | 0 => ⟨S32x1024, .f32⟩
  | 1 => ⟨S32x1024, .f32⟩
  | 2 => ⟨S1x32x3x1024, .f32⟩
  | 3 => ⟨S1x32x1024, .f32⟩
  | 4 => ⟨S1x4x1024, .f32⟩
  | 5 => ⟨S1x1024, .f32⟩
  | 6 => ⟨S1x8x128x128, .f32⟩
  | 7 => ⟨S1x1024, .f32⟩
  | 8 => ⟨S1x8x128x128, .f32⟩
  | 9 => ⟨S1x1024, .f32⟩
  | 10 => ⟨S1x1024, .f32⟩
  | 11 => ⟨S32x3x1024, .f32⟩
  | 12 => ⟨S32x1x1024, .f32⟩
  | 13 => ⟨S32x4x1024, .f32⟩
  | 14 => ⟨S1024, .f32⟩
  | 15 => ⟨S32x1x1024, .f32⟩
  | 16 => ⟨S4x1024, .f32⟩
  | 17 => ⟨S1x1024, .f32⟩
  | 18 => ⟨S1024, .f32⟩
  | 19 => ⟨S1x1x1024, .f32⟩
  | 20 => ⟨S32x1x1024, .f32⟩
  | 21 => ⟨S32x1x1024, .f32⟩
  | 22 => ⟨S1x1x1024, .f32⟩
  | 23 => ⟨S32x1x1024, .f32⟩
  | 24 => ⟨S32x1x1024, .f32⟩
  | 25 => ⟨S32x1x1024, .f32⟩
  | 26 => ⟨S4x1024, .f32⟩
  | 27 => ⟨S1x1024, .f32⟩
  | 28 => ⟨S1024, .f32⟩
  | 29 => ⟨S1x1x1024, .f32⟩
  | 30 => ⟨S32x1x1024, .f32⟩
  | 31 => ⟨S32x1x1024, .f32⟩
  | 32 => ⟨S32x1x1024, .f32⟩
  | 33 => ⟨S32x1x1024, .f32⟩
  | 34 => ⟨S4x1024, .f32⟩
  | 35 => ⟨S1x1024, .f32⟩
  | 36 => ⟨S1024, .f32⟩
  | 37 => ⟨S1x1x1024, .f32⟩
  | 38 => ⟨S32x1x1024, .f32⟩
  | 39 => ⟨S32x1x1024, .f32⟩
  | 40 => ⟨S32x1x1024, .f32⟩
  | 41 => ⟨S32x1x1024, .f32⟩
  | 42 => ⟨S4x1024, .f32⟩
  | 43 => ⟨S1x1024, .f32⟩
  | 44 => ⟨S1024, .f32⟩
  | 45 => ⟨S1x1x1024, .f32⟩
  | 46 => ⟨S32x1x1024, .f32⟩
  | 47 => ⟨S32x1x1024, .f32⟩
  | 48 => ⟨S32x1x1024, .f32⟩
  | 49 => ⟨S32x1x8x128, .f32⟩
  | 50 => ⟨S8x128x128, .f32⟩
  | 51 => ⟨S8x128x32x1, .f32⟩
  | 52 => ⟨S32x1x8x128, .f32⟩
  | 53 => ⟨S32x1x1024, .f32⟩
  | 54 => ⟨S1024, .f32⟩
  | 55 => ⟨S1x1x1024, .f32⟩
  | 56 => ⟨S32x1x1024, .f32⟩
  | 57 => ⟨S32x1x1024, .f32⟩
  | 58 => ⟨S32x1x1024, .f32⟩
  | 59 => ⟨S32x1x1024, .f32⟩
  | 60 => ⟨S_, .f32⟩
  | 61 => ⟨S32x1x1024, .f32⟩
  | 62 => ⟨S32x1x1024, .f32⟩
  | 63 => ⟨S_, .f32⟩
  | 64 => ⟨S32x1x1024, .f32⟩
  | 65 => ⟨S32x1x1024, .f32⟩
  | 66 => ⟨S8x128x128, .f32⟩
  | 67 => ⟨S8x128x32x1, .f32⟩
  | 68 => ⟨S32x1x8x128, .f32⟩
  | 69 => ⟨S32x1x1024, .f32⟩
  | 70 => ⟨S1024, .f32⟩
  | 71 => ⟨S1x1x1024, .f32⟩
  | 72 => ⟨S32x1x1024, .f32⟩
  | 73 => ⟨S32x1x1024, .f32⟩
  | 74 => ⟨S32x1x1024, .f32⟩
  | 75 => ⟨S32x1x1024, .f32⟩
  | 76 => ⟨S_, .f32⟩
  | 77 => ⟨S32x1x1024, .f32⟩
  | 78 => ⟨S32x1x1024, .f32⟩
  | 79 => ⟨S_, .f32⟩
  | 80 => ⟨S32x1x1024, .f32⟩
  | 81 => ⟨S32x1x1024, .f32⟩
  | 82 => ⟨S_, .f32⟩
  | 83 => ⟨S32x1x1024, .f32⟩
  | 84 => ⟨S32x1x1024, .f32⟩
  | 85 => ⟨S1024, .f32⟩
  | 86 => ⟨S1024, .f32⟩
  | 87 => ⟨S_, .f32⟩
  | 88 => ⟨S1024, .f32⟩
  | 89 => ⟨S1024, .f32⟩
  | 90 => ⟨S1024, .f32⟩
  | 91 => ⟨S1024, .f32⟩
  | 92 => ⟨S1024, .i1⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1x1x1024, .f32⟩
  | 102 => ⟨S32x1x1024, .f32⟩
  | 103 => ⟨S32x1x1024, .f32⟩
  | 104 => ⟨S32x1x1024, .f32⟩
  | 105 => ⟨S_, .f32⟩
  | 106 => ⟨S32x1x1024, .f32⟩
  | 107 => ⟨S32x1x1024, .f32⟩
  | 108 => ⟨S32x1x1024, .f32⟩
  | 109 => ⟨S32x1x1024, .f32⟩
  | 110 => ⟨S32x1x1024, .f32⟩
  | 111 => ⟨S32x1x1024, .f32⟩
  | 112 => ⟨S32x1x1024, .f32⟩
  | 113 => ⟨S32x1024, .f32⟩
  | 114 => ⟨S32x1024, .f32⟩
  | 115 => ⟨S32x1024, .f32⟩
  | 116 => ⟨S32x1024, .f32⟩
  | 117 => ⟨S32x1024, .f32⟩
  | 118 => ⟨S32x1024, .f32⟩
  | 119 => ⟨S32x1024, .f32⟩
  | 120 => ⟨S_, .f32⟩
  | 121 => ⟨S32x1024, .f32⟩
  | 122 => ⟨S32x1024, .f32⟩
  | 123 => ⟨S32x1024, .f32⟩
  | 124 => ⟨S_, .f32⟩
  | 125 => ⟨S32x1024, .f32⟩
  | 126 => ⟨S32x1024, .f32⟩
  | 127 => ⟨S32x1024, .f32⟩
  | _ => ⟨S32x1024, .f32⟩

abbrev hbmTy0_1 (i : Nat) : BufTy := match i % 128 with
  | 0 => ⟨S_, .f32⟩
  | 1 => ⟨S32x1024, .f32⟩
  | 2 => ⟨S32x1024, .f32⟩
  | 3 => ⟨S_, .f32⟩
  | 4 => ⟨S32x1024, .f32⟩
  | 5 => ⟨S32x1024, .f32⟩
  | 6 => ⟨S32x1024, .f32⟩
  | 7 => ⟨S32x1024, .f32⟩
  | 8 => ⟨S32x1024, .bf16⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst : Ref sig .tc := ⟨.hbm, 60, rfl⟩
abbrev main_v49 : Ref sig .tc := ⟨.hbm, 61, rfl⟩
abbrev main_v50 : Ref sig .tc := ⟨.hbm, 62, rfl⟩
abbrev main_cst_0 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_1 : Ref sig .tc := ⟨.hbm, 76, rfl⟩
abbrev main_v63 : Ref sig .tc := ⟨.hbm, 77, rfl⟩
abbrev main_v64 : Ref sig .tc := ⟨.hbm, 78, rfl⟩
abbrev main_cst_2 : Ref sig .tc := ⟨.hbm, 79, rfl⟩
abbrev main_v65 : Ref sig .tc := ⟨.hbm, 80, rfl⟩
abbrev main_v66 : Ref sig .tc := ⟨.hbm, 81, rfl⟩
abbrev main_cst_3 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_4 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_5 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_6 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_7 : Ref sig .tc := ⟨.hbm, 128, rfl⟩
abbrev main_v96 : Ref sig .tc := ⟨.hbm, 129, rfl⟩
abbrev main_v97 : Ref sig .tc := ⟨.hbm, 130, rfl⟩
abbrev main_cst_8 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]
-- ==== Proof.MobaMath.lean ====
module

public import Idealize.ShloMosaic.Lib.Pointwise
public import Idealize.ShloMosaic.Lib.SortPrefix
public import Mathlib.Analysis.SpecialFunctions.Pow.Real

@[expose] public section

noncomputable section

namespace Cert.MobaMath

open Idealize.ShloMosaic

/-- The softmax average of `V` over the positions `A` with the scores `a`. -/
def can {ι : Type} (A : Finset ι) (a : ι → ℝ) (V : ι → EReal) : EReal :=
  ∑ i ∈ A, ((Real.exp (a i) / ∑ j ∈ A, Real.exp (a j) : ℝ) : EReal) * V i

/-- A sum times a nonnegative real is the sum of the products. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert i s hi ih =>
    rw [Finset.sum_insert hi, Finset.sum_insert hi, EReal.right_distrib_of_nonneg_of_ne_top (EReal.coe_nonneg.mpr hr) (EReal.coe_ne_top r), ih]

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum of terms that are zero off `A`. -/
theorem sum_ite {ι : Type} [Fintype ι] [DecidableEq ι] (A : Finset ι) (f : ι → EReal) : (∑ i, if i ∈ A then f i else 0) = ∑ i ∈ A, f i := by
  rw [← Finset.sum_filter]
  congr 1
  ext i
  simp

/-- Two raised to a scaled score less the maximum. -/
theorem exp2_sub (a μ : ℝ) : Ideal.exp2 (((a * (Real.log 2)⁻¹ : ℝ) : EReal) - (μ : EReal)) = ((Real.exp a * Real.exp (-(μ * Real.log 2)) : ℝ) : EReal) := by
  have h2 : Real.log 2 ≠ 0 := (Real.log_pos (by norm_num)).ne'
  rw [← EReal.coe_sub, Ideal.exp2_coe]
  congr 1
  show (2 : ℝ) ^ (a * (Real.log 2)⁻¹ - μ) = _
  rw [Real.rpow_def_of_pos (by norm_num), ← Real.exp_add]
  congr 1
  field_simp
  ring

/-- The exponential of a score less the maximum. -/
theorem exp_sub (a μ : ℝ) : Ideal.exp ((a : EReal) - (μ : EReal)) = ((Real.exp a * Real.exp (-μ) : ℝ) : EReal) := by
  rw [← EReal.coe_sub, Ideal.exp_coe, ← Real.exp_add, sub_eq_add_neg]

/-- The average of weights proportional to the exponentials, divided at the end. -/
theorem div_end {ι : Type} [Fintype ι] [DecidableEq ι] (A : Finset ι) (hA : A.Nonempty) (a : ι → ℝ) (w : ι → EReal) (k : ℝ) (hk : 0 < k)
    (hw : ∀ i, w i = if i ∈ A then ((Real.exp (a i) * k : ℝ) : EReal) else 0) (V : ι → EReal) :
    Ideal.div (∑ i, w i * V i) (∑ i, w i) = can A a V := by
  have hZ : 0 < ∑ i ∈ A, Real.exp (a i) := Finset.sum_pos (fun i _ => Real.exp_pos _) hA
  have e1 : ∑ i, w i * V i = ∑ i ∈ A, ((Real.exp (a i) * k : ℝ) : EReal) * V i := by
    rw [← sum_ite A]
    refine Finset.sum_congr rfl fun i _ => ?_
    rw [hw i]
    split
    · rfl
    · exact zero_mul _
  have e2 : ∑ i, w i = (((∑ i ∈ A, Real.exp (a i)) * k : ℝ) : EReal) := by
    rw [Finset.sum_mul, coe_sum, ← sum_ite A]
    exact Finset.sum_congr rfl fun i _ => hw i
  rw [e1, e2, Ideal.div_coe (mul_pos hZ hk).ne', sum_mul_coe _ _ _ (by positivity)]
  refine Finset.sum_congr rfl fun i _ => ?_
  rw [mul_right_comm, ← EReal.coe_mul]
  congr 2
  field_simp

/-- The average of weights proportional to the exponentials, each divided by their sum. -/
theorem div_each {ι : Type} [Fintype ι] [DecidableEq ι] (A : Finset ι) (hA : A.Nonempty) (a : ι → ℝ) (w : ι → EReal) (k : ℝ) (hk : 0 < k)
    (hw : ∀ i, w i = if i ∈ A then ((Real.exp (a i) * k : ℝ) : EReal) else 0) (V : ι → EReal) :
    ∑ i, Ideal.div (w i) (∑ j, w j) * V i = can A a V := by
  have hZ : 0 < ∑ i ∈ A, Real.exp (a i) := Finset.sum_pos (fun i _ => Real.exp_pos _) hA
  have e2 : ∑ i, w i = (((∑ i ∈ A, Real.exp (a i)) * k : ℝ) : EReal) := by
    rw [Finset.sum_mul, coe_sum, ← sum_ite A]
    exact Finset.sum_congr rfl fun i _ => hw i
  rw [e2, can, ← sum_ite A]
  refine Finset.sum_congr rfl fun i _ => ?_
  rw [Ideal.div_coe (mul_pos hZ hk).ne', hw i]
  split
  · rw [← EReal.coe_mul]
    congr 2
    field_simp
  · rw [zero_mul, zero_mul]

/-- The average read through a renaming of the positions. -/
theorem can_map {ι κ : Type} [DecidableEq κ] (A : Finset ι) (g : ι → κ) (hg : Set.InjOn g A) (B : Finset κ) (hB : A.image g = B) (a : κ → ℝ) (V : κ → EReal)
    (a' : ι → ℝ) (ha : ∀ i ∈ A, a' i = a (g i)) (V' : ι → EReal) (hV : ∀ i ∈ A, V' i = V (g i)) : can A a' V' = can B a V := by
  subst hB
  unfold can
  rw [Finset.sum_image hg, Finset.sum_image hg]
  have e : ∑ j ∈ A, Real.exp (a' j) = ∑ j ∈ A, Real.exp (a (g j)) := Finset.sum_congr rfl fun j hj => by rw [ha j hj]
  rw [e]
  exact Finset.sum_congr rfl fun i hi => by rw [ha i hi, hV i hi]

/-- A maximum of entries below infinity, one of them real, is real. -/
theorem max_real {ι : Type} [Fintype ι] (x : ι → EReal) (ht : ∀ i, x i ≠ ⊤) (i0 : ι) (hi : x i0 ≠ ⊥) : ∃ μ : ℝ, Finset.fold max ⊥ x Finset.univ = (μ : EReal) := by
  have h1 : Finset.fold max ⊥ x Finset.univ ≠ ⊤ := by
    refine ne_of_lt ((Finset.fold_max_lt _).mpr ⟨bot_lt_top, fun i _ => lt_top_iff_ne_top.mpr (ht i)⟩)
  have h2 : Finset.fold max ⊥ x Finset.univ ≠ ⊥ := by
    refine ne_of_gt ((Finset.lt_fold_max _).mpr (Or.inr ⟨i0, Finset.mem_univ _, bot_lt_iff_ne_bot.mpr hi⟩))
  exact ⟨_, (EReal.coe_toReal h1 h2).symm⟩

/-- A maximum of entries below infinity is below infinity. -/
theorem max_ne_top {ι : Type} [Fintype ι] (x : ι → EReal) (ht : ∀ i, x i ≠ ⊤) : Finset.fold max ⊥ x Finset.univ ≠ ⊤ :=
  ne_of_lt ((Finset.fold_max_lt _).mpr ⟨bot_lt_top, fun i _ => lt_top_iff_ne_top.mpr (ht i)⟩)

/-- The word of minus infinity. -/
theorem word_bot : Ideal.ofBits .f32 0xFF800000#32 = ⊥ := by
  unfold Ideal.ofBits Ideal.ieee
  simp

/-- The positions a query at `t` sees: none later than its own, in its own block of 256 or in a block picked. -/
def Vis (o : ℕ → Prop) [DecidablePred o] (t : ℕ) : Finset ℕ := (Finset.range (t + 1)).filter fun j => j / 256 = t / 256 ∨ o (j / 256)

/-- A query's average over its own block and the blocks before it. -/
theorem tile {N : ℕ} (n r : ℕ) (hr : r < 256) (hN : N = 256 * n) (o : ℕ → Prop) [DecidablePred o] (so : Fin 256 → EReal) (sp : Fin N → EReal)
    (vo : Fin 256 → EReal) (vp : Fin N → EReal) (s : ℕ → ℝ) (V : ℕ → EReal)
    (hso : ∀ j : Fin 256, so j = if j.val ≤ r then ((s (256 * n + j.val) * (Real.log 2)⁻¹ : ℝ) : EReal) else ⊥)
    (hsp : ∀ j : Fin N, sp j = if o (j.val / 256) then ((s j.val * (Real.log 2)⁻¹ : ℝ) : EReal) else ⊥)
    (hvo : ∀ j : Fin 256, vo j = V (256 * n + j.val)) (hvp : ∀ j : Fin N, vp j = V j.val) :
    Ideal.div
      (∑ j, Ideal.exp2 (so j - max (Finset.fold max ⊥ so Finset.univ) (Finset.fold max ⊥ sp Finset.univ)) * vo j +
        ∑ j, Ideal.exp2 (sp j - max (Finset.fold max ⊥ so Finset.univ) (Finset.fold max ⊥ sp Finset.univ)) * vp j)
      (∑ j, Ideal.exp2 (so j - max (Finset.fold max ⊥ so Finset.univ) (Finset.fold max ⊥ sp Finset.univ)) +
        ∑ j, Ideal.exp2 (sp j - max (Finset.fold max ⊥ so Finset.univ) (Finset.fold max ⊥ sp Finset.univ)))
      = can (Vis o (256 * n + r)) s V := by
  have hsot : ∀ j, so j ≠ ⊤ := fun j => by rw [hso]; split; exacts [EReal.coe_ne_top _, bot_ne_top]
  have hspt : ∀ j, sp j ≠ ⊤ := fun j => by rw [hsp]; split; exacts [EReal.coe_ne_top _, bot_ne_top]
  obtain ⟨μ, hμ⟩ := max_real so hsot ⟨0, by norm_num⟩ (by rw [hso, if_pos (Nat.zero_le _)]; exact EReal.coe_ne_bot _)
  have hM : ∃ ν : ℝ, max (Finset.fold max ⊥ so Finset.univ) (Finset.fold max ⊥ sp Finset.univ) = (ν : EReal) := by
    rw [hμ]
    rcases le_total (μ : EReal) (Finset.fold max ⊥ sp Finset.univ) with h | h
    · rw [max_eq_right h]
      exact ⟨_, (EReal.coe_toReal (max_ne_top sp hspt) (ne_of_gt (lt_of_lt_of_le (EReal.bot_lt_coe μ) h))).symm⟩
    · exact ⟨μ, max_eq_left h⟩
  obtain ⟨ν, hν⟩ := hM
  rw [hν]
  let A : Finset (Fin 256 ⊕ Fin N) := (Finset.univ.filter fun j : Fin 256 => j.val ≤ r).disjSum (Finset.univ.filter fun j : Fin N => o (j.val / 256))
  let g : Fin 256 ⊕ Fin N → ℕ := Sum.elim (fun j => 256 * n + j.val) (fun j => j.val)
  let w : Fin 256 ⊕ Fin N → EReal := fun i => Ideal.exp2 (Sum.elim so sp i - (ν : EReal))
  have hA : A.Nonempty := ⟨Sum.inl ⟨0, by norm_num⟩, by simp [A]⟩
  have hw : ∀ i, w i = if i ∈ A then ((Real.exp (s (g i)) * Real.exp (-(ν * Real.log 2)) : ℝ) : EReal) else 0 := by
    rintro (j | j)
    · simp only [w, A, g, Sum.elim_inl, Finset.inl_mem_disjSum, Finset.mem_filter, Finset.mem_univ, true_and]
      rw [hso]
      split
      · exact exp2_sub _ _
      · simp
    · simp only [w, A, g, Sum.elim_inr, Finset.inr_mem_disjSum, Finset.mem_filter, Finset.mem_univ, true_and]
      rw [hsp]
      split
      · exact exp2_sub _ _
      · simp
  have h := div_end A hA (fun i => s (g i)) w _ (Real.exp_pos _) hw (Sum.elim vo vp)
  rw [Fintype.sum_sum_type, Fintype.sum_sum_type] at h
  refine h.trans ?_
  refine can_map A g ?_ _ ?_ s V _ (fun _ _ => rfl) _ ?_
  · rintro (a | a) ha (b | b) hb hab
    · simp only [g, Sum.elim_inl] at hab
      congr 1
      ext
      omega
    · have := b.isLt
      simp only [g, Sum.elim_inl, Sum.elim_inr] at hab
      omega
    · have := a.isLt
      simp only [g, Sum.elim_inl, Sum.elim_inr] at hab
      omega
    · simp only [g, Sum.elim_inr] at hab
      congr 1
      ext
      exact hab
  · ext j
    simp only [Vis, A, g, Finset.mem_image, Finset.inl_mem_disjSum, Finset.inr_mem_disjSum, Finset.mem_filter, Finset.mem_univ, true_and, Finset.mem_range, Sum.exists, Sum.elim_inl, Sum.elim_inr]
    constructor
    · rintro (⟨a, ha, rfl⟩ | ⟨a, ha, rfl⟩)
      · exact ⟨by omega, Or.inl (by omega)⟩
      · exact ⟨by omega, Or.inr ha⟩
    · rintro ⟨hj, h⟩
      by_cases hb : j / 256 = n
      · exact Or.inl ⟨⟨j - 256 * n, by omega⟩, by simp only; omega, by simp only; omega⟩
      · have h' : o (j / 256) := h.resolve_left (by omega)
        exact Or.inr ⟨⟨j, by omega⟩, h', rfl⟩
  · rintro (j | j) _
    · exact hvo j
    · exact hvp j

/-- A query's average over the first block. -/
theorem tile0 (r : ℕ) (hr : r < 256) (o : ℕ → Prop) [DecidablePred o] (so vo : Fin 256 → EReal) (s : ℕ → ℝ) (V : ℕ → EReal)
    (hso : ∀ j : Fin 256, so j = if j.val ≤ r then ((s j.val * (Real.log 2)⁻¹ : ℝ) : EReal) else ⊥)
    (hvo : ∀ j : Fin 256, vo j = V j.val) :
    Ideal.div (∑ j, Ideal.exp2 (so j - Finset.fold max ⊥ so Finset.univ) * vo j) (∑ j, Ideal.exp2 (so j - Finset.fold max ⊥ so Finset.univ))
      = can (Vis o r) s V := by
  have h := tile (N := 0) 0 r hr rfl o so Fin.elim0 vo Fin.elim0 s V (fun j => by rw [hso]; simp) (fun j => j.elim0) (fun j => by rw [hvo]; simp) (fun j => j.elim0)
  simpa using h

/-- A query's average gathered from four blocks of 256 keys. -/
theorem gathered (t : ℕ) (o : ℕ → Prop) [DecidablePred o] (s : ℕ → ℝ) (V : ℕ → EReal) (blk : Fin 1024 → ℕ) (ok : Fin 1024 → Prop) [DecidablePred ok]
    (x v : Fin 1024 → EReal)
    (hinj : ∀ i j : Fin 1024, ok i → ok j → blk i = blk j → i.val / 256 = j.val / 256)
    (hcov : ∀ b, (b = t / 256 ∨ (o b ∧ b ≤ t / 256)) ↔ ∃ e : Fin 4, ∀ i : Fin 1024, i.val / 256 = e.val → ok i ∧ blk i = b)
    (hok : ∀ i j : Fin 1024, i.val / 256 = j.val / 256 → ok i → ok j ∧ blk j = blk i)
    (hx : ∀ i, x i = if ok i ∧ blk i * 256 + i.val % 256 ≤ t then ((s (blk i * 256 + i.val % 256) : ℝ) : EReal) else ⊥)
    (hv : ∀ i, ok i → v i = V (blk i * 256 + i.val % 256)) (μ : EReal) (hμ : μ = Finset.fold max ⊥ x Finset.univ) :
    ∑ i, Ideal.div (Ideal.exp (x i - μ)) (∑ j, Ideal.exp (x j - μ)) * v i = can (Vis o t) s V := by
  subst hμ
  let A : Finset (Fin 1024) := Finset.univ.filter fun i => ok i ∧ blk i * 256 + i.val % 256 ≤ t
  have hA : A.Nonempty := by
    obtain ⟨e, he⟩ := (hcov (t / 256)).mp (Or.inl rfl)
    obtain ⟨h1, h2⟩ := he ⟨e.val * 256, by omega⟩ (by simp)
    exact ⟨⟨e.val * 256, by omega⟩, by simp only [A, Finset.mem_filter, Finset.mem_univ, true_and]; exact ⟨h1, by rw [h2]; simp; omega⟩⟩
  obtain ⟨i0, hi0⟩ := hA
  have hi0' := (Finset.mem_filter.mp hi0).2
  obtain ⟨μ, hμ⟩ := max_real x (fun j => by rw [hx]; split <;> simp) i0 (by rw [hx, if_pos hi0']; simp)
  rw [hμ]
  have h := div_each A ⟨i0, hi0⟩ (fun i => s (blk i * 256 + i.val % 256)) (fun i => Ideal.exp (x i - (μ : EReal))) _ (Real.exp_pos (-μ)) (fun i => by
    simp only [A, Finset.mem_filter, Finset.mem_univ, true_and]
    rw [hx]
    split
    · exact exp_sub _ _
    · simp) v
  refine h.trans ?_
  refine can_map A (fun i => blk i * 256 + i.val % 256) ?_ _ ?_ s V _ (fun _ _ => rfl) _ (fun i hi => hv i (Finset.mem_filter.mp hi).2.1)
  · intro a ha b hb hab
    have ha' := (Finset.mem_filter.mp ha).2
    have hb' := (Finset.mem_filter.mp hb).2
    simp only at hab
    have e := hinj a b ha'.1 hb'.1 (by omega)
    ext
    omega
  · ext j
    simp only [Vis, A, Finset.mem_image, Finset.mem_filter, Finset.mem_univ, true_and, Finset.mem_range]
    constructor
    · rintro ⟨i, ⟨h1, h2⟩, rfl⟩
      have h3 : (blk i * 256 + i.val % 256) / 256 = blk i := by omega
      rw [h3]
      refine ⟨by omega, ?_⟩
      have := (hcov (blk i)).mpr ⟨⟨i.val / 256, by omega⟩, fun j hj => hok i j (by simpa using hj.symm) h1⟩
      tauto
    · rintro ⟨hj, h⟩
      obtain ⟨e, he⟩ := (hcov (j / 256)).mp (h.imp id fun h => ⟨h, by omega⟩)
      obtain ⟨h1, h2⟩ := he ⟨e.val * 256 + j % 256, by omega⟩ (by simp only; omega)
      refine ⟨⟨e.val * 256 + j % 256, by omega⟩, ⟨h1, ?_⟩, ?_⟩ <;> rw [h2] <;> simp only <;> omega

end Cert.MobaMath
-- ==== Proof.MobaTile.lean ====
module

public import proofs.«01_k».proof.Proof.Gen.KernelIdeal.Value
public import proofs.«01_k».proof.Proof.Gen.ReferenceIdeal.Read
public import Idealize.ShloMosaic.Lib.Pointwise
public import proofs.«01_k».proof.Proof.MobaMath
public import Idealize.ShloMosaic.Lib.Pipeline.ValueKit

@[expose] public section

set_option maxRecDepth 16384

noncomputable section

namespace Cert.KernelIdeal.Moba

open Cert.KernelIdeal Cert.KernelIdeal.Gen Idealize.ShloMosaic Idealize.ShloMosaic.TcCoe Idealize.SL.Sem
open Idealize.ShloMosaic.Pipeline (Dat)
/-- The maximum's starting value, minus infinity. -/
def nb : Ideal .f32 := Ideal.ofBits .f32 0xFF800000#32
/-- The mask's value. -/
def mk : Ideal .f32 := Named.named κ "mask" 0xF149F2CA#32
/-- The scale of the queries. -/
def scl : Ideal .f32 := Named.named κ "scale_log2e" 0x3E0293EE#32
/-- The greatest gate of a row of eight. -/
def top1 (g : Fin 8 → Ideal .f32) : Ideal .f32 := Finset.fold max nb g Finset.univ
/-- The first block whose gate is the greatest. -/
def arg1 (g : Fin 8 → Ideal .f32) : BitVec 32 :=
  Finset.fold IntOp.minsi 2147483647#32 (fun x => if g x = top1 g then BitVec.ofNat 32 x.val else 8#32) Finset.univ
/-- Whether a block is the one a round picks. -/
def hit (g : Fin 8 → Ideal .f32) (c : Fin 8) : BitVec 1 := IntOp.cmpi .eq (BitVec.ofNat 32 c.val) (arg1 g)
/-- The gates after a round. -/
def next (g : Fin 8 → Ideal .f32) (c : Fin 8) : Ideal .f32 := Scalar.select (hit g c) nb (g c)
/-- The biases after a round. -/
def mark (g b : Fin 8 → Ideal .f32) (c : Fin 8) : Ideal .f32 :=
  Scalar.select (IntOp.andi (hit g c) (BitVec.ofBool (decide (nb < top1 g)))) 0 (b c)
/-- The biases after the three rounds. -/
def rounds (g b : Fin 8 → Ideal .f32) : Fin 8 → Ideal .f32 := mark (next (next g)) (mark (next g) (mark g b))
/-- The masked gates of a query of block `n`. -/
def gated (n : BitVec 32) (q : Fin 128 → Ideal .f32) (km : Fin 8 → Fin 128 → Ideal .f32) (c : Fin 8) : Ideal .f32 :=
  Scalar.select (IntOp.cmpi .slt (BitVec.ofNat 32 c.val) n) (∑ d : Fin 128, km c d * q d) nb
/-- The biases before the rounds: zero at the own block. -/
def start (n : BitVec 32) (c : Fin 8) : Ideal .f32 := Scalar.select (IntOp.cmpi .eq (BitVec.ofNat 32 c.val) n) 0 mk
/-- The biases of a row of queries, spread over the lanes and turned by the identity product. -/
def lanes (b : Fin 256 → Fin 8 → Ideal .f32) (r : Fin 256) (x : Fin 128) : Ideal .f32 :=
  0 + ∑ j : Fin 256, ((BitVec.setWidth 32 (IntOp.cmpi .eq (BitVec.ofNat 32 r.val) (BitVec.ofNat 32 j.val))).toInt : ℝ) *
    (if h : x.val < 8 then b j ⟨x.val, h⟩ else 0)
/-- The score of a query against a key: the scaled product, and the bias product. -/
def score (q b : Fin 128 → Ideal .f32) (k : Fin 256 → Ideal .f32) : Ideal .f32 :=
  ∑ x : Fin 128, q x * scl * k ⟨x.val, by omega⟩ + ∑ x : Fin 128, b x * k ⟨128 + x.val, by omega⟩
/-- The scores against the own block, masked above the diagonal. -/
def own (q b : Fin 128 → Ideal .f32) (k : Fin 256 → Fin 256 → Ideal .f32) (r j : Fin 256) : Ideal .f32 :=
  Scalar.select (IntOp.cmpi .sle (BitVec.ofNat 32 j.val) (BitVec.ofNat 32 r.val)) (score q b (k j)) mk
/-- The softmax average over the own block and the blocks before it. -/
def attn {N : Nat} (so : Fin 256 → Ideal .f32) (sp : Fin N → Ideal .f32) (vo : Fin 256 → Ideal .f32) (vp : Fin N → Ideal .f32) : Ideal .f32 :=
  Ideal.div
    (∑ j, FloatOps.exp2 (so j - max (Finset.fold max nb so Finset.univ) (Finset.fold max nb sp Finset.univ)) * vo j +
      ∑ j, FloatOps.exp2 (sp j - max (Finset.fold max nb so Finset.univ) (Finset.fold max nb sp Finset.univ)) * vp j)
    (∑ j, FloatOps.exp2 (so j - max (Finset.fold max nb so Finset.univ) (Finset.fold max nb sp Finset.univ)) +
      ∑ j, FloatOps.exp2 (sp j - max (Finset.fold max nb so Finset.univ) (Finset.fold max nb sp Finset.univ)))
/-- The softmax average over the own block alone. -/
def attn0 (so : Fin 256 → Ideal .f32) (vo : Fin 256 → Ideal .f32) : Ideal .f32 :=
  Ideal.div (∑ j, FloatOps.exp2 (so j - Finset.fold max nb so Finset.univ) * vo j) (∑ j, FloatOps.exp2 (so j - Finset.fold max nb so Finset.univ))
/-- The biases of a query of block `n ≤ 3`: every block up to its own. -/
def low (n : BitVec 32) (x : Fin 128) : Ideal .f32 := Scalar.select (IntOp.cmpi .sle (BitVec.ofNat 32 x.val) n) 0 mk
/-- The row numbers of a tile of scores. -/
abbrev iR : IVec S256x256 32 := iota .tc S256x256 32 [0] iota_S256x256_d0_w32
/-- The column numbers of a tile of scores. -/
abbrev iC : IVec S256x256 32 := iota .tc S256x256 32 [1] iota_S256x256_d1_w32
/-- The lane numbers of a tile of biases. -/
abbrev iL : IVec S256x128 32 := iota .tc S256x128 32 [1] iota_S256x128_d1_w32
/-- The block numbers of the gates. -/
abbrev iB : IVec S8x256 32 := iota .tc S8x256 32 [0] iota_S8x256_d0_w32
/-- A round's biases, a tile of eight rows at once. -/
def markV (g b : FVec Ideal S8x256 .f32) : FVec Ideal S8x256 .f32 :=
  select (andi (k0_pay62 (F := Ideal) iB g) (broadcastTo S8x256 (cmpf .ogt (k0_pay61 (F := Ideal) g) (broadcast S1x256 (Scalar.ofBits .f32 0xFF800000#32))) broadcasts_S1x256_S8x256))
    (broadcast S8x256 (Scalar.ofBits .f32 0x00000000#32)) b
/-- The masked gates, a tile at once. -/
def gateV (n : BitVec 32) (q : Vec Ideal S256x128 .f32) (km : Vec Ideal S8x128 .f32) : FVec Ideal S8x256 .f32 :=
  select (cmpi .slt iB (broadcast S8x256 n))
    (matmul (φ₁ := .f32) (φ₂ := .f32) dot_S8x128_S256x128_S8x256_1_1_0_0_n_n (some .fp32) km (shapeCast S256x128 q shapeCasts_S256x128_S256x128) (constant S8x256 .f32 0x00000000#32))
    (broadcast S8x256 (Scalar.ofBits .f32 0xFF800000#32))
/-- The biases before the rounds, a tile at once. -/
def startV (n : BitVec 32) : FVec Ideal S8x256 .f32 :=
  select (cmpi .eq iB (broadcast S8x256 n)) (broadcast S8x256 (Scalar.ofBits .f32 0x00000000#32)) (broadcast S8x256 (Named.named κ "mask" 0xF149F2CA#32))
/-- The biases after the three rounds, a tile at once. -/
def roundsV (g b : FVec Ideal S8x256 .f32) : FVec Ideal S8x256 .f32 :=
  markV (k0_pay63 (F := Ideal) iB (k0_pay63 (F := Ideal) iB g)) (markV (k0_pay63 (F := Ideal) iB g) (markV g b))
/-- The biases of eight rows, filled up to the lanes. -/
def padV (b : FVec Ideal S8x256 .f32) : FVec Ideal S128x256 .bf16 :=
  truncf .bf16 (concatenate S128x256 0 [⟨S8x256, b⟩, ⟨S120x256, broadcast S120x256 (Scalar.ofBits .f32 0x00000000#32)⟩] concatenates_S8x256_S120x256_S128x256_d0) bitsLt_bf16_f32
/-- The biases turned to one row a query. -/
def biasV (b : FVec Ideal S8x256 .f32) : FVec Ideal S256x128 .bf16 :=
  truncf .bf16 (matmul dot_S256x256_S128x256_S256x128_1_1_0_0_n_n none (k0_pay15 (F := Ideal)) (padV b) (constant S256x128 .f32 0x00000000#32)) bitsLt_bf16_f32
/-- The scaled queries beside their biases. -/
def lhsV (q : Vec Ideal S256x128 .f32) (b : FVec Ideal S256x128 .bf16) : FVec Ideal S256x256 .bf16 :=
  concatenate S256x256 1 [⟨S256x128, truncf .bf16 (mulf (shapeCast S256x128 q shapeCasts_S256x128_S256x128) (broadcast S256x128 (Named.named κ "scale_log2e" 0x3E0293EE#32))) bitsLt_bf16_f32⟩, ⟨S256x128, b⟩]
    concatenates_S256x128_S256x128_S256x256_d1
/-- The biases of a query block past the third. -/
def selV (n : BitVec 32) (q : Vec Ideal S256x128 .f32) (km : Vec Ideal S8x128 .f32) : FVec Ideal S256x128 .bf16 := biasV (roundsV (gateV n q km) (startV n))
/-- The printed biases of query block 4 are the three rounds' biases. -/
theorem rnd4 (q : Vec Ideal S256x128 .f32) (km : Vec Ideal S8x128 .f32) :
    k0_pay43 (F := Ideal) iB (k0_pay39 iB q km) (k0_pay40 iB) (k0_pay41 iB q km) (k0_pay42 iB q km) (Scalar.ofBits .f32 0xFF800000#32)
      = padV (roundsV (gateV 4#32 q km) (startV 4#32)) := rfl
/-- The printed left operand of query block 5 is the scaled queries beside the biases of the rounds. -/
theorem lhs5 (q : Vec Ideal S256x128 .f32) (km : Vec Ideal S8x128 .f32) :
    k0_pay53 (F := Ideal) iB (k0_pay15 (F := Ideal)) (k0_pay45 q) (k0_pay49 iB q km) (k0_pay50 iB q km) (k0_pay51 iB q km) (k0_pay52 iB q km)
      = lhsV q (selV 5#32 q km) := rfl
/-- The printed left operand of query block 6 is the scaled queries beside the biases of the rounds. -/
theorem lhs6 (q : Vec Ideal S256x128 .f32) (km : Vec Ideal S8x128 .f32) :
    k0_pay70 (F := Ideal) iB (k0_pay15 (F := Ideal)) (k0_pay57 q)
      (k0_pay66 iB (k0_pay58 iB q km) (k0_pay59 iB) (Named.named κ "mask" 0xF149F2CA#32) (k0_pay60 (F := Ideal))) (k0_pay68 iB (k0_pay58 iB q km)) (k0_pay69 iB (k0_pay58 iB q km))
      = lhsV q (selV 6#32 q km) := rfl
/-- The printed biases of query block 7 are those of the rounds. -/
theorem lhs7 (q : Vec Ideal S256x128 .f32) (km : Vec Ideal S8x128 .f32) :
    k0_pay86 (F := Ideal) iB (k0_pay15 (F := Ideal)) (k0_pay80 iB q km) (k0_pay81 iB) (k0_pay83 iB q km) (k0_pay84 iB q km) (k0_pay85 (F := Ideal))
      = selV 7#32 q km := rfl
/-- A row of the filled biases. -/
theorem pad_at (b : FVec Ideal S8x256 .f32) (x : Fin 128) (r : Fin 256) : padV b (ix2 x r) = if h : x.val < 8 then b (ix2 ⟨x.val, h⟩ r) else 0 := by
  pointwise [padV]
/-- The gates after a round, read at an entry. -/
theorem next_at (g : FVec Ideal S8x256 .f32) (c : Fin 8) (r : Fin 256) : k0_pay63 (F := Ideal) iB g (ix2 c r) = next (fun c => g (ix2 c r)) c := by
  pointwise [k0_pay63, k0_pay62, k0_pay61]
  rfl
/-- The biases after a round, read at an entry. -/
theorem mark_at (g b : FVec Ideal S8x256 .f32) (c : Fin 8) (r : Fin 256) : markV g b (ix2 c r) = mark (fun c => g (ix2 c r)) (fun c => b (ix2 c r)) c := by
  pointwise [markV, k0_pay62, k0_pay61]
  rfl
/-- The masked gates, read at an entry. -/
theorem gate_at (n : BitVec 32) (q : Vec Ideal S256x128 .f32) (km : Vec Ideal S8x128 .f32) (c : Fin 8) (r : Fin 256) :
    gateV n q km (ix2 c r) = gated n (fun d => q (ix2 r d)) (fun c d => km (ix2 c d)) c := by
  pointwise [gateV]
  rfl
/-- The biases before the rounds, read at an entry. -/
theorem start_at (n : BitVec 32) (c : Fin 8) (r : Fin 256) : startV n (ix2 c r) = start n c := by
  pointwise [startV]
  rfl
/-- The biases after the rounds, read at an entry. -/
theorem rounds_at (g b : FVec Ideal S8x256 .f32) (c : Fin 8) (r : Fin 256) :
    roundsV g b (ix2 c r) = rounds (fun c => g (ix2 c r)) (fun c => b (ix2 c r)) c := by
  unfold roundsV rounds
  simp only [mark_at, next_at]
/-- The turned biases, read at an entry: the identity's row times the biases. -/
theorem sel_at (n : BitVec 32) (q : Vec Ideal S256x128 .f32) (km : Vec Ideal S8x128 .f32) (r : Fin 256) (x : Fin 128) :
    selV n q km (ix2 r x) = ∑ j : Fin 256, k0_pay15 (F := Ideal) (ix2 r j) *
      (if h : x.val < 8 then rounds (gated n (fun d => q (ix2 j d)) (fun c d => km (ix2 c d))) (start n) ⟨x.val, h⟩ else 0) := by
  pointwise [selV, biasV]
  simp only [pad_at, rounds_at, gate_at, start_at]
/-- The biases of a query block up to the third. -/
def lowV (n : BitVec 32) : FVec Ideal S256x128 .bf16 :=
  truncf (F := Ideal) (φ := .f32) .bf16 (select (cmpi .sle iL (broadcast S256x128 n)) (broadcast S256x128 (Scalar.ofBits .f32 0x00000000#32 : Ideal .f32)) (broadcast S256x128 (Named.named κ "mask" 0xF149F2CA#32 : Ideal .f32))) bitsLt_bf16_f32
/-- The biases of an early query block, read at an entry. -/
theorem low_at (n : BitVec 32) (r : Fin 256) (x : Fin 128) : lowV n (ix2 r x) = low n x := by
  pointwise [lowV]
  rfl
/-- The printed biases of query block 1. -/
theorem low1 : k0_pay18 (F := Ideal) iL = lowV 1#32 := rfl
/-- The printed left operand of query block 2. -/
theorem lhs2 (q : Vec Ideal S256x128 .f32) : k0_pay20 (F := Ideal) iL q = lhsV q (lowV 2#32) := rfl
/-- The printed left operand of query block 3. -/
theorem lhs3 (q : Vec Ideal S256x128 .f32) : k0_pay30 (F := Ideal) iL q = lhsV q (lowV 3#32) := rfl
/-- What query block 0 leaves, read at an entry: the softmax average over its keys. -/
theorem qb0 (q : Vec Ideal S256x128 .f32) (ko : Vec Ideal S256x256 .bf16) (vo : Vec Ideal S256x128 .bf16) (r : Fin 256) (l : Fin 128) :
    k0_pay16 (F := Ideal) iL iR iC q ko vo (ix2 r l)
      = attn0 (own (fun d => q (ix2 r d)) (fun x => lowV 0#32 (ix2 r x)) (fun j d => ko (ix2 j d)) r) (fun j => vo (ix2 j l)) := by
  unfold k0_pay16
  dsimp only
  have e : lowV 0#32 = lowV 0#32 := rfl
  conv at e => lhs; unfold lowV
  rw [e]
  generalize lowV 0#32 = b
  pointwise []
  rfl
/-- What query block 1 leaves, read at an entry: the softmax average over its keys. -/
theorem qb1 (q : Vec Ideal S256x128 .f32) (ko : Vec Ideal S256x256 .bf16) (kp : Vec Ideal S256x256 .bf16)
    (vo : Vec Ideal S256x128 .bf16) (vp : Vec Ideal S256x128 .bf16) (r : Fin 256) (l : Fin 128) :
    k0_pay19 (F := Ideal) iR iC (k0_pay17 q) (k0_pay18 iL) ko kp vo vp (ix2 r l)
      = attn (own (fun d => q (ix2 r d)) (fun x => lowV 1#32 (ix2 r x)) (fun j d => ko (ix2 j d)) r) (fun j => score (fun d => q (ix2 r d)) (fun x => lowV 1#32 (ix2 r x)) (fun d => kp (ix2 j d))) (fun j => vo (ix2 j l)) (fun j => vp (ix2 j l)) := by
  rw [low1]
  generalize lowV 1#32 = b
  pointwise [k0_pay19, k0_pay17]
  rfl
/-- What query block 2 leaves, read at an entry: the softmax average over its keys. -/
theorem qb2 (q : Vec Ideal S256x128 .f32) (ko : Vec Ideal S256x256 .bf16) (kp : Vec Ideal S512x256 .bf16)
    (vo : Vec Ideal S256x128 .bf16) (vp : Vec Ideal S512x128 .bf16) (r : Fin 256) (l : Fin 128) :
    k0_pay29 (F := Ideal) (k0_pay25 iL iR iC q ko kp vo) (k0_pay27 iL iR iC q ko kp) (k0_pay28 iL iR iC q ko kp) vp (ix2 r l)
      = attn (own (fun d => q (ix2 r d)) (fun x => lowV 2#32 (ix2 r x)) (fun j d => ko (ix2 j d)) r) (fun j => score (fun d => q (ix2 r d)) (fun x => lowV 2#32 (ix2 r x)) (fun d => kp (ix2 j d))) (fun j => vo (ix2 j l)) (fun j => vp (ix2 j l)) := by
  unfold k0_pay28 k0_pay27 k0_pay26 k0_pay25 k0_pay24 k0_pay23 k0_pay22 k0_pay21
  simp only [lhs2]
  generalize lowV 2#32 = b
  pointwise [k0_pay29, lhsV]
  rfl
/-- What query block 3 leaves, read at an entry: the softmax average over its keys. -/
theorem qb3 (q : Vec Ideal S256x128 .f32) (ko : Vec Ideal S256x256 .bf16) (kp : Vec Ideal S768x256 .bf16)
    (vo : Vec Ideal S256x128 .bf16) (vp : Vec Ideal S768x128 .bf16) (r : Fin 256) (l : Fin 128) :
    k0_pay37 (F := Ideal) (k0_pay32 iL q kp) (k0_pay33 iL iR iC q ko kp) (k0_pay35 iL iR iC q ko kp) (k0_pay36 iL iR iC q ko kp) vo vp (ix2 r l)
      = attn (own (fun d => q (ix2 r d)) (fun x => lowV 3#32 (ix2 r x)) (fun j d => ko (ix2 j d)) r) (fun j => score (fun d => q (ix2 r d)) (fun x => lowV 3#32 (ix2 r x)) (fun d => kp (ix2 j d))) (fun j => vo (ix2 j l)) (fun j => vp (ix2 j l)) := by
  unfold k0_pay36 k0_pay35 k0_pay34 k0_pay33 k0_pay32 k0_pay31
  simp only [lhs3]
  generalize lowV 3#32 = b
  pointwise [k0_pay37, lhsV]
  rfl
/-- What query block 4 leaves, read at an entry: the softmax average over its keys. -/
theorem qb4 (q q' : Vec Ideal S256x128 .f32) (km : Vec Ideal S8x128 .f32) (ko : Vec Ideal S256x256 .bf16) (kp : Vec Ideal S1024x256 .bf16)
    (vo : Vec Ideal S256x128 .bf16) (vp : Vec Ideal S1024x128 .bf16) (r : Fin 256) (l : Fin 128) :
    k0_pay44 (F := Ideal) iR iC (k0_pay15 (F := Ideal)) (k0_pay38 q)
      (k0_pay43 (F := Ideal) iB (k0_pay39 iB q' km) (k0_pay40 iB) (k0_pay41 iB q' km) (k0_pay42 iB q' km) (Scalar.ofBits .f32 0xFF800000#32)) (constant S256x128 .f32 0x00000000#32) ko kp vo vp (ix2 r l)
      = attn (own (fun d => q (ix2 r d)) (fun x => selV 4#32 q' km (ix2 r x)) (fun j d => ko (ix2 j d)) r)
          (fun j => score (fun d => q (ix2 r d)) (fun x => selV 4#32 q' km (ix2 r x)) (fun d => kp (ix2 j d))) (fun j => vo (ix2 j l)) (fun j => vp (ix2 j l)) := by
  rw [rnd4]
  have e : ∀ x, selV 4#32 q' km (ix2 r x) = constant (F := Ideal) S256x128 .f32 0x00000000#32 (ix2 r x) + ∑ j : Fin 256, k0_pay15 (F := Ideal) (ix2 r j) * padV (roundsV (gateV 4#32 q' km) (startV 4#32)) (ix2 x j) := by
    intro x
    pointwise [selV, biasV]
  simp only [e]
  generalize padV (roundsV (gateV 4#32 q' km) (startV 4#32)) = bt
  generalize k0_pay15 (F := Ideal) = ey
  pointwise [k0_pay44, k0_pay38]
  rfl
/-- What query block 5 leaves, read at an entry: the softmax average over its keys. -/
theorem qb5 (q : Vec Ideal S256x128 .f32) (km : Vec Ideal S8x128 .f32) (ko : Vec Ideal S256x256 .bf16) (kp : Vec Ideal S1280x256 .bf16)
    (vo : Vec Ideal S256x128 .bf16) (vp : Vec Ideal S1280x128 .bf16) (r : Fin 256) (l : Fin 128) :
    k0_pay56 (F := Ideal) (k0_pay53 (F := Ideal) iB (k0_pay15 (F := Ideal)) (k0_pay45 q) (k0_pay49 iB q km) (k0_pay50 iB q km) (k0_pay51 iB q km) (k0_pay52 iB q km))
      (k0_pay54 (F := Ideal) iR iC iB (k0_pay15 (F := Ideal)) (k0_pay45 q) (k0_pay49 iB q km) (k0_pay50 iB q km) (k0_pay51 iB q km) (k0_pay52 iB q km) ko)
      (k0_pay55 (F := Ideal) iR iC iB (k0_pay15 (F := Ideal)) (k0_pay45 q) (k0_pay49 iB q km) (k0_pay50 iB q km) (k0_pay51 iB q km) (k0_pay52 iB q km) ko) kp vo vp (ix2 r l)
      = attn (own (fun d => q (ix2 r d)) (fun x => selV 5#32 q km (ix2 r x)) (fun j d => ko (ix2 j d)) r)
          (fun j => score (fun d => q (ix2 r d)) (fun x => selV 5#32 q km (ix2 r x)) (fun d => kp (ix2 j d))) (fun j => vo (ix2 j l)) (fun j => vp (ix2 j l)) := by
  unfold k0_pay55 k0_pay54
  simp only [lhs5]
  generalize selV 5#32 q km = b
  pointwise [k0_pay56, lhsV]
  rfl
/-- What query block 6 leaves, read at an entry: the softmax average over its keys. -/
theorem qb6 (q : Vec Ideal S256x128 .f32) (km : Vec Ideal S8x128 .f32) (ko : Vec Ideal S256x256 .bf16) (kp : Vec Ideal S1536x256 .bf16)
    (vo : Vec Ideal S256x128 .bf16) (vp : Vec Ideal S1536x128 .bf16) (r : Fin 256) (l : Fin 128) :
    let a := k0_pay66 iB (k0_pay58 iB q km) (k0_pay59 iB) (Named.named κ "mask" 0xF149F2CA#32) (k0_pay60 (F := Ideal))
    let b := k0_pay68 iB (k0_pay58 iB q km)
    let c := k0_pay69 iB (k0_pay58 iB q km)
    k0_pay78 (F := Ideal) (k0_pay75 (F := Ideal) iR iC iB (k0_pay15 (F := Ideal)) (k0_pay57 q) a b c ko kp)
      (k0_pay76 (F := Ideal) iR iC iB (k0_pay15 (F := Ideal)) (k0_pay57 q) a b c ko kp vo)
      (k0_pay77 (F := Ideal) iR iC iB (k0_pay15 (F := Ideal)) (k0_pay57 q) a b c ko kp) vp (ix2 r l)
      = attn (own (fun d => q (ix2 r d)) (fun x => selV 6#32 q km (ix2 r x)) (fun j d => ko (ix2 j d)) r)
          (fun j => score (fun d => q (ix2 r d)) (fun x => selV 6#32 q km (ix2 r x)) (fun d => kp (ix2 j d))) (fun j => vo (ix2 j l)) (fun j => vp (ix2 j l)) := by
  intro a b c
  unfold k0_pay75 k0_pay76 k0_pay77 k0_pay74 k0_pay73 k0_pay72 k0_pay71
  simp only [a, b, c, lhs6]
  generalize selV 6#32 q km = b
  pointwise [k0_pay78, lhsV]
  rfl
/-- What query block 7 leaves, read at an entry: the softmax average over its keys. -/
theorem qb7 (q : Vec Ideal S256x128 .f32) (km : Vec Ideal S8x128 .f32) (ko : Vec Ideal S256x256 .bf16) (kp : Vec Ideal S1792x256 .bf16)
    (vo : Vec Ideal S256x128 .bf16) (vp : Vec Ideal S1792x128 .bf16) (r : Fin 256) (l : Fin 128) :
    let b := k0_pay86 (F := Ideal) iB (k0_pay15 (F := Ideal)) (k0_pay80 iB q km) (k0_pay81 iB) (k0_pay83 iB q km) (k0_pay84 iB q km) (k0_pay85 (F := Ideal))
    let s := k0_pay87 (k0_pay79 q)
    k0_pay1 (F := Ideal) (k0_pay93 (F := Ideal) iR iC b s ko kp vo) (k0_pay95 (F := Ideal) iR iC b s ko kp) (k0_pay96 (F := Ideal) iR iC b s ko kp) vp (ix2 r l)
      = attn (own (fun d => q (ix2 r d)) (fun x => selV 7#32 q km (ix2 r x)) (fun j d => ko (ix2 j d)) r)
          (fun j => score (fun d => q (ix2 r d)) (fun x => selV 7#32 q km (ix2 r x)) (fun d => kp (ix2 j d))) (fun j => vo (ix2 j l)) (fun j => vp (ix2 j l)) := by
  intro b s
  simp only [b, s, lhs7]
  generalize selV 7#32 q km = b
  pointwise [k0_pay1, k0_pay93, k0_pay95, k0_pay96, k0_pay94, k0_pay92, k0_pay91, k0_pay90, k0_pay89, k0_pay88, k0_pay87, k0_pay79]
  rfl

end Cert.KernelIdeal.Moba
-- ==== Proof.MobaRead.lean ====
module

public import proofs.«01_k».proof.Proof.Gen.KernelIdeal.Value
public import proofs.«01_k».proof.Proof.Gen.ReferenceIdeal.Read
public import Idealize.ShloMosaic.Lib.Pointwise
public import proofs.«01_k».proof.Proof.MobaTile
public import Idealize.ShloMosaic.Lib.Pipeline.ValueKit

@[expose] public section

set_option maxRecDepth 16384

noncomputable section

namespace Cert.KernelIdeal.Moba

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ) (c : Dev nD)

/-- A load's index, coordinate by coordinate. -/
theorem idx_at {s : Shape} (off size : Fin s.rank → Nat) (inb) (x : (Rect.unit off size inb).shape.Idx) (a : Fin s.rank) :
    (((Rect.unit off size inb).toLoadRect.idx x) a).val = off a + (x a).val := Rect.idx_unit_val off size inb x a

/-- The first 128 lanes of the keys' scratch are the keys. -/
theorem ka_lo (off N : Nat) (p1 p2 p3) (kk hh : (S2048x128).Idx → Ideal .bf16) (j : Fin N) (x : Fin 128) (hj : off + j.val < 2048) (hx : x.val < 256) :
    ((View.whole cc0_scratch0).readCov (Val := Elt Ideal) [⟨Rect.unit (s := S2048x256) ![0, 128] ![2048, 128] p1, hh⟩, ⟨Rect.unit (s := S2048x256) ![0, 0] ![2048, 128] p2, kk⟩]
      (Rect.unit (s := S2048x256) ![off, 0] ![N, 256] p3).toLoadRect) (ix2 j ⟨x.val, hx⟩) = kk (ix2 ⟨off + j.val, hj⟩ x) := by
  rw [View.readCov_eq_canon']
  dsimp only
  have e : (Rect.unit (s := S2048x256) ![off, 0] ![N, 256] p3).toLoadRect.idx (ix2 j ⟨x.val, hx⟩)
      = (Rect.unit (s := S2048x256) ![0, 0] ![2048, 128] p2).emb (ix2 ⟨off + j.val, hj⟩ x) := by
    funext a
    apply Fin.ext
    refine (idx_at _ _ _ _ a).trans (Eq.trans ?_ (idx_at _ _ _ _ a).symm)
    fin_cases a
    · exact (Nat.zero_add _).symm
    · rfl
  refine (View.canon_cons_of_not_mem _ _ ?_).trans ?_
  · rw [Rect.mem_set_unit]
    intro hm
    have h1 := (hm 1).1
    have h2 := idx_at (s := S2048x256) ![off, 0] ![N, 256] p3 (ix2 j ⟨x.val, hx⟩) 1
    rw [h2] at h1
    have : (128 : Nat) ≤ 0 + x.val := h1
    have := x.isLt
    omega
  · rw [e]
    exact View.canon_cons_emb (Val := Elt Ideal) (e := .bf16) (Rect.unit (s := S2048x256) ![0, 0] ![2048, 128] p2) kk [] _

/-- The last 128 lanes of the keys' scratch are the blocks' indicators. -/
theorem ka_hi (off N : Nat) (p1 p2 p3) (kk hh : (S2048x128).Idx → Ideal .bf16) (j : Fin N) (x : Fin 128) (hj : off + j.val < 2048) (hx : 128 + x.val < 256) :
    ((View.whole cc0_scratch0).readCov (Val := Elt Ideal) [⟨Rect.unit (s := S2048x256) ![0, 128] ![2048, 128] p1, hh⟩, ⟨Rect.unit (s := S2048x256) ![0, 0] ![2048, 128] p2, kk⟩]
      (Rect.unit (s := S2048x256) ![off, 0] ![N, 256] p3).toLoadRect) (ix2 j ⟨128 + x.val, hx⟩) = hh (ix2 ⟨off + j.val, hj⟩ x) := by
  rw [View.readCov_eq_canon']
  dsimp only
  have e : (Rect.unit (s := S2048x256) ![off, 0] ![N, 256] p3).toLoadRect.idx (ix2 j ⟨128 + x.val, hx⟩)
      = (Rect.unit (s := S2048x256) ![0, 128] ![2048, 128] p1).emb (ix2 ⟨off + j.val, hj⟩ x) := by
    funext a
    apply Fin.ext
    refine (idx_at _ _ _ _ a).trans (Eq.trans ?_ (idx_at _ _ _ _ a).symm)
    fin_cases a
    · exact (Nat.zero_add _).symm
    · exact Nat.zero_add _
  rw [e]
  exact View.canon_cons_emb (Val := Elt Ideal) (e := .bf16) (Rect.unit (s := S2048x256) ![0, 128] ![2048, 128] p1) hh _ _

/-- The values' scratch holds the values. -/
theorem vb_at (off N : Nat) (p1 p3) (vv : (S2048x128).Idx → Ideal .bf16) (j : Fin N) (x : Fin 128) (hj : off + j.val < 2048) :
    ((View.whole cc0_scratch1).readCov (Val := Elt Ideal) [⟨Rect.unit (s := S2048x128) ![0, 0] ![2048, 128] p1, vv⟩]
      (Rect.unit (s := S2048x128) ![off, 0] ![N, 128] p3).toLoadRect) (ix2 j x) = vv (ix2 ⟨off + j.val, hj⟩ x) := by
  rw [View.readCov_eq_canon']
  dsimp only
  have e : (Rect.unit (s := S2048x128) ![off, 0] ![N, 128] p3).toLoadRect.idx (ix2 j x)
      = (Rect.unit (s := S2048x128) ![0, 0] ![2048, 128] p1).emb (ix2 ⟨off + j.val, hj⟩ x) := by
    funext a
    apply Fin.ext
    refine (idx_at _ _ _ _ a).trans (Eq.trans ?_ (idx_at _ _ _ _ a).symm)
    fin_cases a
    · exact (Nat.zero_add _).symm
    · rfl
  rw [e]
  exact View.canon_cons_emb (Val := Elt Ideal) (e := .bf16) (Rect.unit (s := S2048x128) ![0, 0] ![2048, 128] p1) vv [] _

/-- A row written last, read. -/
theorem row_at (n : Nat) (p1) (w : (⟨2, ![1, 128]⟩ : Shape).Idx → Ideal .f32) (L : List (View.Piece (Elt Ideal) S8x128 .f32)) (a : Fin 8) (d : Fin 128) :
    View.canon (⟨Rect.unit (s := S8x128) ![n, 0] ![1, 128] p1, w⟩ :: L) (ix2 a d) = if a.val = n then w (ix2 0 d) else View.canon L (ix2 a d) := by
  split
  · rename_i h
    have e : (ix2 a d : S8x128.Idx) = (Rect.unit (s := S8x128) ![n, 0] ![1, 128] p1).emb (ix2 0 d) := by
      funext b
      apply Fin.ext
      refine Eq.trans ?_ (idx_at _ _ _ _ b).symm
      fin_cases b
      · exact h
      · exact (Nat.zero_add _).symm
    rw [e]
    exact View.canon_cons_emb (Val := Elt Ideal) (e := .f32) (Rect.unit (s := S8x128) ![n, 0] ![1, 128] p1) w _ _
  · rename_i h
    refine View.canon_cons_of_not_mem _ _ ?_
    rw [Rect.mem_set_unit]
    intro hm
    have h1 : n ≤ a.val ∧ a.val < n + 1 := hm 0
    omega

/-- The block means' scratch, row by row. -/
theorem km_rows (w0 w1 w2 w3 w4 w5 w6 w7 : S1x128.Idx → Ideal .f32) (z : S8x128.Idx → Ideal .f32) (q0 q1 q2 q3 q4 q5 q6 q7 qz p) (a : Fin 8) (d : Fin 128) :
    ((View.whole cc0_scratch2).readCov (Val := Elt Ideal) [⟨Rect.unit (s := S8x128) ![7, 0] ![1, 128] q7, w7⟩, ⟨Rect.unit (s := S8x128) ![6, 0] ![1, 128] q6, w6⟩,
      ⟨Rect.unit (s := S8x128) ![5, 0] ![1, 128] q5, w5⟩, ⟨Rect.unit (s := S8x128) ![4, 0] ![1, 128] q4, w4⟩, ⟨Rect.unit (s := S8x128) ![3, 0] ![1, 128] q3, w3⟩,
      ⟨Rect.unit (s := S8x128) ![2, 0] ![1, 128] q2, w2⟩, ⟨Rect.unit (s := S8x128) ![1, 0] ![1, 128] q1, w1⟩, ⟨Rect.unit (s := S8x128) ![0, 0] ![1, 128] q0, w0⟩,
      ⟨Rect.unit (s := S8x128) ![0, 0] ![8, 128] qz, z⟩] (Rect.unit (s := S8x128) ![0, 0] ![8, 128] p).toLoadRect) (ix2 a d)
      = (![w0, w1, w2, w3, w4, w5, w6, w7] a) (ix2 0 d) := by
  rw [View.readCov_eq_canon']
  dsimp only
  have e : (Rect.unit (s := S8x128) ![0, 0] ![8, 128] p).toLoadRect.idx (ix2 a d) = ix2 a d := by
    funext b
    apply Fin.ext
    refine (idx_at _ _ _ _ b).trans ?_
    fin_cases b
    · exact Nat.zero_add _
    · exact Nat.zero_add _
  rw [e]
  refine (row_at 7 _ _ _ a d).trans ?_
  split
  · rename_i h; obtain rfl : a = 7 := Fin.ext h; rfl
  refine (row_at 6 _ _ _ a d).trans ?_
  split
  · rename_i h; obtain rfl : a = 6 := Fin.ext h; rfl
  refine (row_at 5 _ _ _ a d).trans ?_
  split
  · rename_i h; obtain rfl : a = 5 := Fin.ext h; rfl
  refine (row_at 4 _ _ _ a d).trans ?_
  split
  · rename_i h; obtain rfl : a = 4 := Fin.ext h; rfl
  refine (row_at 3 _ _ _ a d).trans ?_
  split
  · rename_i h; obtain rfl : a = 3 := Fin.ext h; rfl
  refine (row_at 2 _ _ _ a d).trans ?_
  split
  · rename_i h; obtain rfl : a = 2 := Fin.ext h; rfl
  refine (row_at 1 _ _ _ a d).trans ?_
  split
  · rename_i h; obtain rfl : a = 1 := Fin.ext h; rfl
  refine (row_at 0 _ _ _ a d).trans ?_
  split
  · rename_i h; obtain rfl : a = 0 := Fin.ext h; rfl
  · exact absurd a.isLt (by omega)

/-- One row of the block means. -/
theorem mean_row (X : Vec Ideal S256x128 .f32) (d : Fin 128) (K : Fin 256 → ℝ) (hX : ∀ j : Fin 256, X (ix2 j d) = (K j : EReal)) :
    k0_pay6 X (ix2 0 d) = (((∑ j : Fin 256, K j) / 256 : ℝ) : EReal) := by
  have h : k0_pay6 X (ix2 0 d) = Ideal.div (∑ j : Fin 256, X (ix2 j d)) (Ideal.ofBits .f32 0x43800000#32) := by
    pointwise [k0_pay6]
  rw [h]
  have h2 : Ideal.ofBits .f32 0x43800000#32 = ((256 : ℝ) : EReal) := by
    simp [Ideal.ofBits, Ideal.ieee, -EReal.coe_mul]; norm_num
  rw [h2, Ideal.div_coe (by norm_num)]
  rw [Finset.sum_congr rfl fun j _ => hX j, ← MobaMath.coe_sum, ← EReal.coe_mul]
  congr 1
  ring

/-- The sign of a word. -/
def sgn (x : BitVec 32) : BitVec 32 := if x = 0 then 0 else if x.msb then -1 else 1

/-- The host's floored quotient by the block length, of one word. -/
def fdiv (w : BitVec 32) : BitVec 32 :=
  Scalar.select (IntOp.andi (IntOp.cmpi .ne (sgn w) (sgn 256#32)) (IntOp.cmpi .ne (IntOp.remsi .host w 256#32) 0#32))
    (IntOp.subi (IntOp.divsi .host w 256#32) 1#32) (IntOp.divsi .host w 256#32)

/-- Of a position it is the position's block. -/
theorem fdiv_eq : ∀ i : Fin 2048, fdiv (BitVec.ofNat 32 i.val) = BitVec.ofNat 32 (i.val / 256) := by decide +kernel

/-- Where each window's block lies at a point. -/
theorem idx : ∀ t : Fin cfg0.N, win0_0.index t = ![t.val / 8, t.val % 8] ∧ win0_1.index t = ![t.val / 8, t.val % 8] ∧ win0_2.index t = ![t.val / 8, t.val % 8]
    ∧ win0_3.index t = ![0, 0] ∧ win0_4.index t = ![t.val / 8, t.val % 8] :=
  (by decide +kernel : ∀ t : Fin grid0.N, win0_0.index t = ![t.val / 8, t.val % 8] ∧ win0_1.index t = ![t.val / 8, t.val % 8] ∧ win0_2.index t = ![t.val / 8, t.val % 8]
    ∧ win0_3.index t = ![0, 0] ∧ win0_4.index t = ![t.val / 8, t.val % 8])

theorem tN (t : Fin cfg0.N) : t.val < 64 := lt_of_lt_of_eq t.isLt N_0

/-- The queries' block at a point. -/
theorem blk0 (t : Fin cfg0.N) (r : Fin 2048) (d : Fin 128) :
    (show FVec Ideal S2048x128 .f32 from iblk m c 0 t) (ix2 r d)
      = m ((c : Thread nD τ).loc main_arg0) (ix4 ⟨t.val / 8, by have := tN t; omega⟩ r ⟨t.val % 8, by omega⟩ d) := by
  show V m c main_v0 (((cfg0.win 0).blk t).view.emb (ix2 r d)) = _
  simp only [V, hostOps0, hostOps0_1, hostOps0_2, List.flatten_cons, List.flatten_nil, List.append_nil, List.cons_append, List.nil_append]
  entry_read
  pointwise []
  blk_ext [idx t]

/-- The keys' block at a point. -/
theorem blk1 (t : Fin cfg0.N) (r : Fin 2048) (d : Fin 128) :
    (show FVec Ideal S2048x128 .f32 from iblk m c 1 t) (ix2 r d)
      = m ((c : Thread nD τ).loc main_arg1) (ix4 ⟨t.val / 8, by have := tN t; omega⟩ r ⟨t.val % 8, by omega⟩ d) := by
  show V m c main_v1 (((cfg0.win 1).blk t).view.emb (ix2 r d)) = _
  simp only [V, hostOps0, hostOps0_1, hostOps0_2, List.flatten_cons, List.flatten_nil, List.append_nil, List.cons_append, List.nil_append]
  entry_read
  pointwise []
  blk_ext [idx t]

/-- The values' block at a point. -/
theorem blk2 (t : Fin cfg0.N) (r : Fin 2048) (d : Fin 128) :
    (show FVec Ideal S2048x128 .f32 from iblk m c 2 t) (ix2 r d)
      = m ((c : Thread nD τ).loc main_arg2) (ix4 ⟨t.val / 8, by have := tN t; omega⟩ r ⟨t.val % 8, by omega⟩ d) := by
  show V m c main_v2 (((cfg0.win 2).blk t).view.emb (ix2 r d)) = _
  simp only [V, hostOps0, hostOps0_1, hostOps0_2, List.flatten_cons, List.flatten_nil, List.append_nil, List.cons_append, List.nil_append]
  entry_read
  pointwise []
  blk_ext [idx t]

/-- The block indicators at a point. -/
theorem blk3 (t : Fin cfg0.N) (r : Fin 2048) (x : Fin 128) :
    (show FVec Ideal S2048x128 .bf16 from iblk m c 3 t) (ix2 r x) = if x.val = r.val / 256 then (1 : EReal) else 0 := by
  show V m c main_v7 (((cfg0.win 3).blk t).view.emb (ix2 r x)) = _
  have e : ((cfg0.win 3).blk t).view.emb (ix2 r x) = ix2 r x := by
    blk_ext [idx t]
  rw [e]
  simp only [V, hostOps0, hostOps0_1, hostOps0_2, List.flatten_cons, List.flatten_nil, List.append_nil, List.cons_append, List.nil_append]
  entry_read
  simp only [StableHlo.TRef.toBuf, StableHlo.TRef.ofBuf, cast_cast, cast_eq]
  refine Eq.trans (show _ = FloatOps.uitofp .bf16 (IntOp.cmpi .eq (fdiv (BitVec.ofNat 32 r.val)) (BitVec.ofNat 32 x.val)) from rfl) ?_
  rw [fdiv_eq, WordCmp.cmpi_eq_ofNat (by have := r.isLt; omega) (by have := x.isLt; omega)]
  by_cases h : x.val = r.val / 256
  · rw [if_pos h]
    simp [h]
    exact (show (((1#1 : BitVec 1).toNat : ℝ) : EReal) = 1 by simp)
  · rw [if_neg h]
    simp [Ne.symm h]
    exact (show (((0#1 : BitVec 1).toNat : ℝ) : EReal) = 0 by simp)

end Cert.KernelIdeal.Moba
-- ==== Proof.MobaPick.lean ====
module

public import proofs.«01_k».proof.Proof.MobaTile

@[expose] public section

noncomputable section

namespace Cert.MobaMath

open Idealize.ShloMosaic

/-- Block `a` is taken before block `b`: its gate is greater, or equal and the block earlier. -/
def Bef (g : Fin 8 → EReal) (a b : Fin 8) : Prop := g b < g a ∨ (g a = g b ∧ a < b)

/-- The three blocks taken first. -/
def Top3 (g : Fin 8 → EReal) (T : Finset (Fin 8)) : Prop := T.card = 3 ∧ ∀ a ∈ T, ∀ b, b ∉ T → Bef g a b

/-- The three blocks taken first are determined by the gates. -/
theorem top3_unique (g : Fin 8 → EReal) (T U : Finset (Fin 8)) (hT : Top3 g T) (hU : Top3 g U) : T = U := by
  by_contra hne
  have h1 : ¬ T ⊆ U := fun h => hne (Finset.eq_of_subset_of_card_le h (by rw [hT.1, hU.1]))
  have h2 : ¬ U ⊆ T := fun h => hne (Finset.eq_of_subset_of_card_le h (by rw [hT.1, hU.1])).symm
  obtain ⟨a, haT, haU⟩ := Finset.not_subset.mp h1
  obtain ⟨b, hbU, hbT⟩ := Finset.not_subset.mp h2
  rcases hT.2 a haT b hbT with h | ⟨h, hl⟩ <;> rcases hU.2 b hbU a haU with h' | ⟨h', hl'⟩
  · exact absurd (h.trans h') (lt_irrefl _)
  · exact absurd (h'.symm ▸ h) (lt_irrefl _)
  · exact absurd (h.symm ▸ h') (lt_irrefl _)
  · exact absurd (hl.trans hl') (lt_irrefl _)

/-- A stable sort of increasing positions breaks ties by the position. -/
theorem stable_ties {n : Nat} (B R : Fin n → Fin n → Bool) (h : ∀ a b, a < b → B b a = R b a) (l : List (Fin n)) (hl : l.Pairwise (· < ·)) :
    stableSort B l = stableSort R l := by
  induction l with
  | nil => rfl
  | cons a l ih =>
    rw [List.pairwise_cons] at hl
    unfold stableSort
    rw [ih hl.2]
    exact insertBefore_congr B R a _ fun b hb => h a b (hl.1 b ((perm_stableSort R l).mem_iff.mp hb))

/-- The order of the gates with ties broken by the block. -/
def ord (g : Fin 8 → EReal) : Fin 8 → Fin 8 → Bool := open Classical in
  fun k k' => decide (g k' < g k) || (decide (g k = g k') && decide (k < k'))

/-- That order is a strict total one. -/
theorem ord_total (g : Fin 8 → EReal) : StrictTotalBefore (ord g) := by
  classical
  have h := StrictTotalBefore.of_key_then_position (n := 8) (fun a b : EReal => decide (b < a)) g (by simp)
    (fun a b c => by simp only [decide_eq_true_eq]; exact fun h1 h2 => h2.trans h1)
    (fun a b => by
      simp only [decide_eq_true_eq]
      rcases lt_trichotomy b a with h | h | h
      · exact Or.inl h
      · exact Or.inr (Or.inl h.symm)
      · exact Or.inr (Or.inr h))
  unfold ord
  convert h

/-- The first three positions of the gates' stable sort are the three blocks taken first. -/
theorem sorted_top3 (g : Fin 8 → EReal) (B : Fin 8 → Fin 8 → Bool) (hB : ∀ a b, B a b = true ↔ g b < g a) :
    Top3 g {sortedFrom B 0, sortedFrom B 1, sortedFrom B 2} ∧ Function.Injective (sortedFrom B) := by
  have e : sortedFrom B = sortedFrom (ord g) := by
    have h : sortPositions 8 B = sortPositions 8 (ord g) := by
      refine stable_ties B (ord g) (fun a b hab => ?_) _ (List.pairwise_lt_finRange 8)
      have h1 : B b a = true ↔ ord g b a = true := by
        rw [hB]
        unfold ord
        simp only [Bool.or_eq_true, Bool.and_eq_true, decide_eq_true_eq]
        constructor
        · exact Or.inl
        · rintro (h | ⟨_, h⟩)
          · exact h
          · exact absurd (h.trans hab) (lt_irrefl _)
      exact Bool.eq_iff_iff.mpr h1
    funext k
    unfold sortedFrom
    rw [List.get_of_eq h]
    rfl
  rw [e]
  have hinj := sortedFrom_injective (ord g)
  refine ⟨⟨?_, ?_⟩, hinj⟩
  · rw [Finset.card_eq_three]
    exact ⟨_, _, _, hinj.ne (by decide), hinj.ne (by decide), hinj.ne (by decide), rfl⟩
  · intro a ha b hb
    obtain ⟨k, rfl⟩ := sortedFrom_surjective (ord g) b
    have hk : 3 ≤ k.val := by
      by_contra hk
      apply hb
      have : k = 0 ∨ k = 1 ∨ k = 2 := by
        rcases k with ⟨k, hk'⟩
        simp only [Fin.ext_iff]
        simp only at hk
        show k = 0 ∨ k = 1 ∨ k = 2
        omega
      rcases this with rfl | rfl | rfl <;> simp
    have ha' : ∃ i : Fin 8, i.val < 3 ∧ a = sortedFrom (ord g) i := by
      simp only [Finset.mem_insert, Finset.mem_singleton] at ha
      rcases ha with h | h | h
      exacts [⟨0, by decide, h⟩, ⟨1, by decide, h⟩, ⟨2, by decide, h⟩]
    obtain ⟨i, hi, rfl⟩ := ha'
    have hik : i < k := Fin.lt_def.mpr (by omega)
    have h1 := sortedFrom_noInversion (ord g) (ord g) (fun a b h => (ord_total g).asymm a b h) (fun _ _ h => h) (ord_total g).negTrans i k hik
    have h2 := ((ord_total g).total (sortedFrom (ord g) i) (sortedFrom (ord g) k) (hinj.ne hik.ne)).resolve_right (by rw [h1]; decide)
    unfold ord at h2
    simp only [Bool.or_eq_true, Bool.and_eq_true, decide_eq_true_eq] at h2
    exact h2

end Cert.MobaMath

namespace Cert.KernelIdeal.Moba

open Cert.KernelIdeal Cert.KernelIdeal.Gen Idealize.ShloMosaic Cert.MobaMath

/-- The reduction's start is minus infinity. -/
theorem nb_eq : nb = (⊥ : EReal) := word_bot
/-- The mask is minus infinity. -/
theorem mk_eq : mk = (⊥ : EReal) := rfl
/-- The queries' scale. -/
theorem scl_eq : scl = (((Real.sqrt 128)⁻¹ * (Real.log 2)⁻¹ : ℝ) : EReal) := rfl

/-- A choice by a bit of a decided statement. -/
theorem select_ofBool {α : Type} (p : Prop) [Decidable p] (a b : α) : Scalar.select (BitVec.ofBool (decide p)) a b = if p then a else b := by
  unfold Scalar.select
  by_cases h : p <;> simp [h]

/-- The minimum over the marked blocks' numbers is the first marked block. -/
theorem first_marked (p : Fin 8 → Bool) (τ : Fin 8) (h : p τ = true) (hmin : ∀ c, p c = true → τ ≤ c) :
    Finset.fold IntOp.minsi 2147483647#32 (fun x : Fin 8 => if p x = true then BitVec.ofNat 32 x.val else 8#32) Finset.univ = BitVec.ofNat 32 τ.val := by
  revert τ
  revert p
  decide +kernel

/-- The greatest gate is some block's, and no gate is greater. -/
theorem top1_spec (g : Fin 8 → EReal) : (∃ c, g c = top1 g) ∧ ∀ c, g c ≤ top1 g := by
  have hle : ∀ c, g c ≤ top1 g := fun c => (Finset.le_fold_max _).mpr (Or.inr ⟨c, Finset.mem_univ _, le_refl _⟩)
  refine ⟨?_, hle⟩
  obtain ⟨c, -, hc⟩ := Finset.exists_max_image Finset.univ g ⟨0, Finset.mem_univ _⟩
  refine ⟨c, le_antisymm (hle c) ((Finset.fold_max_le _).mpr ⟨?_, fun x hx => hc x hx⟩)⟩
  rw [nb_eq]
  exact bot_le

/-- A round takes the first block whose gate is the greatest. -/
theorem round_spec (g : Fin 8 → EReal) : ∃ τ : Fin 8, (∀ c, g c ≤ g τ) ∧ (∀ c, g c = g τ → τ ≤ c) ∧ top1 g = g τ ∧
    ∀ c, hit g c = BitVec.ofBool (decide (c = τ)) := by
  classical
  obtain ⟨⟨c0, h0⟩, hle⟩ := top1_spec g
  obtain ⟨τ, hτ, hmin⟩ := Finset.exists_min_image (Finset.univ.filter fun c => g c = top1 g) id ⟨c0, by simp [h0]⟩
  have hτ' : g τ = top1 g := by simpa using hτ
  refine ⟨τ, fun c => hτ'.symm ▸ hle c, fun c hc => hmin c (by simp [hc, hτ']), hτ'.symm, fun c => ?_⟩
  have ha : arg1 g = BitVec.ofNat 32 τ.val := by
    have h := first_marked (fun x => decide (g x = top1 g)) τ (by simp [hτ']) (fun c hc => hmin c (by simpa using hc))
    rw [← h]
    unfold arg1
    refine Finset.fold_congr fun x _ => ?_
    by_cases hx : g x = top1 g
    · rw [if_pos hx, if_pos (decide_eq_true hx)]
    · rw [if_neg hx, if_neg (by simpa using hx)]
  unfold hit
  rw [ha, WordCmp.cmpi_eq_ofNat (by have := c.isLt; omega) (by have := τ.isLt; omega)]
  simp only [Fin.ext_iff]

/-- The gates after a round: the block taken is at minus infinity. -/
theorem next_spec (g : Fin 8 → EReal) (τ : Fin 8) (h : ∀ c, hit g c = BitVec.ofBool (decide (c = τ))) (c : Fin 8) :
    next g c = if c = τ then ⊥ else g c := by
  unfold next
  rw [h, select_ofBool, nb_eq]

/-- The biases after a round: zero at the block taken. -/
theorem mark_spec (g b : Fin 8 → EReal) (τ : Fin 8) (h : ∀ c, hit g c = BitVec.ofBool (decide (c = τ))) (ht : ⊥ < top1 g) (c : Fin 8) :
    mark g b c = if c = τ then 0 else b c := by
  unfold mark
  rw [h, nb_eq]
  have e : IntOp.andi (BitVec.ofBool (decide (c = τ))) (BitVec.ofBool (decide (⊥ < top1 g))) = BitVec.ofBool (decide (c = τ)) := by
    have e1 : decide ((⊥ : EReal) < top1 g) = true := decide_eq_true ht
    rw [e1]
    cases decide (c = τ) <;> rfl
  rw [e, select_ofBool]

/-- The three rounds open the three blocks taken first. -/
theorem rounds_spec (g b : Fin 8 → EReal) (h4 : ∀ c : Fin 8, c.val < 4 → g c ≠ ⊥) :
    ∃ T : Finset (Fin 8), Top3 g T ∧ (∀ a ∈ T, g a ≠ ⊥) ∧ ∀ c, rounds g b c = if c ∈ T then 0 else b c := by
  classical
  obtain ⟨τ0, a0, b0, t0, h0⟩ := round_spec g
  have n0 := next_spec g τ0 h0
  obtain ⟨τ1, a1, b1, t1, h1⟩ := round_spec (next g)
  have n1 := next_spec (next g) τ1 h1
  obtain ⟨τ2, a2, b2, t2, h2⟩ := round_spec (next (next g))
  have p0 : g τ0 ≠ ⊥ := fun h => h4 0 (by decide) (le_bot_iff.mp (h ▸ a0 0))
  have p1 : next g τ1 ≠ ⊥ := by
    intro h
    have : ∀ τ0 : Fin 8, ∃ c : Fin 8, c.val < 4 ∧ c ≠ τ0 := by decide
    obtain ⟨c, hc, hc0⟩ := this τ0
    have := a1 c
    rw [h, n0, if_neg hc0] at this
    exact h4 c hc (le_bot_iff.mp this)
  have p2 : next (next g) τ2 ≠ ⊥ := by
    intro h
    have : ∀ τ0 τ1 : Fin 8, ∃ c : Fin 8, c.val < 4 ∧ c ≠ τ0 ∧ c ≠ τ1 := by decide
    obtain ⟨c, hc, hc0, hc1⟩ := this τ0 τ1
    have := a2 c
    rw [h, n1, if_neg hc1, n0, if_neg hc0] at this
    exact h4 c hc (le_bot_iff.mp this)
  have d10 : τ1 ≠ τ0 := fun h => p1 (by rw [n0, if_pos h])
  have d21 : τ2 ≠ τ1 := fun h => p2 (by rw [n1, if_pos h])
  have d20 : τ2 ≠ τ0 := fun h => p2 (by rw [n1, if_neg d21, n0, if_pos h])
  have g1 : next g τ1 = g τ1 := by rw [n0, if_neg d10]
  have g2 : next (next g) τ2 = g τ2 := by rw [n1, if_neg d21, n0, if_neg d20]
  refine ⟨{τ0, τ1, τ2}, ⟨Finset.card_eq_three.mpr ⟨_, _, _, d10.symm, d20.symm, d21.symm, rfl⟩, ?_⟩, ?_, ?_⟩
  · intro a ha c hc
    simp only [Finset.mem_insert, Finset.mem_singleton, not_or] at ha hc
    obtain ⟨c0, c1, c2⟩ := hc
    rcases ha with rfl | rfl | rfl
    · rcases (a0 c).lt_or_eq with h | h
      · exact Or.inl h
      · exact Or.inr ⟨h.symm, lt_of_le_of_ne (b0 c h) (Ne.symm c0)⟩
    · have e : next g c = g c := by rw [n0, if_neg c0]
      have hle := a1 c
      rw [e, g1] at hle
      rcases hle.lt_or_eq with h | h
      · exact Or.inl h
      · exact Or.inr ⟨h.symm, lt_of_le_of_ne (b1 c (by rw [e, g1, h])) (Ne.symm c1)⟩
    · have e : next (next g) c = g c := by rw [n1, if_neg c1, n0, if_neg c0]
      have hle := a2 c
      rw [e, g2] at hle
      rcases hle.lt_or_eq with h | h
      · exact Or.inl h
      · exact Or.inr ⟨h.symm, lt_of_le_of_ne (b2 c (by rw [e, g2, h])) (Ne.symm c2)⟩
  · intro a ha
    simp only [Finset.mem_insert, Finset.mem_singleton] at ha
    rcases ha with rfl | rfl | rfl
    exacts [p0, g1 ▸ p1, g2 ▸ p2]
  · intro c
    unfold rounds
    rw [mark_spec _ _ τ2 h2 (by rw [t2]; exact bot_lt_iff_ne_bot.mpr p2), mark_spec _ _ τ1 h1 (by rw [t1]; exact bot_lt_iff_ne_bot.mpr p1),
      mark_spec _ _ τ0 h0 (by rw [t0]; exact bot_lt_iff_ne_bot.mpr p0)]
    by_cases e0 : c = τ0 <;> by_cases e1 : c = τ1 <;> by_cases e2 : c = τ2 <;> simp [e0, e1, e2]

end Cert.KernelIdeal.Moba
-- ==== Proof.MobaRow.lean ====
module

public import proofs.«01_k».proof.Proof.MobaPick

@[expose] public section

noncomputable section

namespace Cert.KernelIdeal.Moba

open Cert.KernelIdeal Cert.KernelIdeal.Gen Idealize.ShloMosaic Cert.MobaMath

/-- The gates of a query of block `n`: its products with the past blocks' mean keys, minus infinity at the others. -/
def gam (Q : Fin 128 → ℝ) (K : ℕ → Fin 128 → ℝ) (n : ℕ) (c : Fin 8) : EReal :=
  if c.val < n then ((∑ d : Fin 128, ((∑ j : Fin 256, K (256 * c.val + j.val) d) / 256) * Q d : ℝ) : EReal) else ⊥

open Classical in
/-- The three blocks a query takes first. -/
def picked (Q : Fin 128 → ℝ) (K : ℕ → Fin 128 → ℝ) (n : ℕ) : Finset (Fin 8) :=
  {sortedFrom (fun a b => decide (gam Q K n b < gam Q K n a)) 0, sortedFrom (fun a b => decide (gam Q K n b < gam Q K n a)) 1,
    sortedFrom (fun a b => decide (gam Q K n b < gam Q K n a)) 2}

/-- The past blocks a query sees. -/
def Open (Q : Fin 128 → ℝ) (K : ℕ → Fin 128 → ℝ) (n b : ℕ) : Prop := ∃ c ∈ picked Q K n, c.val = b ∧ c.val < n

instance (Q : Fin 128 → ℝ) (K : ℕ → Fin 128 → ℝ) (n : ℕ) : DecidablePred (Open Q K n) := Classical.decPred _

/-- What the attention leaves of a query at row `r` of block `n`. -/
def result (Q : Fin 128 → ℝ) (K : ℕ → Fin 128 → ℝ) (V : ℕ → EReal) (n r : ℕ) : EReal :=
  can (Vis (Open Q K n) (256 * n + r)) (fun j => (∑ d, Q d * K j d) * (Real.sqrt 128)⁻¹) V

/-- The blocks picked are the three taken first. -/
theorem picked_top3 (Q : Fin 128 → ℝ) (K : ℕ → Fin 128 → ℝ) (n : ℕ) : Top3 (gam Q K n) (picked Q K n) := by
  classical
  have e : picked Q K n = {sortedFrom (fun a b => decide (gam Q K n b < gam Q K n a)) 0,
      sortedFrom (fun a b => decide (gam Q K n b < gam Q K n a)) 1, sortedFrom (fun a b => decide (gam Q K n b < gam Q K n a)) 2} := rfl
  rw [e]
  exact (sorted_top3 (gam Q K n) _ fun a b => by simp).1

/-- A gate above minus infinity is a past block's. -/
theorem gam_ne_bot (Q : Fin 128 → ℝ) (K : ℕ → Fin 128 → ℝ) (n : ℕ) (c : Fin 8) : gam Q K n c ≠ ⊥ ↔ c.val < n := by
  unfold gam
  split
  · exact ⟨fun _ => by assumption, fun _ => EReal.coe_ne_bot _⟩
  · rename_i h
    exact ⟨fun h' => absurd rfl h', fun h' => absurd h' h⟩

/-- With at most three past blocks every one of them is picked. -/
theorem open_low (Q : Fin 128 → ℝ) (K : ℕ → Fin 128 → ℝ) (n : ℕ) (hn : n ≤ 3) (c : Fin 8) (hc : c.val < n) : Open Q K n c.val := by
  refine ⟨c, ?_, rfl, hc⟩
  by_contra h
  have hT := picked_top3 Q K n
  have hs : picked Q K n ⊆ (Finset.univ.filter fun a : Fin 8 => a.val < n).erase c := by
    intro a ha
    refine Finset.mem_erase.mpr ⟨fun e => h (e ▸ ha), ?_⟩
    simp only [Finset.mem_filter, Finset.mem_univ, true_and]
    refine (gam_ne_bot Q K n a).mp ?_
    have hcb := (gam_ne_bot Q K n c).mpr hc
    rcases hT.2 a ha c h with h' | ⟨h', -⟩
    · exact ne_of_gt (lt_of_le_of_lt bot_le h')
    · exact h' ▸ hcb
  have h1 := Finset.card_le_card hs
  rw [hT.1, Finset.card_erase_of_mem (by simp [hc])] at h1
  have h2 : (Finset.univ.filter fun a : Fin 8 => a.val < n).card ≤ 3 := by
    interval_cases n <;> decide
  omega

/-- The scaled score, with the bias of the key's block. -/
theorem score_eq (q b : Fin 128 → Ideal .f32) (k : Fin 256 → Ideal .f32) (Q K : Fin 128 → ℝ) (c : ℕ) (hc : c < 128)
    (hq : ∀ d, q d = (Q d : EReal)) (hk : ∀ x : Fin 128, k ⟨x.val, by omega⟩ = (K x : EReal))
    (hh : ∀ x : Fin 128, k ⟨128 + x.val, by omega⟩ = if x.val = c then (1 : EReal) else 0) :
    score q b k = (((∑ d, Q d * K d) * (Real.sqrt 128)⁻¹ * (Real.log 2)⁻¹ : ℝ) : EReal) + b ⟨c, hc⟩ := by
  unfold score
  refine congrArg₂ (fun a b : EReal => a + b) ?_ ?_
  · rw [Finset.sum_mul, Finset.sum_mul, coe_sum]
    refine Finset.sum_congr rfl fun d _ => ?_
    rw [hq, hk, scl_eq]
    refine (congrArg (fun a : EReal => a * (K d : EReal)) (EReal.coe_mul _ _).symm).trans ?_
    rw [← EReal.coe_mul]
    congr 1
    ring
  · refine (Finset.sum_eq_single ⟨c, hc⟩ (fun x _ hx => ?_) (fun h => absurd (Finset.mem_univ _) h)).trans ?_
    · rw [hh, if_neg (fun h => hx (Fin.ext h))]
      exact mul_zero _
    · rw [hh, if_pos rfl]
      exact mul_one _

/-- The own block's mask. -/
theorem own_eq (q b : Fin 128 → Ideal .f32) (k : Fin 256 → Fin 256 → Ideal .f32) (r j : Fin 256) :
    own q b k r j = if j.val ≤ r.val then score q b (k j) else (⊥ : EReal) := by
  unfold own
  rw [WordCmp.cmpi_sle_ofNat (by have := j.isLt; omega) (by have := r.isLt; omega), select_ofBool, mk_eq]

/-- What a query block past the first leaves. -/
theorem attn_eq {N : ℕ} (n : ℕ) (hn : n < 8) (r : Fin 256) (hN : N = 256 * n) (q b : Fin 128 → Ideal .f32) (ko : Fin 256 → Fin 256 → Ideal .f32)
    (kp : Fin N → Fin 256 → Ideal .f32) (vo : Fin 256 → Ideal .f32) (vp : Fin N → Ideal .f32)
    (Q : Fin 128 → ℝ) (K : ℕ → Fin 128 → ℝ) (V : ℕ → EReal) (hq : ∀ d, q d = (Q d : EReal))
    (hko : ∀ (j : Fin 256) (x : Fin 128), ko j ⟨x.val, by omega⟩ = (K (256 * n + j.val) x : EReal))
    (hkh : ∀ (j : Fin 256) (x : Fin 128), ko j ⟨128 + x.val, by omega⟩ = if x.val = (256 * n + j.val) / 256 then (1 : EReal) else 0)
    (hpo : ∀ (j : Fin N) (x : Fin 128), kp j ⟨x.val, by omega⟩ = (K j.val x : EReal))
    (hph : ∀ (j : Fin N) (x : Fin 128), kp j ⟨128 + x.val, by omega⟩ = if x.val = j.val / 256 then (1 : EReal) else 0)
    (hvo : ∀ j : Fin 256, vo j = V (256 * n + j.val)) (hvp : ∀ j : Fin N, vp j = V j.val)
    (hb : ∀ x : Fin 128, x.val ≤ n → b x = if Open Q K n x.val ∨ x.val = n then (0 : EReal) else ⊥) :
    attn (own q b ko r) (fun j => score q b (kp j)) vo vp = result Q K V n r.val := by
  refine Eq.trans ?_ (tile n r.val r.isLt hN (Open Q K n) (own q b ko r) (fun j => score q b (kp j)) vo vp
    (fun j => (∑ d, Q d * K j d) * (Real.sqrt 128)⁻¹) V (fun j => ?_) (fun j => ?_) hvo hvp)
  · unfold attn
    rw [nb_eq]
    rfl
  · rw [own_eq, score_eq q b (ko j) Q (K (256 * n + j.val)) n (by omega) hq (hko j) (fun x => by rw [hkh]; congr 2; omega)]
    refine if_congr Iff.rfl ?_ rfl
    rw [hb _ (le_refl n), if_pos (Or.inr rfl), add_zero]
  · have hj := j.isLt
    rw [score_eq q b (kp j) Q (K j.val) (j.val / 256) (by omega) hq (hpo j) (hph j), hb _ (by simp only; omega)]
    have hne : ¬ (j.val / 256 = n) := by omega
    simp only [hne, or_false]
    split
    · rw [add_zero]
    · exact EReal.add_bot _

/-- What the first query block leaves. -/
theorem attn0_eq (r : Fin 256) (q b : Fin 128 → Ideal .f32) (ko : Fin 256 → Fin 256 → Ideal .f32) (vo : Fin 256 → Ideal .f32)
    (Q : Fin 128 → ℝ) (K : ℕ → Fin 128 → ℝ) (V : ℕ → EReal) (hq : ∀ d, q d = (Q d : EReal))
    (hko : ∀ (j : Fin 256) (x : Fin 128), ko j ⟨x.val, by omega⟩ = (K j.val x : EReal))
    (hkh : ∀ (j : Fin 256) (x : Fin 128), ko j ⟨128 + x.val, by omega⟩ = if x.val = j.val / 256 then (1 : EReal) else 0)
    (hvo : ∀ j : Fin 256, vo j = V j.val) (hb : b 0 = (0 : EReal)) :
    attn0 (own q b ko r) vo = result Q K V 0 r.val := by
  unfold result
  rw [Nat.mul_zero, Nat.zero_add]
  refine Eq.trans ?_ (tile0 r.val r.isLt (Open Q K 0) (own q b ko r) vo (fun j => (∑ d, Q d * K j d) * (Real.sqrt 128)⁻¹) V (fun j => ?_) hvo)
  · unfold attn0
    rw [nb_eq]
    rfl
  · rw [own_eq, score_eq q b (ko j) Q (K j.val) 0 (by omega) hq (hko j) (fun x => by rw [hkh]; congr 2; omega)]
    refine if_congr Iff.rfl ?_ rfl
    exact (congrArg _ hb).trans (add_zero _)

/-- The biases of an early query block. -/
theorem low_eq (Q : Fin 128 → ℝ) (K : ℕ → Fin 128 → ℝ) (n : ℕ) (hn : n ≤ 3) (x : Fin 128) (hx : x.val ≤ n) :
    low (BitVec.ofNat 32 n) x = if Open Q K n x.val ∨ x.val = n then (0 : EReal) else ⊥ := by
  unfold low
  rw [WordCmp.cmpi_sle_ofNat (by have := x.isLt; omega) (by omega), select_ofBool, mk_eq, if_pos hx, if_pos]
  rcases hx.lt_or_eq with h | h
  · exact Or.inl (open_low Q K n hn ⟨x.val, by omega⟩ h)
  · exact Or.inr h

/-- The identity the biases are turned by. -/
theorem eye_eq (r j : Fin 256) : k0_pay15 (F := Ideal) (ix2 r j) = if r = j then (1 : EReal) else 0 := by
  pointwise [k0_pay15]
  rw [WordCmp.cmpi_eq_ofNat (by have := r.isLt; omega) (by have := j.isLt; omega)]
  by_cases h : r = j
  · subst h
    rw [if_pos rfl]
    simp
    exact (show (((1#32 : BitVec 32).toInt : ℝ) : EReal) = 1 by simp)
  · rw [if_neg h]
    simp [Fin.val_ne_of_ne h]
    exact (show (((0#32 : BitVec 32).toInt : ℝ) : EReal) = 0 by simp)

/-- The biases of a query block past the third. -/
theorem sel_eq (n : ℕ) (h4 : 4 ≤ n) (h8 : n < 8) (q : Vec Ideal S256x128 .f32) (km : Vec Ideal S8x128 .f32) (r : Fin 256)
    (Q : Fin 128 → ℝ) (K : ℕ → Fin 128 → ℝ) (hq : ∀ d, q (ix2 r d) = (Q d : EReal))
    (hkm : ∀ (c : Fin 8) (d : Fin 128), km (ix2 c d) = (((∑ j : Fin 256, K (256 * c.val + j.val) d) / 256 : ℝ) : EReal)) (x : Fin 128) (hx : x.val ≤ n) :
    selV (BitVec.ofNat 32 n) q km (ix2 r x) = if Open Q K n x.val ∨ x.val = n then (0 : EReal) else ⊥ := by
  rw [sel_at]
  have hx8 : x.val < 8 := by omega
  refine (Finset.sum_eq_single r (fun j _ hj => ?_) (fun h => absurd (Finset.mem_univ _) h)).trans ?_
  · rw [eye_eq, if_neg (Ne.symm hj)]
    exact zero_mul _
  rw [eye_eq, if_pos rfl, dif_pos hx8]
  refine (one_mul _).trans ?_
  have hg : (gated (BitVec.ofNat 32 n) (fun d => q (ix2 r d)) fun c d => km (ix2 c d)) = gam Q K n := by
    funext c
    unfold gated gam
    rw [WordCmp.cmpi_slt_ofNat (by have := c.isLt; omega) (by omega), select_ofBool, nb_eq]
    refine if_congr Iff.rfl ?_ rfl
    rw [coe_sum]
    refine Finset.sum_congr rfl fun d _ => ?_
    dsimp only
    rw [hkm, hq, EReal.coe_mul]
  rw [hg]
  obtain ⟨T, hT, hTb, hr⟩ := rounds_spec (gam Q K n) (start (BitVec.ofNat 32 n)) (fun c hc => (gam_ne_bot Q K n c).mpr (by omega))
  have hTp := top3_unique _ _ _ hT (picked_top3 Q K n)
  rw [hr]
  unfold start
  rw [WordCmp.cmpi_eq_ofNat (by omega) (by omega), select_ofBool, mk_eq]
  by_cases h1 : (⟨x.val, hx8⟩ : Fin 8) ∈ T
  · rw [if_pos h1, if_pos]
    exact Or.inl ⟨_, hTp ▸ h1, rfl, (gam_ne_bot Q K n _).mp (hTb _ h1)⟩
  · rw [if_neg h1]
    refine if_congr ?_ rfl rfl
    constructor
    · exact Or.inr
    · rintro (⟨c, hc, he, _⟩ | h)
      · exact absurd (hTp ▸ (show (⟨x.val, hx8⟩ : Fin 8) = c from Fin.ext he.symm) ▸ hc) h1
      · exact h

end Cert.KernelIdeal.Moba
-- ==== Proof.MobaFinal.lean ====
module

public import proofs.«01_k».proof.Proof.MobaRead
public import proofs.«01_k».proof.Proof.MobaRow

@[expose] public section

set_option maxRecDepth 16384

noncomputable section

namespace Cert.KernelIdeal.Moba

open Cert.KernelIdeal Cert.KernelIdeal.Gen Idealize.ShloMosaic Idealize.ShloMosaic.TcCoe Idealize.SL.Sem
open Idealize.ShloMosaic.Pipeline (Dat)

/-- A head's rows over the reals, by position. -/
def rows (q : FVec Ideal S8x2048x8x128 .f32) (b h : Fin 8) (i : ℕ) (d : Fin 128) : ℝ := EReal.toReal (q (ix4 b ⟨i % 2048, by omega⟩ h d))

/-- A head's column of values, by position. -/
def col (v : FVec Ideal S8x2048x8x128 .f32) (b h : Fin 8) (l : Fin 128) (i : ℕ) : EReal := v (ix4 b ⟨i % 2048, by omega⟩ h l)

/-- What the attention leaves at a batch, a head, a position and a lane. -/
def out (q k v : FVec Ideal S8x2048x8x128 .f32) (b : Fin 8) (t : Fin 2048) (h : Fin 8) (l : Fin 128) : EReal :=
  result (rows q b h t.val) (rows k b h) (col v b h l) (t.val / 256) (t.val % 256)

/-- The array the call leaves. -/
def arr (q k v : FVec Ideal S8x2048x8x128 .f32) : FVec Ideal S16384x1024 .bf16 := fun i =>
  out q k v ⟨(i 0).val / 2048, by have h : (i 0).val < 16384 := (i 0).isLt; omega⟩ ⟨(i 0).val % 2048, by omega⟩
    ⟨(i 1).val / 128, by have h : (i 1).val < 1024 := (i 1).isLt; omega⟩ ⟨(i 1).val % 128, by omega⟩

/-- A load of 256 rows. -/
theorem ld_at (Qb : S2048x128.Idx → Ideal .f32) (off : ℕ) (p) (r : Fin 256) (d : Fin 128) (h : off + r.val < 2048) :
    View.ld (Val := Elt Ideal) (e' := .f32) Qb (Rect.unit (s := S2048x128) ![off, 0] ![256, 128] p) (ix2 r d) = Qb (ix2 ⟨off + r.val, h⟩ d) := by
  refine congrArg Qb (funext fun a => Fin.ext ?_)
  refine (idx_at _ _ _ _ a).trans ?_
  fin_cases a
  · rfl
  · exact Nat.zero_add _

/-- A query block past the first, over the scratches' contents. -/
theorem piece {N : ℕ} (n off : ℕ) (hn : n < 8) (ho : off = 256 * n) (hN : N = 256 * n) (r : Fin 256) (l : Fin 128)
    (Qb : S2048x128.Idx → Ideal .f32) (kk hh vv : S2048x128.Idx → Ideal .bf16) (Q K : ℕ → Fin 128 → ℝ) (V : ℕ → EReal)
    (hQ : ∀ (i : Fin 2048) (d : Fin 128), Qb (ix2 i d) = (Q i.val d : EReal)) (hK : ∀ (i : Fin 2048) (d : Fin 128), kk (ix2 i d) = (K i.val d : EReal))
    (hH : ∀ (i : Fin 2048) (x : Fin 128), hh (ix2 i x) = if x.val = i.val / 256 then (1 : EReal) else 0)
    (hV : ∀ i : Fin 2048, vv (ix2 i l) = V i.val) (b : Fin 128 → Ideal .f32)
    (hb : ∀ x : Fin 128, x.val ≤ n → b x = if Open (Q (256 * n + r.val)) K n x.val ∨ x.val = n then (0 : EReal) else ⊥) (pq p1 p2 p3 p4 p5 p6 p7) :
    attn (own (fun d => View.ld (Val := Elt Ideal) (e' := .f32) Qb (Rect.unit (s := S2048x128) ![off, 0] ![256, 128] pq) (ix2 r d)) b
        (fun j d => ((View.whole cc0_scratch0).readCov (Val := Elt Ideal) [⟨Rect.unit (s := S2048x256) ![0, 128] ![2048, 128] p1, hh⟩, ⟨Rect.unit (s := S2048x256) ![0, 0] ![2048, 128] p2, kk⟩]
          (Rect.unit (s := S2048x256) ![off, 0] ![256, 256] p3).toLoadRect) (ix2 j d)) r)
      (fun j => score (fun d => View.ld (Val := Elt Ideal) (e' := .f32) Qb (Rect.unit (s := S2048x128) ![off, 0] ![256, 128] pq) (ix2 r d)) b
        (fun d => ((View.whole cc0_scratch0).readCov (Val := Elt Ideal) [⟨Rect.unit (s := S2048x256) ![0, 128] ![2048, 128] p1, hh⟩, ⟨Rect.unit (s := S2048x256) ![0, 0] ![2048, 128] p2, kk⟩]
          (Rect.unit (s := S2048x256) ![0, 0] ![N, 256] p4).toLoadRect) (ix2 j d)))
      (fun j => ((View.whole cc0_scratch1).readCov (Val := Elt Ideal) [⟨Rect.unit (s := S2048x128) ![0, 0] ![2048, 128] p5, vv⟩]
          (Rect.unit (s := S2048x128) ![off, 0] ![256, 128] p6).toLoadRect) (ix2 j l))
      (fun j => ((View.whole cc0_scratch1).readCov (Val := Elt Ideal) [⟨Rect.unit (s := S2048x128) ![0, 0] ![2048, 128] p5, vv⟩]
          (Rect.unit (s := S2048x128) ![0, 0] ![N, 128] p7).toLoadRect) (ix2 j l))
      = result (Q (256 * n + r.val)) K V n r.val := by
  subst ho
  have hr := r.isLt
  refine attn_eq n hn r hN _ b _ _ _ _ _ K V (fun d => ?_) (fun j x => ?_) (fun j x => ?_) (fun j x => ?_) (fun j x => ?_) (fun j => ?_) (fun j => ?_) hb
  · exact (ld_at Qb _ pq r d (by omega)).trans (hQ _ d)
  · exact (ka_lo _ _ p1 p2 p3 kk hh j x (by omega) _).trans (hK _ x)
  · exact (ka_hi _ _ p1 p2 p3 kk hh j x (by omega) _).trans (hH _ x)
  · exact (ka_lo _ _ p1 p2 p4 kk hh j x (by omega) _).trans ((hK _ x).trans (by simp only [Nat.zero_add]))
  · exact (ka_hi _ _ p1 p2 p4 kk hh j x (by omega) _).trans ((hH _ x).trans (by simp only [Nat.zero_add]))
  · exact (vb_at _ _ p5 p6 vv j l (by omega)).trans (hV _)
  · exact (vb_at _ _ p5 p7 vv j l (by omega)).trans ((hV _).trans (by simp only [Nat.zero_add]))

/-- The first query block, over the scratches' contents. -/
theorem piece0 (r : Fin 256) (l : Fin 128)
    (Qb : S2048x128.Idx → Ideal .f32) (kk hh vv : S2048x128.Idx → Ideal .bf16) (Q K : ℕ → Fin 128 → ℝ) (V : ℕ → EReal)
    (hQ : ∀ (i : Fin 2048) (d : Fin 128), Qb (ix2 i d) = (Q i.val d : EReal)) (hK : ∀ (i : Fin 2048) (d : Fin 128), kk (ix2 i d) = (K i.val d : EReal))
    (hH : ∀ (i : Fin 2048) (x : Fin 128), hh (ix2 i x) = if x.val = i.val / 256 then (1 : EReal) else 0)
    (hV : ∀ i : Fin 2048, vv (ix2 i l) = V i.val) (b : Fin 128 → Ideal .f32) (hb : b 0 = (0 : EReal)) (pq p1 p2 p3 p5 p6) :
    attn0 (own (fun d => View.ld (Val := Elt Ideal) (e' := .f32) Qb (Rect.unit (s := S2048x128) ![0, 0] ![256, 128] pq) (ix2 r d)) b
        (fun j d => ((View.whole cc0_scratch0).readCov (Val := Elt Ideal) [⟨Rect.unit (s := S2048x256) ![0, 128] ![2048, 128] p1, hh⟩, ⟨Rect.unit (s := S2048x256) ![0, 0] ![2048, 128] p2, kk⟩]
          (Rect.unit (s := S2048x256) ![0, 0] ![256, 256] p3).toLoadRect) (ix2 j d)) r)
      (fun j => ((View.whole cc0_scratch1).readCov (Val := Elt Ideal) [⟨Rect.unit (s := S2048x128) ![0, 0] ![2048, 128] p5, vv⟩]
          (Rect.unit (s := S2048x128) ![0, 0] ![256, 128] p6).toLoadRect) (ix2 j l))
      = result (Q r.val) K V 0 r.val := by
  have hr := r.isLt
  refine attn0_eq r _ b _ _ _ K V (fun d => ?_) (fun j x => ?_) (fun j x => ?_) (fun j => ?_) hb
  · exact (ld_at Qb _ pq r d (by omega)).trans ((hQ _ d).trans (by simp only [Nat.zero_add]))
  · exact (ka_lo _ _ p1 p2 p3 kk hh j x (by omega) _).trans ((hK _ x).trans (by simp only [Nat.zero_add]))
  · exact (ka_hi _ _ p1 p2 p3 kk hh j x (by omega) _).trans ((hH _ x).trans (by simp only [Nat.zero_add]))
  · exact (vb_at _ _ p5 p6 vv j l (by omega)).trans ((hV _).trans (by simp only [Nat.zero_add]))

/-- The block means, over the keys' block. -/
theorem km_at (Kb : S2048x128.Idx → Ideal .f32) (K : ℕ → Fin 128 → ℝ) (hK : ∀ (i : Fin 2048) (d : Fin 128), Kb (ix2 i d) = (K i.val d : EReal))
    (z : S8x128.Idx → Ideal .f32) (q0 q1 q2 q3 q4 q5 q6 q7 qz p o0 o1 o2 o3 o4 o5 o6 o7) (a : Fin 8) (d : Fin 128) :
    ((View.whole cc0_scratch2).readCov (Val := Elt Ideal) [⟨Rect.unit (s := S8x128) ![7, 0] ![1, 128] q7, k0_pay6 (View.ld (Val := Elt Ideal) (e' := .f32) Kb (Rect.unit (s := S2048x128) ![1792, 0] ![256, 128] o7))⟩,
      ⟨Rect.unit (s := S8x128) ![6, 0] ![1, 128] q6, k0_pay6 (View.ld (Val := Elt Ideal) (e' := .f32) Kb (Rect.unit (s := S2048x128) ![1536, 0] ![256, 128] o6))⟩,
      ⟨Rect.unit (s := S8x128) ![5, 0] ![1, 128] q5, k0_pay6 (View.ld (Val := Elt Ideal) (e' := .f32) Kb (Rect.unit (s := S2048x128) ![1280, 0] ![256, 128] o5))⟩,
      ⟨Rect.unit (s := S8x128) ![4, 0] ![1, 128] q4, k0_pay6 (View.ld (Val := Elt Ideal) (e' := .f32) Kb (Rect.unit (s := S2048x128) ![1024, 0] ![256, 128] o4))⟩,
      ⟨Rect.unit (s := S8x128) ![3, 0] ![1, 128] q3, k0_pay6 (View.ld (Val := Elt Ideal) (e' := .f32) Kb (Rect.unit (s := S2048x128) ![768, 0] ![256, 128] o3))⟩,
      ⟨Rect.unit (s := S8x128) ![2, 0] ![1, 128] q2, k0_pay6 (View.ld (Val := Elt Ideal) (e' := .f32) Kb (Rect.unit (s := S2048x128) ![512, 0] ![256, 128] o2))⟩,
      ⟨Rect.unit (s := S8x128) ![1, 0] ![1, 128] q1, k0_pay6 (View.ld (Val := Elt Ideal) (e' := .f32) Kb (Rect.unit (s := S2048x128) ![256, 0] ![256, 128] o1))⟩,
      ⟨Rect.unit (s := S8x128) ![0, 0] ![1, 128] q0, k0_pay6 (View.ld (Val := Elt Ideal) (e' := .f32) Kb (Rect.unit (s := S2048x128) ![0, 0] ![256, 128] o0))⟩,
      ⟨Rect.unit (s := S8x128) ![0, 0] ![8, 128] qz, z⟩] (Rect.unit (s := S8x128) ![0, 0] ![8, 128] p).toLoadRect) (ix2 a d)
      = (((∑ j : Fin 256, K (256 * a.val + j.val) d) / 256 : ℝ) : EReal) := by
  rw [km_rows]
  have h : ∀ (off : ℕ) (o) (ho : off + 256 ≤ 2048), k0_pay6 (View.ld (Val := Elt Ideal) (e' := .f32) Kb (Rect.unit (s := S2048x128) ![off, 0] ![256, 128] o)) (ix2 0 d)
      = (((∑ j : Fin 256, K (off + j.val) d) / 256 : ℝ) : EReal) := fun off o ho =>
    mean_row _ d _ fun j => (ld_at Kb off o j d (by omega)).trans (hK _ d)
  fin_cases a
  · exact (h 0 o0 (by decide))
  · exact (h 256 o1 (by decide))
  · exact (h 512 o2 (by decide))
  · exact (h 768 o3 (by decide))
  · exact (h 1024 o4 (by decide))
  · exact (h 1280 o5 (by decide))
  · exact (h 1536 o6 (by decide))
  · exact (h 1792 o7 (by decide))

/-- The result at row `r` of query block `n`. -/
theorem out_eq (q k v : FVec Ideal S8x2048x8x128 .f32) (b : Fin 8) (t : Fin 2048) (h : Fin 8) (l l' : Fin 128) (n : ℕ) (r : Fin 256)
    (ht : t.val = 256 * n + r.val) (hl : l'.val = l.val) :
    out q k v b t h l' = result (rows q b h (256 * n + r.val)) (rows k b h) (col v b h l) n r.val := by
  have hr := r.isLt
  have ht' := t.isLt
  obtain rfl : l' = l := Fin.ext hl
  have e1 : t.val / 256 = n := by omega
  have e2 : t.val % 256 = r.val := by omega
  unfold out
  rw [e1, e2, ht]

/-- The keys' payload passes its block on. -/
theorem pass2 (X : FVec Ideal S2048x128 .f32) (i : Fin 2048) (d : Fin 128) : (k0_pay2 (F := Ideal) X (ix2 i d) : EReal) = X (ix2 i d) := by pointwise [k0_pay2]

/-- So does the one of the indicators. -/
theorem pass3 (X : FVec Ideal S2048x128 .bf16) (i : Fin 2048) (d : Fin 128) : k0_pay3 (F := Ideal) X (ix2 i d) = X (ix2 i d) := by pointwise [k0_pay3]

/-- So does the one of the values. -/
theorem pass4 (X : FVec Ideal S2048x128 .f32) (i : Fin 2048) (d : Fin 128) : (k0_pay4 (F := Ideal) X (ix2 i d) : EReal) = X (ix2 i d) := by pointwise [k0_pay4]

variable (m : (ℓ : Loc nD τ sig) → Buf (Elt Ideal) ℓ) (c : Dev nD)

theorem final (hq : ∀ i, (m ((c : Thread nD τ).loc main_arg0) i : EReal) = ((m ((c : Thread nD τ).loc main_arg0) i : EReal).toReal : EReal))
    (hk : ∀ i, (m ((c : Thread nD τ).loc main_arg1) i : EReal) = ((m ((c : Thread nD τ).loc main_arg1) i : EReal).toReal : EReal)) :
    (dats m 0 c).arrAt 4 cfg0.N = arr (m ((c : Thread nD τ).loc main_arg0)) (m ((c : Thread nD τ).loc main_arg1)) (m ((c : Thread nD τ).loc main_arg2)) := by
  refine (dats m 0 c).arrAt_eq_of_covers 4 _ (by decide +kernel) fun t hf y => ?_
  have hR : arr (m ((c : Thread nD τ).loc main_arg0)) (m ((c : Thread nD τ).loc main_arg1)) (m ((c : Thread nD τ).loc main_arg2)) (((cfg0.win 4).blk t).view.emb y)
      = out (m ((c : Thread nD τ).loc main_arg0)) (m ((c : Thread nD τ).loc main_arg1)) (m ((c : Thread nD τ).loc main_arg2)) ⟨t.val / 8, by have := tN t; omega⟩
        (y 0) ⟨t.val % 8, by omega⟩ (y 1) := by
    have h0 : ((((cfg0.win 4).blk t).view.emb y) 0).val = t.val / 8 * 2048 + (y 0).val := by
      blk_simp [idx t]
    have h1 : ((((cfg0.win 4).blk t).view.emb y) 1).val = t.val % 8 * 128 + (y 1).val := by
      blk_simp [idx t]
    unfold arr
    have y0 : (y 0).val < 2048 := (y 0).isLt
    have y1 : (y 1).val < 128 := (y 1).isLt
    congr 1
    · exact Fin.ext (by simp only [h0]; omega)
    · exact Fin.ext (by simp only [h0]; omega)
    · exact Fin.ext (by simp only [h1]; omega)
    · exact Fin.ext (by simp only [h1]; omega)
  have hQ : ∀ (i : Fin 2048) (d : Fin 128), (show FVec Ideal S2048x128 .f32 from iblk m c 0 t) (ix2 i d)
      = (rows (m ((c : Thread nD τ).loc main_arg0)) ⟨t.val / 8, by have := tN t; omega⟩ ⟨t.val % 8, by omega⟩ i.val d : EReal) := by
    intro i d
    refine (blk0 m c t i d).trans ((hq _).trans ?_)
    unfold rows
    rw [show (⟨i.val % 2048, by omega⟩ : Fin 2048) = i from Fin.ext (Nat.mod_eq_of_lt i.isLt)]
  have hK : ∀ (i : Fin 2048) (d : Fin 128), (show FVec Ideal S2048x128 .f32 from iblk m c 1 t) (ix2 i d)
      = (rows (m ((c : Thread nD τ).loc main_arg1)) ⟨t.val / 8, by have := tN t; omega⟩ ⟨t.val % 8, by omega⟩ i.val d : EReal) := by
    intro i d
    refine (blk1 m c t i d).trans ((hk _).trans ?_)
    unfold rows
    rw [show (⟨i.val % 2048, by omega⟩ : Fin 2048) = i from Fin.ext (Nat.mod_eq_of_lt i.isLt)]
  have hV : ∀ (i : Fin 2048) (d : Fin 128), (show FVec Ideal S2048x128 .f32 from iblk m c 2 t) (ix2 i d)
      = col (m ((c : Thread nD τ).loc main_arg2)) ⟨t.val / 8, by have := tN t; omega⟩ ⟨t.val % 8, by omega⟩ d i.val := by
    intro i d
    refine (blk2 m c t i d).trans ?_
    unfold col
    rw [show (⟨i.val % 2048, by omega⟩ : Fin 2048) = i from Fin.ext (Nat.mod_eq_of_lt i.isLt)]
  have hKp := fun i d => (pass2 (iblk m c 1 t) i d).trans (hK i d)
  have hVp := fun i d => (pass4 (iblk m c 2 t) i d).trans (hV i d)
  have hHp := fun i d => (pass3 (iblk m c 3 t) i d).trans (blk3 m c t i d)
  blk_simp
  refine Eq.trans ?_ hR.symm
  rw [after0_4]
  unfold outsAt0
  frame_out
  generalize hkm : View.readCov (Val := Elt Ideal) (View.whole cc0_scratch2) _ (Rect.unit (s := S8x128) ![0, 0] ![8, 128] _).toLoadRect = km
  have hkm' : ∀ (a : Fin 8) (d : Fin 128), km (ix2 a d) = _ := fun a d =>
    (congrFun hkm.symm (ix2 a d)).trans (km_at (iblk m c 1 t) _ hK _ _ _ _ _ _ _ _ _ _ _ _ _ _ _ _ _ _ _ a d)
  canon_tiles x h
  all_goals obtain ⟨r, l, rfl⟩ : ∃ (r : Fin 256) (l : Fin 128), x = ix2 r l := ⟨x 0, x 1, by ext a; fin_cases a <;> rfl⟩
  case piece7 =>
    refine Eq.trans ?_ (out_eq _ _ _ _ (y 0) _ l (y 1) 0 r (h0.trans (Nat.zero_add _).symm) h1).symm
    refine (qb0 _ _ _ r l).trans ?_
    rw [Nat.mul_zero, Nat.zero_add]
    refine piece0 r l _ _ _ _ _ _ _ hQ hKp hHp (fun i => hVp i l) _ ((low_at _ _ _).trans ?_) _ _ _ _ _ _
    exact (low_eq (fun _ => 0) (fun _ _ => 0) 0 (by decide) 0 (le_refl _)).trans (if_pos (Or.inr rfl))
  case piece6 =>
    refine Eq.trans ?_ (out_eq _ _ _ _ (y 0) _ l (y 1) 1 r h0 h1).symm
    refine (qb1 _ _ _ _ _ r l).trans ?_
    exact piece 1 256 (by decide) rfl rfl r l _ _ _ _ _ _ _ hQ hKp hHp (fun i => hVp i l) _
      (fun x hx => (low_at _ _ _).trans (low_eq _ _ 1 (by decide) x hx)) _ _ _ _ _ _ _ _
  case piece5 =>
    refine Eq.trans ?_ (out_eq _ _ _ _ (y 0) _ l (y 1) 2 r h0 h1).symm
    refine (qb2 _ _ _ _ _ r l).trans ?_
    exact piece 2 512 (by decide) rfl rfl r l _ _ _ _ _ _ _ hQ hKp hHp (fun i => hVp i l) _
      (fun x hx => (low_at _ _ _).trans (low_eq _ _ 2 (by decide) x hx)) _ _ _ _ _ _ _ _
  case piece4 =>
    refine Eq.trans ?_ (out_eq _ _ _ _ (y 0) _ l (y 1) 3 r h0 h1).symm
    refine (qb3 _ _ _ _ _ r l).trans ?_
    exact piece 3 768 (by decide) rfl rfl r l _ _ _ _ _ _ _ hQ hKp hHp (fun i => hVp i l) _
      (fun x hx => (low_at _ _ _).trans (low_eq _ _ 3 (by decide) x hx)) _ _ _ _ _ _ _ _
  case piece2 =>
    refine Eq.trans ?_ (out_eq _ _ _ _ (y 0) _ l (y 1) 5 r h0 h1).symm
    refine (qb5 _ km _ _ _ _ r l).trans ?_
    exact piece 5 1280 (by decide) rfl rfl r l _ _ _ _ _ _ _ hQ hKp hHp (fun i => hVp i l) _
      (fun x hx => sel_eq 5 (by decide) (by decide) _ km r _ _ (fun d => (ld_at _ _ _ r d (by have := r.isLt; omega)).trans (hQ _ d)) hkm' x hx) _ _ _ _ _ _ _ _
  case piece1 =>
    refine Eq.trans ?_ (out_eq _ _ _ _ (y 0) _ l (y 1) 6 r h0 h1).symm
    refine (qb6 _ km _ _ _ _ r l).trans ?_
    exact piece 6 1536 (by decide) rfl rfl r l _ _ _ _ _ _ _ hQ hKp hHp (fun i => hVp i l) _
      (fun x hx => sel_eq 6 (by decide) (by decide) _ km r _ _ (fun d => (ld_at _ _ _ r d (by have := r.isLt; omega)).trans (hQ _ d)) hkm' x hx) _ _ _ _ _ _ _ _
  case piece0 =>
    refine Eq.trans ?_ (out_eq _ _ _ _ (y 0) _ l (y 1) 7 r h0 h1).symm
    refine (qb7 _ km _ _ _ _ r l).trans ?_
    exact piece 7 1792 (by decide) rfl rfl r l _ _ _ _ _ _ _ hQ hKp hHp (fun i => hVp i l) _
      (fun x hx => sel_eq 7 (by decide) (by decide) _ km r _ _ (fun d => (ld_at _ _ _ r d (by have := r.isLt; omega)).trans (hQ _ d)) hkm' x hx) _ _ _ _ _ _ _ _
  case piece3 =>
    refine Eq.trans ?_ (out_eq _ _ _ _ (y 0) _ l (y 1) 4 r h0 h1).symm
    refine (qb4 _ _ _ _ _ _ _ r l).trans ?_
    generalize hb : selV _ _ _ = bb
    refine piece 4 1024 (by decide) rfl rfl r l _ _ _ _ _ _ _ hQ hKp hHp (fun i => hVp i l) _ (fun x hx => ?_) _ _ _ _ _ _ _ _
    exact (congrFun hb.symm (ix2 r x)).trans (sel_eq 4 (by decide) (by decide) _ _ r _ _
      (fun d => (ld_at _ _ _ r d (by have := r.isLt; omega)).trans ((congrFun ((hs0_0 t).read_unread (iblk m c 0 t)) _).trans (hQ _ d)))
      (fun a d => km_at _ _ (fun i d => (congrFun ((hs0_1 t).read_unread (iblk m c 1 t)) _).trans (hK i d)) _ _ _ _ _ _ _ _ _ _ _ _ _ _ _ _ _ _ _ a d) x hx)

end Cert.KernelIdeal.Moba
-- ==== Proof.MobaRef.lean ====
module

public import proofs.«01_k».proof.Proof.MobaFinal

@[expose] public section

set_option maxRecDepth 16384

noncomputable section

namespace Cert.KernelIdeal.Moba

open Cert.ReferenceIdeal Cert.ReferenceIdeal.Facts₀ Cert.ReferenceIdeal.Read Idealize.ShloMosaic Idealize.ShloMosaic.TcCoe Idealize.SL.Sem Cert.MobaMath

/-- The query's block number, in the reference. -/
theorem rv1 (t : Fin 2048) : val_main_v1 (F := Ideal) (ix1 t) = BitVec.ofNat 32 (t.val / 256) := by
  refine Eq.trans ?_ (fdiv_eq t)
  rfl

/-- A finite array's entry, over the reals. -/
theorem rows_at (x : FVec Ideal S8x2048x8x128 .f32) (hx : ∀ i, (x i : EReal) = ((x i : EReal).toReal : EReal)) (b h : Fin 8) (i : ℕ)
    (p : Fin 2048) (hp : p.val = i) (d : Fin 128) : x (ix4 b p h d) = (rows x b h i d : EReal) := by
  subst hp
  refine (hx _).trans ?_
  unfold rows
  have e : (⟨p.val % 2048, by omega⟩ : Fin 2048) = p := Fin.ext (Nat.mod_eq_of_lt p.isLt)
  rw [e]

/-- The word of 256. -/
theorem word_256 : Ideal.ofBits .f32 0x43800000#32 = ((256 : ℝ) : EReal) := by
  simp [Ideal.ofBits, Ideal.ieee, -EReal.coe_mul]; norm_num

/-- The word of 128. -/
theorem word_128 : Ideal.ofBits .f32 0x43000000#32 = ((128 : ℝ) : EReal) := by
  simp [Ideal.ofBits, Ideal.ieee, -EReal.coe_mul]; norm_num

/-- The reference's gates. -/
theorem rv14 (x0 x1 : FVec Ideal S8x2048x8x128 .f32) (h0 : ∀ i, (x0 i : EReal) = ((x0 i : EReal).toReal : EReal))
    (h1 : ∀ i, (x1 i : EReal) = ((x1 i : EReal).toReal : EReal)) (b : Fin 8) (t : Fin 2048) (h c : Fin 8) :
    val_main_v14 (F := Ideal) x0 x1 (ix4 b t h c) = gam (rows x0 b h t.val) (rows x1 b h) (t.val / 256) c := by
  have e := rv1 t
  pointwise [val_main_v14, val_main_call1_v0, val_main_call1_v1, val_main_call1_v2, val_main_cst_1, val_main_v13, val_main_v12, val_main_v11, val_main_v10, val_main_v9, val_main_v8, val_main_v7, val_main_v6, val_main_v5, val_main_v4, val_main_v3, val_main_v2, val_main_cst, val_main_cst_0, e]
  rw [WordCmp.cmpi_slt_ofNat (by omega) (by omega), select_ofBool]
  unfold gam
  split
  · rw [coe_sum]
    refine Finset.sum_congr rfl fun d _ => ?_
    rw [word_256, Ideal.div_coe (by norm_num), EReal.coe_mul]
    refine congrArg₂ (· * ·) ?_ (rows_at x0 h0 b h _ t rfl d)
    rw [Finset.sum_congr rfl fun (j : Fin 256) _ => rows_at x1 h1 b h (256 * c.val + j.val) ⟨c.val * 256 + j.val, by omega⟩ (by show c.val * 256 + j.val = _; omega) d,
      ← coe_sum, ← EReal.coe_mul]
    refine congrArg (fun r : ℝ => (r : EReal)) ?_
    ring
  · exact word_bot

/-- An index with its last coordinate replaced. -/
theorem along4 {N : ℕ} (b : Fin 8) (t : Fin 2048) (h : Fin 8) (e : Fin N) (k : Fin 8) (hd) :
    ((ix4 b t h (⟨e.val, hd⟩ : Fin 8) : S8x2048x8x8.Idx).along 3 k) = ix4 b t h k := by
  funext a
  match a with
  | ⟨0, _⟩ => rfl
  | ⟨1, _⟩ => rfl
  | ⟨2, _⟩ => rfl
  | ⟨3, _⟩ => rfl

open Classical in
/-- The comparison the gates are sorted by. -/
theorem gt_eq (x y : EReal) : (FloatOps.cmpfTotal (F := Ideal) (φ := .f32) CmpDirection.gt x y == 1#1) = decide (y < x) := by
  show (BitVec.ofBool (decide (y < x)) == 1#1) = _
  by_cases h : y < x <;> simp [h]

open Classical in
/-- The first blocks by gate. -/
def tops (x0 x1 : FVec Ideal S8x2048x8x128 .f32) (b : Fin 8) (t : Fin 2048) (h : Fin 8) (e : Fin 3) : Fin 8 :=
  sortedFrom (fun a c : Fin 8 => decide (gam (rows x0 b h t.val) (rows x1 b h) (t.val / 256) c < gam (rows x0 b h t.val) (rows x1 b h) (t.val / 256) a))
    (e.castLE (by decide))

/-- The reference's block numbers are the first blocks by gate. -/
theorem rtop (x0 x1 : FVec Ideal S8x2048x8x128 .f32) (h0 : ∀ i, (x0 i : EReal) = ((x0 i : EReal).toReal : EReal))
    (h1 : ∀ i, (x1 i : EReal) = ((x1 i : EReal).toReal : EReal)) (b : Fin 8) (t : Fin 2048) (h : Fin 8) (e : Fin 3) :
    val_main_indices (F := Ideal) x0 x1 (ix4 b t h e) = BitVec.ofNat 32 (tops x0 x1 b t h e).val := by
  unfold val_main_indices Host.topK Host.sort2
  pointwise
  simp only [along4, gt_eq, rv14 x0 x1 h0 h1]
  rfl

/-- A slot holds a block to be seen. -/
def okP (n : ℕ) (T : Fin 3 → Fin 8) (i : Fin 1024) : Prop := ∀ hi : i.val / 256 < 3, (T ⟨i.val / 256, hi⟩).val < n

instance (n : ℕ) (T : Fin 3 → Fin 8) : DecidablePred (okP n T) := fun _ => inferInstanceAs (Decidable (∀ _, _))

/-- A slot's block number. -/
def blkP (n : ℕ) (T : Fin 3 → Fin 8) (i : Fin 1024) : ℕ :=
  if hi : i.val / 256 < 3 then (if (T ⟨i.val / 256, hi⟩).val < n then (T ⟨i.val / 256, hi⟩).val else n) else n

/-- Block numbers are below eight. -/
theorem blkP_lt (n : ℕ) (hn : n < 8) (T : Fin 3 → Fin 8) (i : Fin 1024) : blkP n T i < 8 := by
  unfold blkP
  split
  · split
    · exact (T _).isLt
    · exact hn
  · exact hn

/-- The position each slot gathers. -/
theorem rv31 (x0 x1 : FVec Ideal S8x2048x8x128 .f32) (h0 : ∀ i, (x0 i : EReal) = ((x0 i : EReal).toReal : EReal))
    (h1 : ∀ i, (x1 i : EReal) = ((x1 i : EReal).toReal : EReal)) (b : Fin 8) (t : Fin 2048) (h : Fin 8) (i : Fin 1024) :
    val_main_v31 (F := Ideal) x0 x1 (ix4 b t h i) = BitVec.ofNat 32 (blkP (t.val / 256) (tops x0 x1 b t h) i * 256 + i.val % 256) := by
  have e := rv1 t
  pointwise [val_main_v31, val_main_v30, val_main_v29, val_main_v28, val_main_v27, val_main_v26, val_main_v25, val_main_v24, val_main_v23, val_main_c_3, val_main_v20, val_main_v19, val_main_call2_v0, val_main_v18, val_main_v17, val_main_v16, val_main_v15, e]
  have key : (if h_1 : i.val / 256 < 3 then
          Scalar.select
            (IntOp.cmpi CmpIPredicate.slt (val_main_indices (F := Ideal) x0 x1 (ix4 b t h ⟨i.val / 256, h_1⟩))
              (BitVec.ofNat 32 (t.val / 256)))
            (val_main_indices (F := Ideal) x0 x1 (ix4 b t h ⟨i.val / 256, h_1⟩)) (BitVec.ofNat 32 (t.val / 256))
        else BitVec.ofNat 32 (t.val / 256)) = BitVec.ofNat 32 (blkP (t.val / 256) (tops x0 x1 b t h) i) := by
    unfold blkP
    split
    · rw [rtop x0 x1 h0 h1, WordCmp.cmpi_slt_ofNat (by omega) (by omega), select_ofBool]
      split <;> rfl
    · rfl
  refine (congrArg (fun w => IntOp.addi (IntOp.muli w 256#32) (BitVec.ofNat 32 (i.val % 256))) key).trans ?_
  show BitVec.ofNat 32 _ * BitVec.ofNat 32 256 + BitVec.ofNat 32 _ = _
  rw [BitVec.ofNat_add, BitVec.ofNat_mul]

/-- Which slots a query sees. -/
theorem rv37 (x0 x1 : FVec Ideal S8x2048x8x128 .f32) (h0 : ∀ i, (x0 i : EReal) = ((x0 i : EReal).toReal : EReal))
    (h1 : ∀ i, (x1 i : EReal) = ((x1 i : EReal).toReal : EReal)) (b : Fin 8) (t : Fin 2048) (h : Fin 8) (i : Fin 1024) :
    val_main_v37 (F := Ideal) x0 x1 (ix4 b t h i) =
      BitVec.ofBool (decide (okP (t.val / 256) (tops x0 x1 b t h) i ∧ blkP (t.val / 256) (tops x0 x1 b t h) i * 256 + i.val % 256 ≤ t.val)) := by
  have e := rv1 t
  have hb := blkP_lt (t.val / 256) (by omega) (tops x0 x1 b t h) i
  pointwise [val_main_v37, val_main_v36, val_main_v35, val_main_v34, val_main_v33, val_main_v32, val_main_v0, val_main_v22, val_main_v21, val_main_c_2, val_main_v18, val_main_v17, val_main_v16, val_main_v15, e]
  rw [rv31 x0 x1 h0 h1, WordCmp.cmpi_sle_ofNat (by omega) (by omega)]
  have key : (if h_1 : i.val / 256 < 3 then IntOp.cmpi CmpIPredicate.slt (val_main_indices (F := Ideal) x0 x1 (ix4 b t h ⟨i.val / 256, h_1⟩)) (BitVec.ofNat 32 (t.val / 256))
      else 1#1) = BitVec.ofBool (decide (okP (t.val / 256) (tops x0 x1 b t h) i)) := by
    split
    · rename_i hi
      rw [rtop x0 x1 h0 h1, WordCmp.cmpi_slt_ofNat (by omega) (by omega)]
      exact congrArg BitVec.ofBool (decide_eq_decide.mpr ⟨fun h _ => h, fun h => h hi⟩)
    · rename_i hi
      rw [decide_eq_true (show okP (t.val / 256) (tops x0 x1 b t h) i from fun h => absurd h hi)]
      rfl
  refine (congrArg (fun w => IntOp.andi w _) key).trans ?_
  show BitVec.ofBool _ &&& BitVec.ofBool _ = _
  rw [BitVec.ofBool_and_ofBool, ← Bool.decide_and]

/-- A nonnegative index is left as it is. -/
theorem wrap_eq (w : ℕ) (hw : w < 2 ^ 31) (k : BitVec 32) :
    Scalar.select (IntOp.cmpi CmpIPredicate.slt (BitVec.ofNat 32 w) 0#32) (IntOp.addi (BitVec.ofNat 32 w) k) (BitVec.ofNat 32 w) = BitVec.ofNat 32 w := by
  rw [show (0#32 : BitVec 32) = BitVec.ofNat 32 0 from rfl, WordCmp.cmpi_slt_ofNat hw (by norm_num), select_ofBool, if_neg (Nat.not_lt_zero _)]

/-- The rows gathered, by position. -/
theorem gat (x : FVec Ideal S8x2048x8x128 .f32) (idx : IVec S8x2048x8x1024x3 32) (b : Fin 8) (t : Fin 2048) (h : Fin 8) (i : Fin 1024) (d : Fin 128)
    (p : Fin 2048)
    (h0 : idx (ix5 b t h i (0 : Fin 3)) = BitVec.ofNat 32 b.val) (h1 : idx (ix5 b t h i (1 : Fin 3)) = BitVec.ofNat 32 p.val)
    (h2 : idx (ix5 b t h i (2 : Fin 3)) = BitVec.ofNat 32 h.val) :
    Host.gather gather_S8x2048x8x128_S8x2048x8x1024x3_S8x2048x8x1024x128_4_012_n_n_012_4_111128 x idx (ix5 b t h i d) = x (ix4 b p h d) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have s : ∀ (a : Fin 4) (e : Fin 3) (w : ℕ) (ha : a ∈ gather_S8x2048x8x128_S8x2048x8x1024x3_S8x2048x8x1024x128_4_012_n_n_012_4_111128.startIndexMap)
     (hs : GatherDims.siIdx gather_S8x2048x8x128_S8x2048x8x1024x3_S8x2048x8x1024x128_4_012_n_n_012_4_111128 (ix5 b t h i d) ⟨List.idxOf a gather_S8x2048x8x128_S8x2048x8x1024x3_S8x2048x8x1024x128_4_012_n_n_012_4_111128.startIndexMap, List.idxOf_lt_length_iff.2 ha⟩ = ix5 b t h i e)
     (hw : idx (ix5 b t h i e) = BitVec.ofNat 32 w) (hw' : w < S8x2048x8x128.size a) (h1 : gather_S8x2048x8x128_S8x2048x8x1024x3_S8x2048x8x1024x128_4_012_n_n_012_4_111128.sliceSizes a = 1) (hb : w < 2048),
     GatherDims.start gather_S8x2048x8x128_S8x2048x8x1024x3_S8x2048x8x1024x128_4_012_n_n_012_4_111128 (ix5 b t h i d) idx a = w := by
    intro a e w ha hs hw hw' h1 hb
    unfold GatherDims.start
    rw [dif_pos ha, hs, hw, h1]
    have e1 : (BitVec.ofNat 32 w).toInt = (w : ℤ) := by
      rw [BitVec.toInt_eq_toNat_of_lt (by rw [BitVec.toNat_ofNat]; omega), BitVec.toNat_ofNat]
      omega
    rw [e1, Int.toNat_natCast]
    exact Nat.min_eq_left (Nat.le_sub_one_of_lt hw')
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.offCoord_eq_zero _ _ _ (by decide), s 0 0 b.val (by decide) (by funext k; apply Fin.ext; fin_cases k <;> rfl) h0 b.isLt rfl (by omega)]
    rfl
  · rw [GatherDims.offCoord_eq_zero _ _ _ (by decide), s 1 1 p.val (by decide) (by funext k; apply Fin.ext; fin_cases k <;> rfl) h1 p.isLt rfl (by omega)]
    rfl
  · rw [GatherDims.offCoord_eq_zero _ _ _ (by decide), s 2 2 h.val (by decide) (by funext k; apply Fin.ext; fin_cases k <;> rfl) h2 h.isLt rfl (by omega)]
    rfl
  · unfold GatherDims.start GatherDims.offCoord
    rw [dif_neg (by decide), dif_pos (by decide)]
    exact Nat.zero_add _
/-- The position a slot gathers, as an index. -/
def pos (x0 x1 : FVec Ideal S8x2048x8x128 .f32) (b : Fin 8) (t : Fin 2048) (h : Fin 8) (i : Fin 1024) : Fin 2048 :=
  ⟨blkP (t.val / 256) (tops x0 x1 b t h) i * 256 + i.val % 256, by have := blkP_lt (t.val / 256) (by omega) (tops x0 x1 b t h) i; omega⟩

section
variable (x0 x1 : FVec Ideal S8x2048x8x128 .f32) (h0 : ∀ i, (x0 i : EReal) = ((x0 i : EReal).toReal : EReal))
    (h1 : ∀ i, (x1 i : EReal) = ((x1 i : EReal).toReal : EReal)) (b : Fin 8) (t : Fin 2048) (h : Fin 8) (i : Fin 1024)

/-- The first column of the keys' indices. -/
theorem k0 : val_main_v62 (F := Ideal) x0 x1 (ix5 b t h i (0 : Fin 3)) = BitVec.ofNat 32 b.val := by
  have e : val_main_v62 (F := Ideal) x0 x1 (ix5 b t h i (0 : Fin 3)) = val_main_v59 (F := Ideal) (ix5 b t h i 0) := by pointwise [val_main_v62]
  rw [e]
  pointwise [val_main_v59, val_main_v57, val_main_v46, val_main_v45, val_main_v44, val_main_v43, val_main_v42, val_main_v39, val_main_v38, val_main_c_4, val_main_c_5]
  exact wrap_eq _ (by omega) _

include h0 h1 in
/-- The second column of the keys' indices. -/
theorem k1 : val_main_v62 (F := Ideal) x0 x1 (ix5 b t h i (1 : Fin 3)) = BitVec.ofNat 32 (pos x0 x1 b t h i).val := by
  have e : val_main_v62 (F := Ideal) x0 x1 (ix5 b t h i (1 : Fin 3)) = val_main_v60 (F := Ideal) x0 x1 (ix5 b t h i 0) := by pointwise [val_main_v62]
  have e1 := rv31 x0 x1 h0 h1 b t h i
  rw [e]
  pointwise [val_main_v60, val_main_v51, val_main_v50, val_main_v49, val_main_v48, val_main_v47, val_main_c_6, val_main_c_7, e1]
  exact wrap_eq (pos x0 x1 b t h i).val (by omega) _

/-- The third column of the keys' indices. -/
theorem k2 : val_main_v62 (F := Ideal) x0 x1 (ix5 b t h i (2 : Fin 3)) = BitVec.ofNat 32 h.val := by
  have e : val_main_v62 (F := Ideal) x0 x1 (ix5 b t h i (2 : Fin 3)) = val_main_v61 (F := Ideal) (ix5 b t h i 0) := by pointwise [val_main_v62]
  rw [e]
  pointwise [val_main_v61, val_main_v58, val_main_v56, val_main_v55, val_main_v54, val_main_v53, val_main_v52, val_main_v41, val_main_v40, val_main_c_8, val_main_c_9]
  exact wrap_eq _ (by omega) _

/-- The first column of the values' indices. -/
theorem w0 : val_main_v84 (F := Ideal) x0 x1 (ix5 b t h i (0 : Fin 3)) = BitVec.ofNat 32 b.val := by
  have e : val_main_v84 (F := Ideal) x0 x1 (ix5 b t h i (0 : Fin 3)) = val_main_v81 (F := Ideal) (ix5 b t h i 0) := by pointwise [val_main_v84]
  rw [e]
  pointwise [val_main_v81, val_main_v79, val_main_v68, val_main_v67, val_main_v66, val_main_v65, val_main_v64, val_main_v39, val_main_v38, val_main_c_10, val_main_c_11]
  exact wrap_eq _ (by omega) _

include h0 h1 in
/-- The second column of the values' indices. -/
theorem w1 : val_main_v84 (F := Ideal) x0 x1 (ix5 b t h i (1 : Fin 3)) = BitVec.ofNat 32 (pos x0 x1 b t h i).val := by
  have e : val_main_v84 (F := Ideal) x0 x1 (ix5 b t h i (1 : Fin 3)) = val_main_v82 (F := Ideal) x0 x1 (ix5 b t h i 0) := by pointwise [val_main_v84]
  have e1 := rv31 x0 x1 h0 h1 b t h i
  rw [e]
  pointwise [val_main_v82, val_main_v73, val_main_v72, val_main_v71, val_main_v70, val_main_v69, val_main_c_12, val_main_c_13, e1]
  exact wrap_eq (pos x0 x1 b t h i).val (by omega) _

/-- The third column of the values' indices. -/
theorem w2 : val_main_v84 (F := Ideal) x0 x1 (ix5 b t h i (2 : Fin 3)) = BitVec.ofNat 32 h.val := by
  have e : val_main_v84 (F := Ideal) x0 x1 (ix5 b t h i (2 : Fin 3)) = val_main_v83 (F := Ideal) (ix5 b t h i 0) := by pointwise [val_main_v84]
  rw [e]
  pointwise [val_main_v83, val_main_v80, val_main_v78, val_main_v77, val_main_v76, val_main_v75, val_main_v74, val_main_v41, val_main_v40, val_main_c_14, val_main_c_15]
  exact wrap_eq _ (by omega) _

end

/-- Slots of one block number are of one round. -/
theorem slots_inj (n : ℕ) (T : Fin 3 → Fin 8) (hT : Function.Injective T) (i j : Fin 1024) (hi : okP n T i) (hj : okP n T j)
    (e : blkP n T i = blkP n T j) : i.val / 256 = j.val / 256 := by
  unfold blkP at e
  by_cases h1 : i.val / 256 < 3 <;> by_cases h2 : j.val / 256 < 3
  · rw [dif_pos h1, dif_pos h2, if_pos (hi h1), if_pos (hj h2)] at e
    exact congrArg Fin.val (hT (Fin.ext e))
  · rw [dif_pos h1, dif_neg h2, if_pos (hi h1)] at e
    have := hi h1
    omega
  · rw [dif_neg h1, dif_pos h2, if_pos (hj h2)] at e
    have := hj h2
    omega
  · omega

/-- Slots of one round have one block number. -/
theorem slots_ok (n : ℕ) (T : Fin 3 → Fin 8) (i j : Fin 1024) (e : i.val / 256 = j.val / 256) (hi : okP n T i) : okP n T j ∧ blkP n T j = blkP n T i := by
  unfold okP blkP at *
  simp only [e] at hi ⊢
  exact ⟨hi, trivial⟩

/-- The rounds' block numbers are the query's own block and the blocks picked. -/
theorem slots_cov (n : ℕ) (T : Fin 3 → Fin 8) (c : ℕ) : (c = n ∨ (∃ e : Fin 3, (T e).val = c ∧ c < n) ∧ c ≤ n) ↔
    ∃ e : Fin 4, ∀ i : Fin 1024, i.val / 256 = e.val → okP n T i ∧ blkP n T i = c := by
  unfold okP blkP
  constructor
  · rintro (rfl | ⟨⟨e, he, hlt⟩, _⟩)
    · refine ⟨3, fun i hi => ?_⟩
      have h3 : ¬ i.val / 256 < 3 := by rw [hi]; decide
      exact ⟨fun h => absurd h h3, dif_neg h3⟩
    · refine ⟨e.castSucc, fun i hi => ?_⟩
      have h3 : i.val / 256 < 3 := by rw [hi]; exact e.isLt
      have e3 : (⟨i.val / 256, h3⟩ : Fin 3) = e := Fin.ext hi
      have h4 : (T ⟨i.val / 256, h3⟩).val < n := by rw [e3, he]; exact hlt
      exact ⟨fun _ => h4, by rw [dif_pos h3, if_pos h4, e3, he]⟩
  · rintro ⟨e, h⟩
    have hl := e.isLt
    obtain ⟨h1, h2⟩ := h ⟨e.val * 256, by omega⟩ (by show e.val * 256 / 256 = _; omega)
    by_cases h3 : (⟨e.val * 256, by omega⟩ : Fin 1024).val / 256 < 3
    · rw [dif_pos h3, if_pos (h1 h3)] at h2
      have := h1 h3
      exact Or.inr ⟨⟨_, h2, h2 ▸ this⟩, by omega⟩
    · rw [dif_neg h3] at h2
      exact Or.inl h2.symm

/-- A softmax term's exponential. -/
theorem g1 (X : FVec Ideal S8x2048x8x1024 .f32) (Y : FVec Ideal S8x2048x8 .f32) (b : Fin 8) (t : Fin 2048) (h : Fin 8) (i : Fin 1024) :
    Host.exp (subf X (broadcastInDim S8x2048x8x1024 ![0, 1, 2, 3] bcast_S8x2048x8x1_S8x2048x8x1024_0_1_2_3 (broadcastInDim S8x2048x8x1 ![0, 1, 2] bcast_S8x2048x8_S8x2048x8x1_0_1_2 Y))) (ix4 b t h i) = Ideal.exp (X (ix4 b t h i) - Y (ix3 b t h)) := by
  pointwise

/-- The greatest score with minus infinity. -/
theorem g2 (X : FVec Ideal S8x2048x8 .f32) (b : Fin 8) (t : Fin 2048) (h : Fin 8) :
    maximumf (val_main_v92 (F := Ideal)) X (ix3 b t h) = X (ix3 b t h) := by
  pointwise [val_main_v92, val_main_cst_19]
  rw [word_bot, max_eq_right bot_le]

/-- The greatest score. -/
theorem g3 (X : FVec Ideal S8x2048x8x1024 .f32) (b : Fin 8) (t : Fin 2048) (h : Fin 8) :
    Host.reduce FloatOps.maximumf X (val_main_cst_18 (F := Ideal)) reducesTo_S8x2048x8x1024_S8x2048x8_d3 h_S_ (ix3 b t h)
      = Finset.univ.fold max ⊥ fun i : Fin 1024 => X (ix4 b t h i) := by
  pointwise [val_main_cst_18]
  rw [word_bot]

/-- A softmax term over its sum. -/
theorem g4 (X : FVec Ideal S8x2048x8x1024 .f32) (b : Fin 8) (t : Fin 2048) (h : Fin 8) (i : Fin 1024) :
    Host.divf X (broadcastInDim S8x2048x8x1024 ![0, 1, 2, 3] bcast_S8x2048x8x1_S8x2048x8x1024_0_1_2_3 (broadcastInDim S8x2048x8x1 ![0, 1, 2] bcast_S8x2048x8_S8x2048x8x1_0_1_2
      (Host.reduceAdd X (val_main_cst_20 (F := Ideal)) reducesTo_S8x2048x8x1024_S8x2048x8_d3 h_S_))) (ix4 b t h i)
      = Ideal.div (X (ix4 b t h i)) (∑ j : Fin 1024, X (ix4 b t h j)) := by
  pointwise [val_main_cst_20]

/-- The scores times the values. -/
theorem g5 (X : FVec Ideal S8x2048x8x1024 .f32) (Y : FVec Ideal S8x2048x8x1024x128 .f32) (b : Fin 8) (t : Fin 2048) (h : Fin 8) (l : Fin 128) :
    Host.dotGeneral dot_S8x2048x8x1024_S8x2048x8x1024x128_S8x2048x8x128_3_3_n_4_012_012 none X Y (ix4 b t h l)
      = ∑ i : Fin 1024, X (ix4 b t h i) * Y (ix5 b t h i l) := by
  pointwise

/-- The queries times the gathered keys. -/
theorem g6 (X : FVec Ideal S8x2048x8x128 .f32) (Y : FVec Ideal S8x2048x8x1024x128 .f32) (b : Fin 8) (t : Fin 2048) (h : Fin 8) (i : Fin 1024) :
    Host.dotGeneral dot_S8x2048x8x128_S8x2048x8x1024x128_S8x2048x8x1024_3_4_n_3_012_012 none X Y (ix4 b t h i)
      = ∑ d : Fin 128, X (ix4 b t h d) * Y (ix5 b t h i d) := by
  pointwise

/-- The masked, scaled scores. -/
theorem g7 (m : IVec S8x2048x8x1024 1) (X : FVec Ideal S8x2048x8x1024 .f32) (b : Fin 8) (t : Fin 2048) (h : Fin 8) (i : Fin 1024) :
    select m (mulf X (val_main_v88 (F := Ideal))) (val_main_call3_v1 (F := Ideal)) (ix4 b t h i)
      = Scalar.select (m (ix4 b t h i)) (X (ix4 b t h i) * (((Real.sqrt 128)⁻¹ : ℝ) : EReal)) (⊥ : EReal) := by
  have e : Ideal.rsqrt (Ideal.ofBits .f32 0x43000000#32) = (((Real.sqrt 128)⁻¹ : ℝ) : EReal) := by
    rw [word_128, Ideal.rsqrt_coe, if_neg (by norm_num), if_neg (by norm_num)]
  pointwise [val_main_v88, val_main_v87, val_main_cst_16, val_main_call3_v1, val_main_call3_v0, val_main_cst_17]
  rw [e]
  exact congrArg (Scalar.select _ _) word_bot

/-- The result's reshape. -/
theorem g8 (X : FVec Ideal S8x2048x8x128 .f32) (r : Fin 16384) (l : Fin 1024) :
    truncf .bf16 (shapeCast S16384x1024 X shapeCasts_S8x2048x8x128_S16384x1024) bitsLt_bf16_f32 (ix2 r l)
      = X (ix4 ⟨r.val / 2048, by omega⟩ ⟨r.val % 2048, by omega⟩ ⟨l.val / 128, by omega⟩ ⟨l.val % 128, by omega⟩) := by
  pointwise

section
variable (x0 x1 : FVec Ideal S8x2048x8x128 .f32) (h0 : ∀ i, (x0 i : EReal) = ((x0 i : EReal).toReal : EReal))
    (h1 : ∀ i, (x1 i : EReal) = ((x1 i : EReal).toReal : EReal)) (b : Fin 8) (t : Fin 2048) (h : Fin 8)

include h0 h1 in
/-- A slot's score. -/
theorem rv90 (i : Fin 1024) : val_main_v90 (F := Ideal) x0 x1 (ix4 b t h i) =
    if okP (t.val / 256) (tops x0 x1 b t h) i ∧ blkP (t.val / 256) (tops x0 x1 b t h) i * 256 + i.val % 256 ≤ t.val then
      (((fun j => (∑ d, rows x0 b h t.val d * rows x1 b h j d) * (Real.sqrt 128)⁻¹) (blkP (t.val / 256) (tops x0 x1 b t h) i * 256 + i.val % 256) : ℝ) : EReal) else ⊥ := by
  unfold val_main_v90 val_main_v89
  refine (g7 _ _ b t h i).trans ?_
  rw [rv37 x0 x1 h0 h1, select_ofBool]
  refine if_congr Iff.rfl ?_ rfl
  dsimp only
  rw [EReal.coe_mul, coe_sum]
  refine congrArg (· * _) ?_
  unfold val_main_v86 val_main_v63
  refine (g6 _ _ b t h i).trans (Finset.sum_congr rfl fun d _ => ?_)
  rw [gat x1 _ b t h i d (pos x0 x1 b t h i) (k0 x0 x1 b t h i) (k1 x0 x1 h0 h1 b t h i) (k2 x0 x1 b t h i), EReal.coe_mul]
  exact congrArg₂ (· * ·) (rows_at x0 h0 b h _ t rfl d) (rows_at x1 h1 b h _ _ rfl d)

include h0 h1 in
/-- A slot's value. -/
theorem rv85 (x2 : FVec Ideal S8x2048x8x128 .f32) (i : Fin 1024) (l : Fin 128) : val_main_v85 (F := Ideal) x0 x1 x2 (ix5 b t h i l) =
    col x2 b h l (blkP (t.val / 256) (tops x0 x1 b t h) i * 256 + i.val % 256) := by
  unfold val_main_v85
  rw [gat x2 _ b t h i l (pos x0 x1 b t h i) (w0 x0 x1 b t h i) (w1 x0 x1 h0 h1 b t h i) (w2 x0 x1 b t h i)]
  unfold col
  have e : (⟨(blkP (t.val / 256) (tops x0 x1 b t h) i * 256 + i.val % 256) % 2048, by omega⟩ : Fin 2048) = pos x0 x1 b t h i := Fin.ext (Nat.mod_eq_of_lt (pos x0 x1 b t h i).isLt)
  rw [e]

/-- The first blocks are different. -/
theorem tops_inj : Function.Injective (tops x0 x1 b t h) := by
  classical
  intro a c hac
  have this := (sorted_top3 (gam (rows x0 b h t.val) (rows x1 b h) (t.val / 256)) (fun a c => decide (gam (rows x0 b h t.val) (rows x1 b h) (t.val / 256) c < gam (rows x0 b h t.val) (rows x1 b h) (t.val / 256) a))
    fun a b => by simp).2
  have e : tops x0 x1 b t h a = tops x0 x1 b t h c := hac
  unfold tops at e
  have e2 := this e
  have e3 := congrArg Fin.val e2
  exact Fin.ext e3

/-- The blocks picked are the first ones. -/
theorem open_iff (c : ℕ) : Open (rows x0 b h t.val) (rows x1 b h) (t.val / 256) c ↔ ∃ e : Fin 3, (tops x0 x1 b t h e).val = c ∧ c < t.val / 256 := by
  unfold Open picked
  constructor
  · rintro ⟨d, hd, rfl, hlt⟩
    simp only [Finset.mem_insert, Finset.mem_singleton] at hd
    rcases hd with hd | hd | hd
    · exact ⟨0, congrArg Fin.val hd.symm, hlt⟩
    · exact ⟨1, congrArg Fin.val hd.symm, hlt⟩
    · exact ⟨2, congrArg Fin.val hd.symm, hlt⟩
  · rintro ⟨e, he, hlt⟩
    refine ⟨tops x0 x1 b t h e, ?_, he, he ▸ hlt⟩
    simp only [Finset.mem_insert, Finset.mem_singleton]
    match e with
    | 0 => exact Or.inl rfl
    | 1 => exact Or.inr (Or.inl rfl)
    | 2 => exact Or.inr (Or.inr rfl)

include h0 h1 in
/-- The reference's attention at a batch, a position, a head and a lane. -/
theorem rv102 (x2 : FVec Ideal S8x2048x8x128 .f32) (l : Fin 128) : val_main_v102 (F := Ideal) x0 x1 x2 (ix4 b t h l) = out x0 x1 x2 b t h l := by
  have e97 : ∀ i : Fin 1024, val_main_v97 (F := Ideal) x0 x1 (ix4 b t h i)
      = Ideal.exp (val_main_v90 (F := Ideal) x0 x1 (ix4 b t h i) - Finset.univ.fold max ⊥ fun i : Fin 1024 => val_main_v90 (F := Ideal) x0 x1 (ix4 b t h i)) := by
    intro i
    unfold val_main_v97 val_main_v96 val_main_v95 val_main_v94
    refine (g1 _ _ b t h i).trans ?_
    refine congrArg (fun μ => Ideal.exp (val_main_v90 (F := Ideal) x0 x1 (ix4 b t h i) - μ)) ?_
    unfold val_main_v93
    refine (g2 _ b t h).trans ?_
    unfold val_main_v91
    exact g3 _ b t h
  unfold val_main_v102
  refine (g5 _ _ b t h l).trans ?_
  have e101 : ∀ i : Fin 1024, val_main_v101 (F := Ideal) x0 x1 (ix4 b t h i)
      = Ideal.div (val_main_v97 (F := Ideal) x0 x1 (ix4 b t h i)) (∑ j : Fin 1024, val_main_v97 (F := Ideal) x0 x1 (ix4 b t h j)) := by
    intro i
    unfold val_main_v101 val_main_v100 val_main_v99 val_main_v98
    exact g4 _ b t h i
  simp only [e101, e97]
  unfold out result
  rw [show 256 * (t.val / 256) + t.val % 256 = t.val by omega]
  have hT := tops_inj x0 x1 b t h
  have hO := open_iff x0 x1 b t h
  refine gathered t.val _ _ _ (blkP (t.val / 256) (tops x0 x1 b t h)) (okP (t.val / 256) (tops x0 x1 b t h)) _ _ ?_ ?_ ?_
    (rv90 x0 x1 h0 h1 b t h) (fun i _ => rv85 x0 x1 h0 h1 b t h x2 i l) _ rfl
  · exact slots_inj _ _ hT
  · intro c
    rw [hO]
    exact slots_cov _ _ c
  · exact slots_ok _ _

end

/-- The reference's result is the array the call leaves. -/
theorem ref_eq (x0 x1 x2 : FVec Ideal S8x2048x8x128 .f32) (h0 : ∀ i, (x0 i : EReal) = ((x0 i : EReal).toReal : EReal))
    (h1 : ∀ i, (x1 i : EReal) = ((x1 i : EReal).toReal : EReal)) : val_main_v104 (F := Ideal) x0 x1 x2 = arr x0 x1 x2 := by
  funext y
  obtain ⟨r, l, rfl⟩ : ∃ (r : Fin 16384) (l : Fin 1024), y = ix2 r l := ⟨y 0, y 1, by funext a; match a with | ⟨0, _⟩ => rfl | ⟨1, _⟩ => rfl⟩
  unfold val_main_v104 val_main_v103
  refine (g8 _ r l).trans ?_
  exact rv102 x0 x1 h0 h1 _ _ _ x2 _

end Cert.KernelIdeal.Moba
-- ==== Proof.MobaClaim.lean ====
module

public import proofs.«01_k».proof.Defs
public import proofs.«01_k».proof.Proof.MobaRef
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_qk
public import Idealize.ShloMosaic.Lib.Claim
public import Idealize.ShloMosaic.Lib.ReduceAll

@[expose] public section

set_option maxRecDepth 16384

noncomputable section

/-! The claims about the block-sparse attention call. -/

namespace Cert.MobaClaim

open Idealize.ShloMosaic Idealize.SL.Sem

/-- The printed call keeps its arguments. -/
theorem frame_p : Cert.quiescent_Kernel := fun m ρ _ => Cert.Kernel.Gen.frame m ρ

/-- So does the idealized call. -/
theorem frame_pi : Cert.quiescent_KernelIdeal := fun m ρ _ => Cert.KernelIdeal.Gen.frame m ρ

/-- So does the idealized call from finite queries and keys. -/
theorem frame_pi_pre : Cert.quiescent_KernelIdeal_pre_finite_qk := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference from finite queries and keys. -/
theorem frame_ri_pre : Cert.quiescent_ReferenceIdeal_pre_finite_qk := fun m ρ _ => frame_ri m ρ trivial

/-- The named constants are what their bits name. -/
theorem preserves : Cert.preserves_Kernel_KernelIdeal :=
  ⟨IdealRules.named_const.statement Cert.KernelIdeal.κ "mask" .f32 0xF149F2CA#32 ⊥ rfl,
    IdealRules.named_const.statement Cert.KernelIdeal.κ "scale_log2e" .f32 0x3E0293EE#32 (((Real.sqrt 128)⁻¹ * (Real.log 2)⁻¹ : ℝ) : EReal) rfl⟩

/-- A scalar has one index. -/
instance : Subsingleton Cert.Pre_finite_qk.S_.Idx := ⟨fun a b => funext fun k => k.elim0⟩

/-- An extended real below infinity in absolute value is real. -/
theorem real_of_lt (x : EReal) (h : max x (-x) < ⊤) : x = (x.toReal : EReal) := by
  refine (EReal.coe_toReal ?_ ?_).symm
  · rintro rfl
    exact absurd h (by simp)
  · rintro rfl
    exact absurd h (by simp)

/-- The word of infinity. -/
theorem word_top : Ideal.ofBits .f32 0x7F800000#32 = ⊤ := by
  simp [Ideal.ofBits, Ideal.ieee]

/-- The precondition makes the queries and the keys real. -/
theorem finite (q k v : FVec Ideal Cert.Pre_finite_qk.S8x2048x8x128 .f32) (h : Cert.Pre_finite_qk.fn (F := Ideal) q k v = fun _ => 1#1) :
    (∀ i, (q i : EReal) = ((q i : EReal).toReal : EReal)) ∧ ∀ i, (k i : EReal) = ((k i : EReal).toReal : EReal) := by
  have h1 := congrFun h ix0
  unfold Cert.Pre_finite_qk.fn at h1
  obtain ⟨ha, hb⟩ := IntOp.andi_eq_one.1 h1
  have key : ∀ x : FVec Ideal Cert.Pre_finite_qk.S8x2048x8x128 .f32, (∀ i, cmpf .olt (Host.absf x) (broadcastInDim Cert.Pre_finite_qk.S8x2048x8x128 ![] Cert.Pre_finite_qk.Facts.bcast_S_S8x2048x8x128
      (constant (F := Ideal) Cert.Pre_finite_qk.S_ .f32 0x7F800000#32)) i = 1#1) → ∀ i, (x i : EReal) = ((x i : EReal).toReal : EReal) := by
    intro x hx i
    have hi := hx i
    refine real_of_lt _ ?_
    have e : cmpf .olt (Host.absf x) (broadcastInDim Cert.Pre_finite_qk.S8x2048x8x128 ![] Cert.Pre_finite_qk.Facts.bcast_S_S8x2048x8x128
      (constant (F := Ideal) Cert.Pre_finite_qk.S_ .f32 0x7F800000#32)) i = BitVec.ofBool (decide ((max (x i) (-x i) : EReal) < Ideal.ofBits .f32 0x7F800000#32)) := rfl
    rw [e, word_top] at hi
    by_contra hn
    rw [decide_eq_false hn] at hi
    exact absurd hi (by decide)
  exact ⟨key q fun i => Host.reduce_andi_all _ _ _ _ _ ha i, key k fun i => Host.reduce_andi_all _ _ _ _ _ hb i⟩

/-- Kernel and reference end with equal results. -/
theorem algebraic : Cert.algebraic_KernelIdeal_ReferenceIdeal_pre_finite_qk := by
  pair_intro
  · run_from Cert.KernelIdeal.Gen.run_main (F := Ideal) m g
    · exact Cert.KernelIdeal.Gen.V_main_arg0 m c
    · exact Cert.KernelIdeal.Gen.V_main_arg1 m c
    · exact Cert.KernelIdeal.Gen.V_main_arg2 m c
  · run_from Cert.ReferenceIdeal.Value.run (F := Ideal) m' g'
    have hf := finite _ _ _ (hpre c)
    obtain ⟨e0, e1, e2⟩ := hagree c
    rw [← e2]
    refine (Cert.ReferenceIdeal.Read.val_main_v104_eq (F := Ideal) (StableHlo.launchContents m' c)).trans ?_
    refine Eq.trans ?_ (Cert.KernelIdeal.Moba.final m c hf.1 hf.2).symm
    refine Eq.trans ?_ (Cert.KernelIdeal.Moba.ref_eq _ _ _ hf.1 hf.2)
    exact congr (congr (congrArg (Cert.ReferenceIdeal.Read.val_main_v104 (F := Ideal)) e0) e1) e2

end Cert.MobaClaim
-- ==== Proof.Mlp.lean ====
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

@[expose] public section

set_option maxRecDepth 16384

noncomputable section

/-! The feed-forward call: its accumulated tile products against the reference's two products. -/

namespace Cert.Kernel2Ideal.Mlp

open Cert.Kernel2Ideal Cert.Kernel2Ideal.Gen Idealize.ShloMosaic Idealize.ShloMosaic.TcCoe Idealize.SL.Sem
open Idealize.ShloMosaic.Pipeline (Dat)

/-- One entry of the normalised row: the row's entry times the reciprocal root of its mean square plus epsilon, times the weight. -/
def nrm (x : Fin 2048 → EReal) (g : EReal) (k : Fin 2048) : EReal :=
  x k * Ideal.rsqrt (Ideal.div (∑ l, x l * x l) (Ideal.ofBits FTy.f32 1157627904#32) + Ideal.ofBits FTy.f32 897988541#32) * g

/-- The squared positive part. -/
def sqr (s : EReal) : EReal := max s 0 * max s 0

/-- The first payload passes its block on. -/
theorem pay1_at (x : FVec Ideal S1024x2048 .f32) (j) : k0_pay1 (F := Ideal) x j = x j := by pointwise [k0_pay1]

/-- The normalising payload at an index. -/
theorem pay2_at (x : FVec Ideal S1024x2048 .f32) (g : FVec Ideal S1x2048 .f32) (r : Fin 1024) (l : Fin 2048) :
    k0_pay2 (F := Ideal) x g (ix2 r l) = nrm (fun k => x (ix2 r k)) (g (ix2 0 l)) l := by
  pointwise [k0_pay2, k0_pay1]
  rfl

/-- The accumulating payload at an index: what was there plus one tile of hidden columns. -/
theorem pay3_at (xn : FVec Ideal S1024x2048 .bf16) (u : FVec Ideal S1x2048x1024 .bf16) (acc : FVec Ideal S1024x2048 .f32)
    (d : FVec Ideal S1x1024x2048 .bf16) (r : Fin 1024) (l : Fin 2048) :
    k0_pay3 (F := Ideal) xn u acc d (ix2 r l)
      = acc (ix2 r l) + ∑ f : Fin 1024, sqr (∑ k : Fin 2048, xn (ix2 r k) * u (ix3 0 k f)) * d (ix3 0 f l) := by
  pointwise [k0_pay3]
  rfl

open Cert.Reference2Ideal.Read in
/-- The reference at an index. -/
theorem ref_at (x : FVec Ideal S8x2048x2048 .f32) (g : FVec Ideal S2x2048 .f32) (u : FVec Ideal S2x2048x8192 .f32)
    (d : FVec Ideal S2x8192x2048 .f32) (r : Fin 16384) (l : Fin 2048) :
    val_main_v24 (F := Ideal) x g u d (ix2 r l)
      = x (ix3 ⟨r / 2048, by omega⟩ ⟨r % 2048, by omega⟩ l)
        + ∑ f : Fin 8192, sqr (∑ k : Fin 2048, nrm (fun k => x (ix3 ⟨r / 2048, by omega⟩ ⟨r % 2048, by omega⟩ k)) (g (ix2 1 k)) k
            * u (ix3 1 k f)) * d (ix3 1 f l) := by
  pointwise [val_main_cst, val_main_cst_0, val_main_cst_1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_call0_cst, val_main_call0_v0]
  rfl

variable (m : (ℓ : Loc nD τ sig) → Buf (Elt Ideal) ℓ) (c : Dev nD)

/-- Where each window's block lies at a point. -/
theorem idx : ∀ t : Fin cfg0.N, win0_0.index t = ![t.val / 8, 0] ∧ win0_1.index t = ![0, 0] ∧ win0_2.index t = ![1, 0, t.val % 8]
    ∧ win0_3.index t = ![1, t.val % 8, 0] ∧ win0_4.index t = ![t.val / 8, 0] :=
  (by decide +kernel : ∀ t : Fin grid0.N, win0_0.index t = ![t.val / 8, 0] ∧ win0_1.index t = ![0, 0] ∧ win0_2.index t = ![1, 0, t.val % 8]
    ∧ win0_3.index t = ![1, t.val % 8, 0] ∧ win0_4.index t = ![t.val / 8, 0])

/-- The reference's row that row `r` of point `t`'s block is. -/
abbrev row (t : Fin cfg0.N) (r : Fin 1024) (k : Fin 2048) : EReal :=
  m ((c : Thread nD τ).loc main_arg0) (ix3 ⟨(t.val / 8 * 1024 + r) / 2048, by have h : t.val < 128 := lt_of_lt_of_eq t.isLt N_0; omega⟩
    ⟨(t.val / 8 * 1024 + r) % 2048, by omega⟩ k)

/-- The input block at a point. -/
theorem blk0 (t : Fin cfg0.N) (r : Fin 1024) (k : Fin 2048) :
    (show FVec Ideal S1024x2048 .f32 from iblk m c 0 t) (ix2 r k) = row m c t r k := by
  blk_point [iblk, V, idx t]

/-- The weight block at a point. -/
theorem blk1 (t : Fin cfg0.N) (k : Fin 2048) :
    (show FVec Ideal S1x2048 .f32 from iblk m c 1 t) (ix2 0 k) = m ((c : Thread nD τ).loc main_arg1) (ix2 1 k) := by
  blk_point [iblk, V, idx t]

/-- The tile of the first product's weights at a point. -/
theorem blk2 (t : Fin cfg0.N) (k : Fin 2048) (f : Fin 1024) :
    (show FVec Ideal S1x2048x1024 .bf16 from iblk m c 2 t) (ix3 0 k f)
      = m ((c : Thread nD τ).loc main_arg2) (ix3 1 k ⟨t.val % 8 * 1024 + f, by omega⟩) := by
  blk_point [iblk, V, idx t]

/-- The tile of the second product's weights at a point. -/
theorem blk3 (t : Fin cfg0.N) (f : Fin 1024) (l : Fin 2048) :
    (show FVec Ideal S1x1024x2048 .bf16 from iblk m c 3 t) (ix3 0 f l)
      = m ((c : Thread nD τ).loc main_arg3) (ix3 1 ⟨t.val % 8 * 1024 + f, by omega⟩ l) := by
  blk_point [iblk, V, idx t]

/-- The row depends on the point's run only. -/
theorem row_congr (t t' : Fin cfg0.N) (h : t.val / 8 = t'.val / 8) (r : Fin 1024) : row m c t r = row m c t' r := by
  funext k
  simp only [row, h]

/-- At the first point of a run the scratch is filled with the normalised rows. -/
theorem scrA (t : Fin cfg0.N) (h0 : t.val % 8 = 0) (r : Fin 1024) (k : Fin 2048) :
    (outsAt0 m c t.val t.isLt).2 (ix2 r k) = nrm (row m c t r) (m ((c : Thread nD τ).loc main_arg1) (ix2 1 k)) k := by
  rw [outsAt0_A m c t h0]
  frame_out
  rw [pay2_at]
  exact congrArg₂ (fun a b => nrm a b k) (funext (blk0 m c t r)) (blk1 m c t k)

/-- At the other points the scratch is kept. -/
theorem scrB (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- The carried scratch holds the normalised rows of the point's block. -/
theorem scr (n : ℕ) : ∀ h : n < cfg0.N, ∀ (r : Fin 1024) (k : Fin 2048),
    (outsAt0 m c n h).2 (ix2 r k) = nrm (row m c ⟨n, h⟩ r) (m ((c : Thread nD τ).loc main_arg1) (ix2 1 k)) k := by
  induction n with
  | zero => exact fun h r k => scrA m c ⟨0, h⟩ rfl r k
  | succ n ih =>
    intro h r k
    by_cases h0 : (n + 1) % 8 = 0
    · exact scrA m c ⟨n + 1, h⟩ h0 r k
    · have h1 := congrFun (scrB m c ⟨n + 1, h⟩ h0) (ix2 r k)
      rw [h1]
      refine (ih (Nat.lt_of_succ_lt h) r k).trans ?_
      rw [row_congr m c ⟨n, Nat.lt_of_succ_lt h⟩ ⟨n + 1, h⟩ (show n / 8 = (n + 1) / 8 by omega) r]

/-- One point's part of the accumulated block. -/
def part (t : Fin cfg0.N) (r : Fin 1024) (l : Fin 2048) : EReal :=
  ∑ f : Fin 1024, sqr (∑ k : Fin 2048, nrm (row m c t r) (m ((c : Thread nD τ).loc main_arg1) (ix2 1 k)) k
    * m ((c : Thread nD τ).loc main_arg2) (ix3 1 k ⟨t.val % 8 * 1024 + f, by omega⟩))
    * m ((c : Thread nD τ).loc main_arg3) (ix3 1 ⟨t.val % 8 * 1024 + f, by omega⟩ l)

/-- The accumulating payload over a scratch of normalised rows adds the point's part. -/
theorem pay3_part (t : Fin cfg0.N) (xn : FVec Ideal S1024x2048 .bf16) (acc : FVec Ideal S1024x2048 .f32) (r : Fin 1024) (l : Fin 2048)
    (hs : ∀ k, xn (ix2 r k) = nrm (row m c t r) (m ((c : Thread nD τ).loc main_arg1) (ix2 1 k)) k) :
    k0_pay3 (F := Ideal) xn (iblk m c 2 t) acc (iblk m c 3 t) (ix2 r l) = acc (ix2 r l) + part m c t r l := by
  rw [pay3_at]
  unfold part
  refine congrArg₂ (· + ·) rfl (Finset.sum_congr rfl fun f _ => congrArg₂ (· * ·) (congrArg sqr ?_) (blk3 m c t f l))
  exact Finset.sum_congr rfl fun k _ => congrArg₂ (· * ·) (hs k) (blk2 m c t k f)

/-- What the body leaves at the first point of a run: the block itself plus the point's part. -/
theorem accA (t : Fin cfg0.N) (h0 : t.val % 8 = 0) (r : Fin 1024) (l : Fin 2048) :
    (outsAt0 m c t.val t.isLt).1 (ix2 r l) = row m c t r l + part m c t r l := by
  rw [outsAt0_A m c t h0]
  frame_out
  refine (pay3_part m c t _ _ r l fun k => ?_).trans (congrArg₂ (· + ·) ?_ rfl)
  · rw [pay2_at]
    exact congrArg₂ (fun a b => nrm a b k) (funext (blk0 m c t r)) (blk1 m c t k)
  · rw [pay1_at]
    exact blk0 m c t r l

/-- What the body leaves at another point: what was there plus the point's part. -/
theorem accB (t : Fin cfg0.N) (h0 : ¬t.val % 8 = 0) (r : Fin 1024) (l : Fin 2048) :
    (outsAt0 m c t.val t.isLt).1 (ix2 r l)
      = (outsAt0 m c (t.val - 1) (Nat.lt_of_le_of_lt (Nat.sub_le _ _) t.isLt)).1 (ix2 r l) + part m c t r l := by
  have hs : ∀ k, (outsAt0 m c (t.val - 1) (Nat.lt_of_le_of_lt (Nat.sub_le _ _) t.isLt)).2 (ix2 r k)
      = nrm (row m c t r) (m ((c : Thread nD τ).loc main_arg1) (ix2 1 k)) k := fun k => by
    rw [← congrFun (scrB m c t h0) (ix2 r k)]
    exact scr m c t.val t.isLt r k
  rw [outsAt0_B m c t h0]
  frame_out
  exact pay3_part m c t _ _ r l fun k => (congrFun ((Memref.isWhole_whole cc0_scratch0).read_unread _) _).trans (hs k)

/-- At the point that writes back: the row plus the parts of its run. -/
theorem acc_at (t : Fin cfg0.N) (hf : t.val % 8 = 7) (r : Fin 1024) (l : Fin 2048) :
    (outsAt0 m c t.val t.isLt).1 (ix2 r l)
      = row m c t r l + ∑ s : Fin 8, part m c ⟨8 * (t.val / 8) + s, Pipeline.run_point_lt_of_flush t hf s⟩ r l := by
  have h := Pipeline.eq_sum_fin_of_reset_step_apply_of_flush (ι := Fin 1024 × Fin 2048) (M := EReal)
    (fun n h p => (outsAt0 m c n h).1 (ix2 p.1 p.2)) 8 (fun _ => 0)
    (fun t p => (if t.val % 8 = 0 then row m c t p.1 p.2 else 0) + part m c t p.1 p.2)
    (fun t h p => by simp only [if_pos h, zero_add]; exact accA m c t h p.1 p.2)
    (fun t h p => by simp only [if_neg h, zero_add]; exact accB m c t h p.1 p.2) t hf (r, l)
  refine h.trans ?_
  simp only [zero_add]
  rw [Finset.sum_add_distrib]
  refine congrArg₂ (· + ·) ?_ rfl
  rw [Finset.sum_eq_single (0 : Fin 8)]
  · rw [if_pos (by simp)]
    rw [row_congr m c _ t (by show (8 * (t.val / 8) + 0) / 8 = t.val / 8; omega) r]
  · intro s _ hs
    refine if_neg ?_
    have h1 : (s : ℕ) ≠ 0 := fun h => hs (Fin.ext h)
    show ¬(8 * (t.val / 8) + (s : ℕ)) % 8 = 0
    omega
  · exact fun h => absurd (Finset.mem_univ _) h

/-- The run's parts are the reference's sum over all hidden columns. -/
theorem parts_eq (t : Fin cfg0.N) (hf : t.val % 8 = 7) (r : Fin 1024) (l : Fin 2048) :
    ∑ s : Fin 8, part m c ⟨8 * (t.val / 8) + s, Pipeline.run_point_lt_of_flush t hf s⟩ r l
      = ∑ f : Fin 8192, sqr (∑ k : Fin 2048, nrm (row m c t r) (m ((c : Thread nD τ).loc main_arg1) (ix2 1 k)) k
          * m ((c : Thread nD τ).loc main_arg2) (ix3 1 k f)) * m ((c : Thread nD τ).loc main_arg3) (ix3 1 f l) := by
  unfold part
  refine Fin.sum_mul_add_congr fun s f hl => ?_
  rw [row_congr m c _ t (by show (8 * (t.val / 8) + (s : ℕ)) / 8 = t.val / 8; omega) r]
  have e : ∀ h, (⟨(8 * (t.val / 8) + (s : ℕ)) % 8 * 1024 + f, h⟩ : Fin 8192) = ⟨s * 1024 + f, hl⟩ := fun h => Fin.ext (by
    show (8 * (t.val / 8) + (s : ℕ)) % 8 * 1024 + (f : ℕ) = s * 1024 + f
    omega)
  simp only [e]

/-- The result array after the run is the reference's. -/
theorem final : (dats m 0 c).arrAt 4 cfg0.N
    = Cert.Reference2Ideal.Read.val_main_v24 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have h7 := (flush0_4 t).mp hf
  blk_simp
  rw [after0_4]
  idx_vars y
  rw [acc_at m c t h7, parts_eq m c t h7]
  have he : ((cfg0.win 4).blk t).view.emb (ix2 y0 y1)
      = (ix2 ⟨t.val / 8 * 1024 + y0, by have h : t.val < 128 := lt_of_lt_of_eq t.isLt N_0; omega⟩ y1 : S16384x2048.Idx) := by
    blk_ext [idx t]
  refine Eq.trans ?_ (congrArg _ he).symm
  rw [ref_at]

end Cert.Kernel2Ideal.Mlp
-- ==== Proof.MlpClaim.lean ====
module

public import proofs.«01_k».proof.Defs
public import proofs.«01_k».proof.Proof.Mlp
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Reference2Ideal.Run
public import Idealize.ShloMosaic.Lib.Claim

@[expose] public section

set_option maxRecDepth 16384

noncomputable section

/-! The claims about the feed-forward call. -/

namespace Cert.MlpClaim

open Idealize.ShloMosaic Idealize.SL.Sem

/-- The printed call keeps its arguments. -/
theorem frame_p : Cert.quiescent_Kernel2 := fun m ρ _ => Cert.Kernel2.Gen.frame m ρ

/-- So does the idealized call. -/
theorem frame_pi : Cert.quiescent_Kernel2Ideal := fun m ρ _ => Cert.Kernel2Ideal.Gen.frame m ρ

/-- So does the reference. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference end with equal results. -/
theorem algebraic : Cert.algebraic_Kernel2Ideal_Reference2Ideal := by
  pair_intro
  · run_from Cert.Kernel2Ideal.Gen.run_main (F := Ideal) m g
  · run_from Cert.Reference2Ideal.Value.run (F := Ideal) m' g'
    exact (Cert.Reference2Ideal.Read.val_main_v24_eq ..).trans (Cert.Kernel2Ideal.Mlp.final m c).symm

end Cert.MlpClaim
-- ==== Proof.InMath.lean ====
module

public import Idealize.ShloMosaic.Lib.Pointwise
public import Idealize.ShloMosaic.Lib.Pipeline.ValueKit

@[expose] public section

set_option maxRecDepth 16384

noncomputable section

/-! The rows of the in-projection over the reals: normalisation, one product, the head's own normalisation, and the rotary
embedding, once read off tables of factors and once written out. -/

namespace Cert.InMath

open Idealize.ShloMosaic

/-- One entry of a normalised row: the entry times the reciprocal root of the mean square plus epsilon, times the weight. -/
def nrm (x : Fin 2048 → EReal) (g : EReal) (k : Fin 2048) : EReal :=
  x k * Ideal.rsqrt (Ideal.div (∑ l, x l * x l) (Ideal.ofBits FTy.f32 1157627904#32) + Ideal.ofBits FTy.f32 897988541#32) * g

/-- One entry of a head's normalised row. -/
def hnrm (y : Fin 128 → EReal) (g : Fin 128 → EReal) (k : Fin 128) : EReal :=
  y k * Ideal.rsqrt (Ideal.div (∑ l, y l * y l) (Ideal.ofBits FTy.f32 1124073472#32) + Ideal.ofBits FTy.f32 897988541#32) * g k

/-- One entry of the product of a normalised row with a weight's column. -/
def dot (x g w : Fin 2048 → EReal) : EReal := ∑ k, nrm x (g k) k * w k

/-- The rotation of a head's row, read off two tables of factors. -/
def rot (z c s : Fin 128 → EReal) (l : Fin 128) : EReal :=
  z l * c l + (if l.val < 16 then z ⟨(l.val + 16) % 128, by omega⟩ else z ⟨(l.val + 112) % 128, by omega⟩) * s l

/-- The angle of a pair of entries at a position. -/
def theta (p : EReal) (k : ℕ) : EReal :=
  p * Ideal.pow (Ideal.ofBits FTy.f32 1223959552#32)
    (Ideal.div (-FloatOps.sitofp (F := Ideal) FTy.f32 (BitVec.ofNat 32 k)) (Ideal.ofBits FTy.f32 1098907648#32))

/-- The rotation written out: the first sixteen entries, the next sixteen, the rest as they are. -/
def rope (z : Fin 128 → EReal) (p : EReal) (k : Fin 128) : EReal :=
  if h : k.val < 16 then z k * Ideal.cos (theta p k.val) - z ⟨16 + k.val, by omega⟩ * Ideal.sin (theta p k.val)
  else if h' : k.val - 16 < 16 then z ⟨16 + (k.val - 16), by omega⟩ * Ideal.cos (theta p (k.val - 16))
    + z ⟨k.val - 16, by omega⟩ * Ideal.sin (theta p (k.val - 16))
  else z ⟨32 + (k.val - 16 - 16), by omega⟩

/-- The table of cosines at a position. -/
def tc (p : EReal) (k : Fin 128) : EReal :=
  if k.val < 16 then Ideal.cos (theta p k.val) else if k.val - 16 < 16 then Ideal.cos (theta p (k.val - 16)) else 1

/-- The table of signed sines at a position. -/
def ts (p : EReal) (k : Fin 128) : EReal :=
  if k.val < 16 then -Ideal.sin (theta p k.val) else if k.val - 16 < 16 then Ideal.sin (theta p (k.val - 16)) else 0

/-- The tables' rotation is the rotation written out. -/
theorem rot_eq (z : Fin 128 → EReal) (p : EReal) (l : Fin 128) : rot z (tc p) (ts p) l = rope z p l := by
  unfold rot rope tc ts
  by_cases h : l.val < 16
  · have e : (⟨(l.val + 16) % 128, by omega⟩ : Fin 128) = ⟨16 + l.val, by omega⟩ := Fin.ext (by simp only []; omega)
    rw [if_pos h, if_pos h, if_pos h, dif_pos h, e, mul_neg, sub_eq_add_neg]
  · by_cases h' : l.val - 16 < 16
    · have e : (⟨(l.val + 112) % 128, by omega⟩ : Fin 128) = ⟨l.val - 16, by omega⟩ := Fin.ext (by simp only []; omega)
      have e' : (⟨16 + (l.val - 16), by omega⟩ : Fin 128) = l := Fin.ext (by simp only []; omega)
      rw [if_neg h, if_neg h, if_neg h, dif_neg h, if_pos h', if_pos h', dif_pos h', e, e']
    · have e' : (⟨32 + (l.val - 16 - 16), by omega⟩ : Fin 128) = l := Fin.ext (by simp only []; omega)
      rw [if_neg h, if_neg h, if_neg h, dif_neg h, if_neg h', if_neg h', dif_neg h', e', mul_one, mul_zero, add_zero]

/-- One entry of a projected row in its head: normalised over the head, then rotated. -/
def entry (y : Fin 1024 → EReal) (g : Fin 128 → EReal) (p : EReal) (C : Fin 1024) : EReal :=
  rope (hnrm (fun k => y ⟨C.val / 128 * 128 + k.val, by omega⟩) g) p ⟨C.val % 128, by omega⟩

/-- The entry named by its head's offset. -/
theorem entry_eq (y : Fin 1024 → EReal) (g : Fin 128 → EReal) (p : EReal) (o : ℕ) (ho : o + 128 ≤ 1024) (hd : o % 128 = 0)
    (l : Fin 128) (C : Fin 1024) (hC : C.val = o + l.val) :
    rope (hnrm (fun k => y ⟨o + k.val, by omega⟩) g) p l = entry y g p C := by
  have e : C.val / 128 * 128 = o := by omega
  have e' : (⟨C.val % 128, by omega⟩ : Fin 128) = l := Fin.ext (by simp only []; omega)
  unfold entry
  rw [e']
  simp only [e]

end Cert.InMath
-- ==== Proof.In.lean ====
module

public import proofs.«01_k».proof.Proof.InMath
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

set_option maxRecDepth 16384

noncomputable section

/-! The in-projection of the attention layer: five projected tiles of a tile of normalised rows, two of them
normalised and rotated head by head, against the reference. -/

namespace Cert.Kernel3Ideal.In

open Cert.Kernel3Ideal Cert.Kernel3Ideal.Gen Idealize.ShloMosaic Idealize.ShloMosaic.TcCoe Idealize.SL.Sem Cert.InMath
open Idealize.ShloMosaic.Pipeline (Dat)

/-- One head of a tile: normalised, then rotated by the two tables. -/
def head (y : FVec Ideal S256x128 .f32) (g : FVec Ideal S1x128 .f32) (c s : FVec Ideal S256x128 .f32) : FVec Ideal S256x128 .f32 :=
  let z := mulf (mulf y (broadcastTo S256x128 (rsqrt (addf (divf (shapeCast S256x1 (multiReduction .add [1] S256 (mulf y y) 0x00000000#32
    reduces_S256x128_S256 (.inl rfl) rfl) shapeCasts_S256_S256x1) (broadcast S256x1 (Scalar.ofBits .f32 0x43000000#32)))
    (broadcast S256x1 (Scalar.ofBits .f32 0x358637BD#32)))) broadcasts_S256x1_S256x128))
    (broadcastTo S256x128 (shapeCast S1x128 g shapeCasts_S1x128_S1x128) broadcasts_S1x128_S256x128)
  addf (mulf z (shapeCast S256x128 c shapeCasts_S256x128_S256x128))
    (mulf (select (cmpi .slt (iota .tc S256x128 32 [1] iota_S256x128_d1_w32) (broadcast S256x128 16#32))
      (dynamicRotate 1 112#32 none z rotates_S256x128_d1) (dynamicRotate 1 16#32 none z rotates_S256x128_d1))
      (shapeCast S256x128 s shapeCasts_S256x128_S256x128))

/-- A head of a tile at an index. -/
theorem head_at (y : FVec Ideal S256x128 .f32) (g : FVec Ideal S1x128 .f32) (c s : FVec Ideal S256x128 .f32) (r : Fin 256) (l : Fin 128) :
    head y g c s (ix2 r l)
      = rot (hnrm (fun k => y (ix2 r k)) (fun k => g (ix2 0 k))) (fun k => c (ix2 r k)) (fun k => s (ix2 r k)) l := by
  have hc : ∀ l : Fin 128, IntOp.cmpi CmpIPredicate.slt (BitVec.ofNat 32 l.val) 16#32 = if l.val < 16 then 1#1 else 0#1 := by decide +kernel
  pointwise [head]
  rw [hc l]
  unfold rot
  by_cases h : l.val < 16
  · simp only [h, if_true]
    have e : (⟨(l.val + 16) % 128, by omega⟩ : Fin 128) = ⟨(l.val + 128 - 112) % 128, by omega⟩ := Fin.ext (by simp only []; omega)
    rw [e]
    rfl
  · simp only [h, if_false]
    have e : (⟨(l.val + 112) % 128, by omega⟩ : Fin 128) = ⟨(l.val + 128 - 16) % 128, by omega⟩ := Fin.ext (by simp only []; omega)
    rw [e]
    rfl

/-- A tile's columns from an offset on, at an index. -/
theorem slice_at (A : FVec Ideal S256x1024 .f32) (o : ℕ) (h : S256x1024.Slices ![0, o] S256x128) (ho : o + 128 ≤ 1024) (r : Fin 256) (l : Fin 128) :
    extractStridedSlice S256x128 ![0, o] A h (ix2 r l) = A (ix2 r ⟨o + l, by omega⟩) := by
  pointwise []
/-- The normalising payload at an index. -/
theorem xn_at (x : FVec Ideal S256x2048 .f32) (g : FVec Ideal S1x2048 .f32) (r : Fin 256) (l : Fin 2048) :
    k0_pay10 (F := Ideal) x g (ix2 r l) = nrm (fun k => x (ix2 r k)) (g (ix2 0 l)) l := by
  pointwise [k0_pay10]
  rfl

section
open Cert.Reference3Ideal.Read

/-- The reference's product at an index. -/
theorem ref_dot (x : FVec Ideal S8x2048x2048 .f32) (g : FVec Ideal S2x2048 .f32) (w : FVec Ideal S1x2048x5120 .f32)
    (b : Fin 8) (t : Fin 2048) (f : Fin 5120) :
    val_main_v16 (F := Ideal) x g w (ix3 b t f) = dot (fun k => x (ix3 b t k)) (fun k => g (ix2 0 k)) (fun k => w (ix3 0 k f)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  rfl

/-- The reference's queries before their rotation. -/
theorem ref_hq (x : FVec Ideal S8x2048x2048 .f32) (g : FVec Ideal S2x2048 .f32) (w : FVec Ideal S1x2048x5120 .f32)
    (n : FVec Ideal S1x128 .f32) (b : Fin 8) (t : Fin 2048) (h : Fin 8) (k : Fin 128) :
    val_main_v36 (F := Ideal) x g w n (ix4 b t h k)
      = hnrm (fun k => dot (fun k => x (ix3 b t k)) (fun k => g (ix2 0 k)) (fun j => w (ix3 0 j ⟨h.val * 128 + k.val, by omega⟩)))
          (fun k => n (ix2 0 k)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4]
  rfl

/-- The reference's keys before their rotation. -/
theorem ref_hk (x : FVec Ideal S8x2048x2048 .f32) (g : FVec Ideal S2x2048 .f32) (w : FVec Ideal S1x2048x5120 .f32)
    (n : FVec Ideal S1x128 .f32) (b : Fin 8) (t : Fin 2048) (h : Fin 8) (k : Fin 128) :
    val_main_v86 (F := Ideal) x g w n (ix4 b t h k)
      = hnrm (fun k => dot (fun k => x (ix3 b t k)) (fun k => g (ix2 0 k)) (fun j => w (ix3 0 j ⟨1024 + (h.val * 128 + k.val), by omega⟩)))
          (fun k => n (ix2 0 k)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v18, val_main_v72, val_main_v73, val_main_v74, val_main_v75, val_main_v76, val_main_v77, val_main_v78, val_main_v79, val_main_v80, val_main_v81, val_main_v82, val_main_v83, val_main_v84, val_main_v85, val_main_v86, val_main_cst, val_main_cst_0, val_main_cst_1, val_main_cst_7, val_main_cst_8, val_main_cst_9]
  rfl

/-- The reference's queries. -/
theorem ref_q (x : FVec Ideal S8x2048x2048 .f32) (g : FVec Ideal S2x2048 .f32) (w : FVec Ideal S1x2048x5120 .f32)
    (n : FVec Ideal S1x128 .f32) (R : Fin 16384) (C : Fin 1024) :
    val_main_v122 (F := Ideal) x g w n (ix2 R C)
      = entry (fun f => dot (fun k => x (ix3 ⟨R / 2048, by omega⟩ ⟨R % 2048, by omega⟩ k)) (fun k => g (ix2 0 k)) (fun j => w (ix3 0 j ⟨f.val, by omega⟩)))
          (fun k => n (ix2 0 k)) (FloatOps.sitofp (F := Ideal) FTy.f32 (BitVec.ofNat 32 (R.val % 2048))) C := by
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v122, val_main_cst_5, val_main_cst_6]
  simp only [ref_hq]
  rfl

/-- The reference's keys. -/
theorem ref_k (x : FVec Ideal S8x2048x2048 .f32) (g : FVec Ideal S2x2048 .f32) (w : FVec Ideal S1x2048x5120 .f32)
    (n : FVec Ideal S1x128 .f32) (R : Fin 16384) (C : Fin 1024) :
    val_main_v123 (F := Ideal) x g w n (ix2 R C)
      = entry (fun f => dot (fun k => x (ix3 ⟨R / 2048, by omega⟩ ⟨R % 2048, by omega⟩ k)) (fun k => g (ix2 0 k)) (fun j => w (ix3 0 j ⟨1024 + f.val, by omega⟩)))
          (fun k => n (ix2 0 k)) (FloatOps.sitofp (F := Ideal) FTy.f32 (BitVec.ofNat 32 (R.val % 2048))) C := by
  pointwise [val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v123, val_main_cst_10, val_main_cst_11]
  simp only [ref_hk]
  rfl

/-- The reference's values. -/
theorem ref_124 (x : FVec Ideal S8x2048x2048 .f32) (g : FVec Ideal S2x2048 .f32) (w : FVec Ideal S1x2048x5120 .f32)
    (R : Fin 16384) (C : Fin 1024) :
    val_main_v124 (F := Ideal) x g w (ix2 R C)
      = dot (fun k => x (ix3 ⟨R / 2048, by omega⟩ ⟨R % 2048, by omega⟩ k)) (fun k => g (ix2 0 k)) (fun j => w (ix3 0 j ⟨2048 + C.val, by omega⟩)) := by
  pointwise [val_main_v19, val_main_v124]
  exact ref_dot ..

/-- The reference's recurrence's input. -/
theorem ref_125 (x : FVec Ideal S8x2048x2048 .f32) (g : FVec Ideal S2x2048 .f32) (w : FVec Ideal S1x2048x5120 .f32)
    (R : Fin 16384) (C : Fin 1024) :
    val_main_v125 (F := Ideal) x g w (ix2 R C)
      = dot (fun k => x (ix3 ⟨R / 2048, by omega⟩ ⟨R % 2048, by omega⟩ k)) (fun k => g (ix2 0 k)) (fun j => w (ix3 0 j ⟨3072 + C.val, by omega⟩)) := by
  pointwise [val_main_v20, val_main_v125]
  exact ref_dot ..

/-- The reference's gate's input. -/
theorem ref_126 (x : FVec Ideal S8x2048x2048 .f32) (g : FVec Ideal S2x2048 .f32) (w : FVec Ideal S1x2048x5120 .f32)
    (R : Fin 16384) (C : Fin 1024) :
    val_main_v126 (F := Ideal) x g w (ix2 R C)
      = dot (fun k => x (ix3 ⟨R / 2048, by omega⟩ ⟨R % 2048, by omega⟩ k)) (fun k => g (ix2 0 k)) (fun j => w (ix3 0 j ⟨4096 + C.val, by omega⟩)) := by
  pointwise [val_main_v21, val_main_v126]
  exact ref_dot ..

end
variable (m : (ℓ : Loc nD τ sig) → Buf (Elt Ideal) ℓ) (c : Dev nD)

/-- Where each window's block lies at a point. -/
theorem idx : ∀ t : Fin cfg0.N, win0_0.index t = ![t.val, 0] ∧ win0_1.index t = ![0, 0] ∧ win0_2.index t = ![0, 0, 0]
    ∧ win0_3.index t = ![0, 0, 1] ∧ win0_4.index t = ![0, 0, 2] ∧ win0_5.index t = ![0, 0, 3] ∧ win0_6.index t = ![0, 0, 4]
    ∧ win0_7.index t = ![0, 0] ∧ win0_8.index t = ![0, 0] ∧ win0_9.index t = ![t.val % 8, 0] ∧ win0_10.index t = ![t.val % 8, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, win0_0.index t = ![t.val, 0] ∧ win0_1.index t = ![0, 0] ∧ win0_2.index t = ![0, 0, 0]
    ∧ win0_3.index t = ![0, 0, 1] ∧ win0_4.index t = ![0, 0, 2] ∧ win0_5.index t = ![0, 0, 3] ∧ win0_6.index t = ![0, 0, 4]
    ∧ win0_7.index t = ![0, 0] ∧ win0_8.index t = ![0, 0] ∧ win0_9.index t = ![t.val % 8, 0] ∧ win0_10.index t = ![t.val % 8, 0]
    ∧ win0_11.index t = ![t.val, 0] ∧ win0_12.index t = ![t.val, 0] ∧ win0_13.index t = ![t.val, 0] ∧ win0_14.index t = ![t.val, 0]
    ∧ win0_15.index t = ![t.val, 0])

/-- The reference's row that row `r` of point `t`'s block is. -/
abbrev row (t : Fin cfg0.N) (r : Fin 256) (k : Fin 2048) : EReal :=
  m ((c : Thread nD τ).loc main_arg0) (ix3 ⟨(t.val * 256 + r) / 2048, by have h : t.val < 64 := lt_of_lt_of_eq t.isLt N_0; omega⟩
    ⟨(t.val * 256 + r) % 2048, by omega⟩ k)

/-- The angles as the host prepares them. -/
def ang : FVec Ideal S2048x16 .f32 :=
  mulf (broadcastInDim S2048x16 ![0, 1] bcast_S2048x1_S2048x16_0_1 (broadcastInDim S2048x1 ![0] bcast_S2048_S2048x1_0
      (sitofp (F := Ideal) .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

/-- The table of cosines as the host prepares it. -/
def tcos : FVec Ideal S2048x128 .f32 :=
  concatenate S2048x128 1 [⟨S2048x16, (Host.cos ang : FVec Ideal S2048x16 .f32)⟩, ⟨S2048x16, (Host.cos ang : FVec Ideal S2048x16 .f32)⟩,
    ⟨S2048x96, (broadcastInDim S2048x96 ![] bcast_S_S2048x96 (constant S_ .f32 0x3F800000#32) : FVec Ideal S2048x96 .f32)⟩]
    concatenates_S2048x16_S2048x16_S2048x96_S2048x128_d1

/-- The table of signed sines as the host prepares it. -/
def tsin : FVec Ideal S2048x128 .f32 :=
  concatenate S2048x128 1 [⟨S2048x16, (Host.negf (Host.sin ang) : FVec Ideal S2048x16 .f32)⟩, ⟨S2048x16, (Host.sin ang : FVec Ideal S2048x16 .f32)⟩,
    ⟨S2048x96, (broadcastInDim S2048x96 ![] bcast_S_S2048x96 (constant S_ .f32 0x00000000#32) : FVec Ideal S2048x96 .f32)⟩]
    concatenates_S2048x16_S2048x16_S2048x96_S2048x128_d1

/-- The host leaves the cosines' table in the window's array. -/
theorem V16 : V m c main_v16 = tcos := rfl

/-- The host leaves the signed sines' table in the window's array. -/
theorem V19 : V m c main_v19 = tsin := rfl

/-- A position as the tables' angles read it. -/
abbrev pos (n : ℕ) : EReal := FloatOps.sitofp (F := Ideal) FTy.f32 (BitVec.ofNat 32 n)

/-- The angles at an index. -/
theorem ang_at (r : Fin 2048) (k : Fin 16) : ang (ix2 r k) = theta (pos r.val) k.val := by
  pointwise [ang]
  rfl

/-- The cosines' table at an index. -/
theorem tcos_at (r : Fin 2048) (k : Fin 128) : tcos (ix2 r k) = tc (pos r.val) k := by
  pointwise [tcos]
  simp only [ang_at, dite_eq_ite]
  rfl

/-- The signed sines' table at an index. -/
theorem tsin_at (r : Fin 2048) (k : Fin 128) : tsin (ix2 r k) = ts (pos r.val) k := by
  pointwise [tsin]
  simp only [ang_at, dite_eq_ite]
  rfl

/-- The block of input rows at a point. -/
theorem blk0 (t : Fin cfg0.N) (r : Fin 256) (k : Fin 2048) :
    (show FVec Ideal S256x2048 .f32 from iblk m c 0 t) (ix2 r k) = row m c t r k := by
  blk_point [iblk, V, idx t]

/-- The norm's weights at a point. -/
theorem blk1 (t : Fin cfg0.N) (k : Fin 2048) :
    (show FVec Ideal S1x2048 .f32 from iblk m c 1 t) (ix2 0 k) = m ((c : Thread nD τ).loc main_arg1) (ix2 0 k) := by
  blk_point [iblk, V, idx t]

/-- The weight tile of the queries at a point. -/
theorem blk2 (t : Fin cfg0.N) (k : Fin 2048) (f : Fin 1024) :
    (show FVec Ideal S1x2048x1024 .bf16 from iblk m c 2 t) (ix3 0 k f)
      = m ((c : Thread nD τ).loc main_arg2) (ix3 0 k ⟨f.val, by omega⟩) := by
  blk_point [iblk, V, idx t]

/-- The weight tile of the keys at a point. -/
theorem blk3 (t : Fin cfg0.N) (k : Fin 2048) (f : Fin 1024) :
    (show FVec Ideal S1x2048x1024 .bf16 from iblk m c 3 t) (ix3 0 k f)
      = m ((c : Thread nD τ).loc main_arg2) (ix3 0 k ⟨1024 + f.val, by omega⟩) := by
  blk_point [iblk, V, idx t]

/-- The weight tile of the values at a point. -/
theorem blk4 (t : Fin cfg0.N) (k : Fin 2048) (f : Fin 1024) :
    (show FVec Ideal S1x2048x1024 .bf16 from iblk m c 4 t) (ix3 0 k f)
      = m ((c : Thread nD τ).loc main_arg2) (ix3 0 k ⟨2048 + f.val, by omega⟩) := by
  blk_point [iblk, V, idx t]

/-- The weight tile of the recurrence at a point. -/
theorem blk5 (t : Fin cfg0.N) (k : Fin 2048) (f : Fin 1024) :
    (show FVec Ideal S1x2048x1024 .bf16 from iblk m c 5 t) (ix3 0 k f)
      = m ((c : Thread nD τ).loc main_arg2) (ix3 0 k ⟨3072 + f.val, by omega⟩) := by
  blk_point [iblk, V, idx t]

/-- The weight tile of the gate at a point. -/
theorem blk6 (t : Fin cfg0.N) (k : Fin 2048) (f : Fin 1024) :
    (show FVec Ideal S1x2048x1024 .bf16 from iblk m c 6 t) (ix3 0 k f)
      = m ((c : Thread nD τ).loc main_arg2) (ix3 0 k ⟨4096 + f.val, by omega⟩) := by
  blk_point [iblk, V, idx t]

/-- The queries' norm weights at a point. -/
theorem blk7 (t : Fin cfg0.N) (k : Fin 128) :
    (show FVec Ideal S1x128 .f32 from iblk m c 7 t) (ix2 0 k) = m ((c : Thread nD τ).loc main_arg3) (ix2 0 k) := by
  blk_point [iblk, V, idx t]

/-- The keys' norm weights at a point. -/
theorem blk8 (t : Fin cfg0.N) (k : Fin 128) :
    (show FVec Ideal S1x128 .f32 from iblk m c 8 t) (ix2 0 k) = m ((c : Thread nD τ).loc main_arg4) (ix2 0 k) := by
  blk_point [iblk, V, idx t]

/-- The block of cosines at a point. -/
theorem blk9 (t : Fin cfg0.N) (r : Fin 256) (k : Fin 128) :
    (show FVec Ideal S256x128 .f32 from iblk m c 9 t) (ix2 r k) = tc (pos (t.val % 8 * 256 + r.val)) k := by
  refine Eq.trans ?_ (tcos_at ⟨t.val % 8 * 256 + r, by omega⟩ k)
  rw [← V16 m c]
  blk_point [iblk, idx t]

/-- The block of signed sines at a point. -/
theorem blk10 (t : Fin cfg0.N) (r : Fin 256) (k : Fin 128) :
    (show FVec Ideal S256x128 .f32 from iblk m c 10 t) (ix2 r k) = ts (pos (t.val % 8 * 256 + r.val)) k := by
  refine Eq.trans ?_ (tsin_at ⟨t.val % 8 * 256 + r, by omega⟩ k)
  rw [← V19 m c]
  blk_point [iblk, idx t]

/-- The product payload over normalised rows at an index. -/
theorem mm_at (x : FVec Ideal S256x2048 .f32) (g : FVec Ideal S1x2048 .f32) (w : FVec Ideal S1x2048x1024 .bf16) (r : Fin 256) (f : Fin 1024) :
    k0_pay38 (F := Ideal) (k0_pay10 x g) w (ix2 r f) = dot (fun k => x (ix2 r k)) (fun k => g (ix2 0 k)) (fun k => w (ix3 0 k f)) := by
  pointwise [k0_pay38, k0_pay10]
  rfl

/-- A head cut out of a tile of projected rows, at an index. -/
theorem head_piece (A : FVec Ideal S256x1024 .f32) (gn : FVec Ideal S1x128 .f32) (ta tb : FVec Ideal S256x128 .f32)
    (o : ℕ) (hs : S256x1024.Slices ![0, o] S256x128) (ho : o + 128 ≤ 1024) (hd : o % 128 = 0) (y : Fin 1024 → EReal) (p : EReal)
    (gv : Fin 128 → EReal) (r : Fin 256) (l : Fin 128) (C : Fin 1024) (hA : ∀ f, A (ix2 r f) = y f) (hg : ∀ k, gn (ix2 0 k) = gv k)
    (hc : ∀ k, ta (ix2 r k) = tc p k) (hn : ∀ k, tb (ix2 r k) = ts p k) (hC : C.val = o + l.val) :
    head (extractStridedSlice S256x128 ![0, o] A hs) gn ta tb (ix2 r l) = entry y gv p C := by
  rw [head_at, ← entry_eq y gv p o ho hd l C hC, ← rot_eq]
  simp only [slice_at A o hs ho, hA, hg, hc, hn]

/-- A piece of a plain product's tile, at an index. -/
theorem plain_piece (A : FVec Ideal S256x1024 .f32) (o : ℕ) (hs : S256x1024.Slices ![0, o] S256x128) (ho : o + 128 ≤ 1024)
    (y : Fin 1024 → EReal) (r : Fin 256) (l : Fin 128) (C : Fin 1024) (hA : ∀ f, A (ix2 r f) = y f) (hC : C.val = o + l.val) :
    extractStridedSlice S256x128 ![0, o] A hs (ix2 r l) = y C := by
  rw [slice_at A o hs ho, hA]
  exact congrArg y (Fin.ext hC.symm)

/-- A point's product with the columns of the weight that a map names. -/
abbrev prod (t : Fin cfg0.N) (r : Fin 256) (col : Fin 1024 → Fin 5120) (f : Fin 1024) : EReal :=
  dot (row m c t r) (fun k => m ((c : Thread nD τ).loc main_arg1) (ix2 0 k)) (fun k => m ((c : Thread nD τ).loc main_arg2) (ix3 0 k (col f)))

/-- The product payload over a point's normalised rows, from what its weight tile holds. -/
theorem mm_point (t : Fin cfg0.N) (w : FVec Ideal S1x2048x1024 .bf16) (col : Fin 1024 → Fin 5120)
    (hw : ∀ k f, w (ix3 0 k f) = m ((c : Thread nD τ).loc main_arg2) (ix3 0 k (col f))) (r : Fin 256) (f : Fin 1024) :
    k0_pay38 (F := Ideal) (k0_pay10 (iblk m c 0 t) (iblk m c 1 t)) w (ix2 r f) = prod m c t r col f := by
  rw [mm_at]
  have e0 := funext (blk0 m c t r)
  have e1 := funext (blk1 m c t)
  have e2 := funext fun k => hw k f
  exact congr (congr (congrArg dot e0) e1) e2

/-- What the body leaves in the queries' tile at a point. -/
theorem q_point (t : Fin cfg0.N) (r : Fin 256) (C : Fin 1024) :
    out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r C)
      = entry (prod m c t r (fun f => ⟨f.val, by omega⟩)) (fun k => m ((c : Thread nD τ).loc main_arg3) (ix2 0 k)) (pos (t.val % 8 * 256 + r.val)) C := by
  unfold_out out0_11
  frame_out
  have hA := mm_point m c t (iblk m c 2 t) (fun f => ⟨f.val, by omega⟩) (blk2 m c t) r
  canon_tiles x h
  all_goals obtain ⟨r', l, rfl⟩ : ∃ (r' : Fin 256) (l : Fin 128), x = ix2 r' l := ⟨x 0, x 1, by ext a; fin_cases a <;> rfl⟩
  all_goals obtain rfl : r' = r := Fin.ext h0.symm
  case piece0 => exact head_piece _ (iblk m c 7 t) _ _ 896 slices_S256x1024_o0_896_S256x128 (by decide) (by decide) _ _ _ _ l C hA (blk7 m c t) (blk9 m c t _) (blk10 m c t _) h1
  case piece1 => exact head_piece _ (iblk m c 7 t) _ _ 768 slices_S256x1024_o0_768_S256x128 (by decide) (by decide) _ _ _ _ l C hA (blk7 m c t) (blk9 m c t _) (blk10 m c t _) h1
  case piece2 => exact head_piece _ (iblk m c 7 t) _ _ 640 slices_S256x1024_o0_640_S256x128 (by decide) (by decide) _ _ _ _ l C hA (blk7 m c t) (blk9 m c t _) (blk10 m c t _) h1
  case piece3 => exact head_piece _ (iblk m c 7 t) _ _ 512 slices_S256x1024_o0_512_S256x128 (by decide) (by decide) _ _ _ _ l C hA (blk7 m c t) (blk9 m c t _) (blk10 m c t _) h1
  case piece4 => exact head_piece _ (iblk m c 7 t) _ _ 384 slices_S256x1024_o0_384_S256x128 (by decide) (by decide) _ _ _ _ l C hA (blk7 m c t) (blk9 m c t _) (blk10 m c t _) h1
  case piece5 => exact head_piece _ (iblk m c 7 t) _ _ 256 slices_S256x1024_o0_256_S256x128 (by decide) (by decide) _ _ _ _ l C hA (blk7 m c t) (blk9 m c t _) (blk10 m c t _) h1
  case piece6 => exact head_piece _ (iblk m c 7 t) _ _ 128 slices_S256x1024_o0_128_S256x128 (by decide) (by decide) _ _ _ _ l C hA (blk7 m c t) (blk9 m c t _) (blk10 m c t _) h1
  case piece7 => exact head_piece _ (iblk m c 7 t) _ _ 0 slices_S256x1024_o0_0_S256x128 (by decide) (by decide) _ _ _ _ l C hA (blk7 m c t) (blk9 m c t _) (blk10 m c t _) (h1.trans (Nat.zero_add _).symm)

/-- What the body leaves in the keys' tile at a point. -/
theorem k_point (t : Fin cfg0.N) (r : Fin 256) (C : Fin 1024) :
    out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r C)
      = entry (prod m c t r (fun f => ⟨1024 + f.val, by omega⟩)) (fun k => m ((c : Thread nD τ).loc main_arg4) (ix2 0 k)) (pos (t.val % 8 * 256 + r.val)) C := by
  unfold_out out0_12
  frame_out
  have hA := mm_point m c t (iblk m c 3 t) (fun f => ⟨1024 + f.val, by omega⟩) (blk3 m c t) r
  canon_tiles x h
  all_goals obtain ⟨r', l, rfl⟩ : ∃ (r' : Fin 256) (l : Fin 128), x = ix2 r' l := ⟨x 0, x 1, by ext a; fin_cases a <;> rfl⟩
  all_goals obtain rfl : r' = r := Fin.ext h0.symm
  case piece0 => exact head_piece _ (iblk m c 8 t) _ _ 896 slices_S256x1024_o0_896_S256x128 (by decide) (by decide) _ _ _ _ l C hA (blk8 m c t) (blk9 m c t _) (blk10 m c t _) h1
  case piece1 => exact head_piece _ (iblk m c 8 t) _ _ 768 slices_S256x1024_o0_768_S256x128 (by decide) (by decide) _ _ _ _ l C hA (blk8 m c t) (blk9 m c t _) (blk10 m c t _) h1
  case piece2 => exact head_piece _ (iblk m c 8 t) _ _ 640 slices_S256x1024_o0_640_S256x128 (by decide) (by decide) _ _ _ _ l C hA (blk8 m c t) (blk9 m c t _) (blk10 m c t _) h1
  case piece3 => exact head_piece _ (iblk m c 8 t) _ _ 512 slices_S256x1024_o0_512_S256x128 (by decide) (by decide) _ _ _ _ l C hA (blk8 m c t) (blk9 m c t _) (blk10 m c t _) h1
  case piece4 => exact head_piece _ (iblk m c 8 t) _ _ 384 slices_S256x1024_o0_384_S256x128 (by decide) (by decide) _ _ _ _ l C hA (blk8 m c t) (blk9 m c t _) (blk10 m c t _) h1
  case piece5 => exact head_piece _ (iblk m c 8 t) _ _ 256 slices_S256x1024_o0_256_S256x128 (by decide) (by decide) _ _ _ _ l C hA (blk8 m c t) (blk9 m c t _) (blk10 m c t _) h1
  case piece6 => exact head_piece _ (iblk m c 8 t) _ _ 128 slices_S256x1024_o0_128_S256x128 (by decide) (by decide) _ _ _ _ l C hA (blk8 m c t) (blk9 m c t _) (blk10 m c t _) h1
  case piece7 => exact head_piece _ (iblk m c 8 t) _ _ 0 slices_S256x1024_o0_0_S256x128 (by decide) (by decide) _ _ _ _ l C hA (blk8 m c t) (blk9 m c t _) (blk10 m c t _) (h1.trans (Nat.zero_add _).symm)

/-- What the body leaves in the values' tile at a point. -/
theorem v_point (t : Fin cfg0.N) (r : Fin 256) (C : Fin 1024) :
    out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r C)
      = prod m c t r (fun f => ⟨2048 + f.val, by omega⟩) C := by
  unfold_out out0_13
  frame_out
  have hA := mm_point m c t (iblk m c 4 t) (fun f => ⟨2048 + f.val, by omega⟩) (blk4 m c t) r
  canon_tiles x h
  all_goals obtain ⟨r', l, rfl⟩ : ∃ (r' : Fin 256) (l : Fin 128), x = ix2 r' l := ⟨x 0, x 1, by ext a; fin_cases a <;> rfl⟩
  all_goals obtain rfl : r' = r := Fin.ext h0.symm
  case piece0 => exact plain_piece _ 896 slices_S256x1024_o0_896_S256x128 (by decide) _ _ l C hA h1
  case piece1 => exact plain_piece _ 768 slices_S256x1024_o0_768_S256x128 (by decide) _ _ l C hA h1
  case piece2 => exact plain_piece _ 640 slices_S256x1024_o0_640_S256x128 (by decide) _ _ l C hA h1
  case piece3 => exact plain_piece _ 512 slices_S256x1024_o0_512_S256x128 (by decide) _ _ l C hA h1
  case piece4 => exact plain_piece _ 384 slices_S256x1024_o0_384_S256x128 (by decide) _ _ l C hA h1
  case piece5 => exact plain_piece _ 256 slices_S256x1024_o0_256_S256x128 (by decide) _ _ l C hA h1
  case piece6 => exact plain_piece _ 128 slices_S256x1024_o0_128_S256x128 (by decide) _ _ l C hA h1
  case piece7 => exact plain_piece _ 0 slices_S256x1024_o0_0_S256x128 (by decide) _ _ l C hA (h1.trans (Nat.zero_add _).symm)

/-- What the body leaves in the recurrence's inputs' tile at a point. -/
theorem xr_point (t : Fin cfg0.N) (r : Fin 256) (C : Fin 1024) :
    out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r C)
      = prod m c t r (fun f => ⟨3072 + f.val, by omega⟩) C := by
  unfold_out out0_14
  frame_out
  have hA := mm_point m c t (iblk m c 5 t) (fun f => ⟨3072 + f.val, by omega⟩) (blk5 m c t) r
  canon_tiles x h
  all_goals obtain ⟨r', l, rfl⟩ : ∃ (r' : Fin 256) (l : Fin 128), x = ix2 r' l := ⟨x 0, x 1, by ext a; fin_cases a <;> rfl⟩
  all_goals obtain rfl : r' = r := Fin.ext h0.symm
  case piece0 => exact plain_piece _ 896 slices_S256x1024_o0_896_S256x128 (by decide) _ _ l C hA h1
  case piece1 => exact plain_piece _ 768 slices_S256x1024_o0_768_S256x128 (by decide) _ _ l C hA h1
  case piece2 => exact plain_piece _ 640 slices_S256x1024_o0_640_S256x128 (by decide) _ _ l C hA h1
  case piece3 => exact plain_piece _ 512 slices_S256x1024_o0_512_S256x128 (by decide) _ _ l C hA h1
  case piece4 => exact plain_piece _ 384 slices_S256x1024_o0_384_S256x128 (by decide) _ _ l C hA h1
  case piece5 => exact plain_piece _ 256 slices_S256x1024_o0_256_S256x128 (by decide) _ _ l C hA h1
  case piece6 => exact plain_piece _ 128 slices_S256x1024_o0_128_S256x128 (by decide) _ _ l C hA h1
  case piece7 => exact plain_piece _ 0 slices_S256x1024_o0_0_S256x128 (by decide) _ _ l C hA (h1.trans (Nat.zero_add _).symm)

/-- What the body leaves in the gates' tile at a point. -/
theorem yg_point (t : Fin cfg0.N) (r : Fin 256) (C : Fin 1024) :
    out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r C)
      = prod m c t r (fun f => ⟨4096 + f.val, by omega⟩) C := by
  unfold_out out0_15
  frame_out
  have hA := mm_point m c t (iblk m c 6 t) (fun f => ⟨4096 + f.val, by omega⟩) (blk6 m c t) r
  canon_tiles x h
  all_goals obtain ⟨r', l, rfl⟩ : ∃ (r' : Fin 256) (l : Fin 128), x = ix2 r' l := ⟨x 0, x 1, by ext a; fin_cases a <;> rfl⟩
  all_goals obtain rfl : r' = r := Fin.ext h0.symm
  case piece0 => exact plain_piece _ 896 slices_S256x1024_o0_896_S256x128 (by decide) _ _ l C hA h1
  case piece1 => exact plain_piece _ 768 slices_S256x1024_o0_768_S256x128 (by decide) _ _ l C hA h1
  case piece2 => exact plain_piece _ 640 slices_S256x1024_o0_640_S256x128 (by decide) _ _ l C hA h1
  case piece3 => exact plain_piece _ 512 slices_S256x1024_o0_512_S256x128 (by decide) _ _ l C hA h1
  case piece4 => exact plain_piece _ 384 slices_S256x1024_o0_384_S256x128 (by decide) _ _ l C hA h1
  case piece5 => exact plain_piece _ 256 slices_S256x1024_o0_256_S256x128 (by decide) _ _ l C hA h1
  case piece6 => exact plain_piece _ 128 slices_S256x1024_o0_128_S256x128 (by decide) _ _ l C hA h1
  case piece7 => exact plain_piece _ 0 slices_S256x1024_o0_0_S256x128 (by decide) _ _ l C hA (h1.trans (Nat.zero_add _).symm)

/-- The array of queries after the run is the reference's. -/
theorem final_q : (dats m 0 c).arrAt 11 cfg0.N
    = Cert.Reference3Ideal.Read.val_main_v122 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 11 _ (by decide +kernel) fun t hf y => ?_
  blk_simp
  rw [after0_11]
  idx_vars y
  have ht : t.val < 64 := lt_of_lt_of_eq t.isLt N_0
  have he : ((cfg0.win 11).blk t).view.emb (ix2 y0 y1) = (ix2 ⟨t.val * 256 + y0, by omega⟩ y1 : S16384x1024.Idx) := by
    blk_ext [idx t]
  refine Eq.trans ?_ (congrArg _ he).symm
  have hp : (t.val * 256 + y0.val) % 2048 = t.val % 8 * 256 + y0.val := by omega
  rw [ref_q]
  exact (q_point m c t y0 y1).trans (congrArg (fun n => entry _ _ (pos n) y1) hp.symm)

/-- The array of keys after the run is the reference's. -/
theorem final_k : (dats m 0 c).arrAt 12 cfg0.N
    = Cert.Reference3Ideal.Read.val_main_v123 (F := Ideal) (m ((c : Thread nD τ).loc main_arg0)) (m ((c : Thread nD τ).loc main_arg1))
        (m ((c : Thread nD τ).loc main_arg2)) (m ((c : Thread nD τ).loc main_arg4)) := by
  refine (dats m 0 c).arrAt_eq_of_covers 12 _ (by decide +kernel) fun t hf y => ?_
  blk_simp
  rw [after0_12]
  idx_vars y
  have ht : t.val < 64 := lt_of_lt_of_eq t.isLt N_0
  have he : ((cfg0.win 12).blk t).view.emb (ix2 y0 y1) = (ix2 ⟨t.val * 256 + y0, by omega⟩ y1 : S16384x1024.Idx) := by
    blk_ext [idx t]
  refine Eq.trans ?_ (congrArg _ he).symm
  have hp : (t.val * 256 + y0.val) % 2048 = t.val % 8 * 256 + y0.val := by omega
  rw [ref_k]
  exact (k_point m c t y0 y1).trans (congrArg (fun n => entry _ _ (pos n) y1) hp.symm)

/-- The array of values after the run is the reference's. -/
theorem final_v : (dats m 0 c).arrAt 13 cfg0.N
    = Cert.Reference3Ideal.Read.val_main_v124 (F := Ideal) (m ((c : Thread nD τ).loc main_arg0)) (m ((c : Thread nD τ).loc main_arg1))
        (m ((c : Thread nD τ).loc main_arg2)) := by
  refine (dats m 0 c).arrAt_eq_of_covers 13 _ (by decide +kernel) fun t hf y => ?_
  blk_simp
  rw [after0_13]
  idx_vars y
  have ht : t.val < 64 := lt_of_lt_of_eq t.isLt N_0
  have he : ((cfg0.win 13).blk t).view.emb (ix2 y0 y1) = (ix2 ⟨t.val * 256 + y0, by omega⟩ y1 : S16384x1024.Idx) := by
    blk_ext [idx t]
  refine Eq.trans ?_ (congrArg _ he).symm
  rw [ref_124]
  exact v_point m c t y0 y1

/-- The array of recurrence's inputs after the run is the reference's. -/
theorem final_xr : (dats m 0 c).arrAt 14 cfg0.N
    = Cert.Reference3Ideal.Read.val_main_v125 (F := Ideal) (m ((c : Thread nD τ).loc main_arg0)) (m ((c : Thread nD τ).loc main_arg1))
        (m ((c : Thread nD τ).loc main_arg2)) := by
  refine (dats m 0 c).arrAt_eq_of_covers 14 _ (by decide +kernel) fun t hf y => ?_
  blk_simp
  rw [after0_14]
  idx_vars y
  have ht : t.val < 64 := lt_of_lt_of_eq t.isLt N_0
  have he : ((cfg0.win 14).blk t).view.emb (ix2 y0 y1) = (ix2 ⟨t.val * 256 + y0, by omega⟩ y1 : S16384x1024.Idx) := by
    blk_ext [idx t]
  refine Eq.trans ?_ (congrArg _ he).symm
  rw [ref_125]
  exact xr_point m c t y0 y1

/-- The array of gates after the run is the reference's. -/
theorem final_yg : (dats m 0 c).arrAt 15 cfg0.N
    = Cert.Reference3Ideal.Read.val_main_v126 (F := Ideal) (m ((c : Thread nD τ).loc main_arg0)) (m ((c : Thread nD τ).loc main_arg1))
        (m ((c : Thread nD τ).loc main_arg2)) := by
  refine (dats m 0 c).arrAt_eq_of_covers 15 _ (by decide +kernel) fun t hf y => ?_
  blk_simp
  rw [after0_15]
  idx_vars y
  have ht : t.val < 64 := lt_of_lt_of_eq t.isLt N_0
  have he : ((cfg0.win 15).blk t).view.emb (ix2 y0 y1) = (ix2 ⟨t.val * 256 + y0, by omega⟩ y1 : S16384x1024.Idx) := by
    blk_ext [idx t]
  refine Eq.trans ?_ (congrArg _ he).symm
  rw [ref_126]
  exact yg_point m c t y0 y1

end Cert.Kernel3Ideal.In
-- ==== Proof.InClaim.lean ====
module

public import proofs.«01_k».proof.Defs
public import proofs.«01_k».proof.Proof.In
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Run
public import Idealize.ShloMosaic.Lib.Claim

@[expose] public section

set_option maxRecDepth 16384

noncomputable section

/-! The claims about the attention layer's in-projection. -/

namespace Cert.InClaim

open Idealize.ShloMosaic Idealize.SL.Sem

/-- The printed call keeps its arguments. -/
theorem frame_p : Cert.quiescent_Kernel3 := fun m ρ _ => Cert.Kernel3.Gen.frame m ρ

/-- So does the idealized call. -/
theorem frame_pi : Cert.quiescent_Kernel3Ideal := fun m ρ _ => Cert.Kernel3Ideal.Gen.frame m ρ

/-- So does the reference. -/
theorem frame_ri : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

set_option maxHeartbeats 2000000 in
/-- Kernel and reference end with equal results. -/
theorem algebraic : Cert.algebraic_Kernel3Ideal_Reference3Ideal := by
  pair_intro
  · run_from Cert.Kernel3Ideal.Gen.run_main (F := Ideal) m g
  · run_from Cert.Reference3Ideal.Value.run (F := Ideal) m' g'
    · obtain ⟨e0, e1, e2, e3, e4⟩ := hagree c
      refine (Cert.Reference3Ideal.Read.val_main_v122_eq (F := Ideal) m' c).trans (Eq.trans ?_ (Cert.Kernel3Ideal.In.final_q m c).symm)
      exact congr (congr (congr (congrArg (Cert.Reference3Ideal.Read.val_main_v122 (F := Ideal)) e0) e1) e2) e3
    · obtain ⟨e0, e1, e2, e3, e4⟩ := hagree c
      refine (Cert.Reference3Ideal.Read.val_main_v123_eq (F := Ideal) m' c).trans (Eq.trans ?_ (Cert.Kernel3Ideal.In.final_k m c).symm)
      exact congr (congr (congr (congrArg (Cert.Reference3Ideal.Read.val_main_v123 (F := Ideal)) e0) e1) e2) e4
    · exact (Cert.Reference3Ideal.Read.val_main_v124_eq ..).trans (Cert.Kernel3Ideal.In.final_v m c).symm
    · exact (Cert.Reference3Ideal.Read.val_main_v125_eq ..).trans (Cert.Kernel3Ideal.In.final_xr m c).symm
    · exact (Cert.Reference3Ideal.Read.val_main_v126_eq ..).trans (Cert.Kernel3Ideal.In.final_yg m c).symm

end Cert.InClaim
-- ==== Proof.InZ.lean ====
module

public import proofs.«01_k».proof.Proof.InMath
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit

@[expose] public section

set_option maxRecDepth 16384

noncomputable section

namespace Cert.Kernel4Ideal.In

open Cert.Kernel4Ideal Cert.Kernel4Ideal.Gen Idealize.ShloMosaic Idealize.ShloMosaic.TcCoe Idealize.SL.Sem Cert.InMath
open Idealize.ShloMosaic.Pipeline (Dat)

/-- The integer zero as a float is zero. -/
theorem sitofp_zero : FloatOps.sitofp (F := Ideal) FTy.f32 (0#32) = (0 : EReal) := by
  show (((0#32 : BitVec 32).toInt : ℝ) : EReal) = 0
  simp

open Cert.Reference4Ideal.Read in
/-- The reference's gate at an index. -/
theorem ref_z (x : FVec Ideal S8x2048x2048 .f32) (g : FVec Ideal S2x2048 .f32) (w : FVec Ideal S1x2048x10304 .f32)
    (s : Fin 32) (R : Fin 16384) (l : Fin 128) :
    val_main_v21 (F := Ideal) x g w (ix3 s R l)
      = dot (fun k => x (ix3 ⟨R / 2048, by omega⟩ ⟨R % 2048, by omega⟩ k)) (fun k => g (ix2 1 k))
          (fun k => w (ix3 0 k ⟨s.val * 128 + l.val, by omega⟩)) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v20, val_main_v21]
  rfl

open Cert.Reference4Ideal.Read in
/-- The reference's time steps at an index: its 64 columns, then zeros. -/
theorem ref_dt (x : FVec Ideal S8x2048x2048 .f32) (g : FVec Ideal S2x2048 .f32) (w : FVec Ideal S1x2048x10304 .f32)
    (R : Fin 16384) (l : Fin 128) :
    val_main_v23 (F := Ideal) x g w (ix2 R l)
      = if h : l.val < 64 then dot (fun k => x (ix3 ⟨R / 2048, by omega⟩ ⟨R % 2048, by omega⟩ k)) (fun k => g (ix2 1 k))
          (fun k => w (ix3 0 k ⟨10240 + l.val, by omega⟩)) else 0 := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v19, val_main_v22, val_main_c, val_main_call0_v0, val_main_v23]
  split
  · rfl
  · exact sitofp_zero

/-- A piece of a product's tile as the body stores it, at an index. -/
theorem piece_at (A : FVec Ideal S512x1024 .f32) (o : ℕ) (hs : S512x1024.Slices ![0, o] S512x128) (ho : o + 128 ≤ 1024)
    (r : Fin 512) (l : Fin 128) :
    shapeCast S1x512x128 (extractStridedSlice S512x128 ![0, o] A hs) shapeCasts_S512x128_S1x512x128 (ix3 0 r l) = A (ix2 r ⟨o + l.val, by omega⟩) := by
  pointwise []

/-- The product payload over normalised rows at an index. -/
theorem mm_at (x : FVec Ideal S512x2048 .f32) (g : FVec Ideal S1x2048 .f32) (w : FVec Ideal S1x2048x1024 .bf16) (r : Fin 512) (f : Fin 1024) :
    k0_pay16 (F := Ideal) (k0_pay4 x g) w (ix2 r f) = dot (fun k => x (ix2 r k)) (fun k => g (ix2 0 k)) (fun k => w (ix3 0 k f)) := by
  pointwise [k0_pay16, k0_pay4]
  rfl

/-- The product payload with the time steps' weights at an index. -/
theorem dt_at (x : FVec Ideal S512x2048 .f32) (g : FVec Ideal S1x2048 .f32) (w : FVec Ideal S2048x128 .bf16) (r : Fin 512) (f : Fin 128) :
    k0_pay5 (F := Ideal) x g w (ix2 r f) = dot (fun k => x (ix2 r k)) (fun k => g (ix2 0 k)) (fun k => w (ix2 k f)) := by
  pointwise [k0_pay5, k0_pay4]
  rfl

variable (m : (ℓ : Loc nD τ sig) → Buf (Elt Ideal) ℓ) (c : Dev nD)

/-- Where each window's block lies at a point. -/
theorem idx : ∀ t : Fin cfg0.N, win0_0.index t = ![t.val, 0] ∧ win0_1.index t = ![0, 0] ∧ win0_2.index t = ![0, 0, 0]
    ∧ win0_3.index t = ![0, 0, 1] ∧ win0_4.index t = ![0, 0, 2] ∧ win0_5.index t = ![0, 0, 3] ∧ win0_6.index t = ![0, 0]
    ∧ win0_7.index t = ![0, t.val, 0] ∧ win0_8.index t = ![t.val, 0] :=
  (by decide +kernel : ∀ t : Fin grid0.N, win0_0.index t = ![t.val, 0] ∧ win0_1.index t = ![0, 0] ∧ win0_2.index t = ![0, 0, 0]
    ∧ win0_3.index t = ![0, 0, 1] ∧ win0_4.index t = ![0, 0, 2] ∧ win0_5.index t = ![0, 0, 3] ∧ win0_6.index t = ![0, 0]
    ∧ win0_7.index t = ![0, t.val, 0] ∧ win0_8.index t = ![t.val, 0])

/-- The rows as the host lays them out. -/
def xs (x : FVec Ideal S8x2048x2048 .f32) : FVec Ideal S16384x2048 .f32 := shapeCast S16384x2048 x shapeCasts_S8x2048x2048_S16384x2048

/-- A laid-out row at an index. -/
theorem xs_at (x : FVec Ideal S8x2048x2048 .f32) (R : Fin 16384) (k : Fin 2048) :
    xs x (ix2 R k) = x (ix3 ⟨R / 2048, by omega⟩ ⟨R % 2048, by omega⟩ k) := by
  pointwise [xs]

/-- The norm's weights as the host prepares them. -/
def gs (g : FVec Ideal S2x2048 .f32) : FVec Ideal S1x2048 .f32 :=
  shapeCast S1x2048 (shapeCast S2048 (extractStridedSlice S1x2048 ![1, 0] g slices_S2x2048_S1x2048_1_0) shapeCasts_S1x2048_S2048) shapeCasts_S2048_S1x2048

/-- The prepared norm's weights at an index. -/
theorem gs_at (g : FVec Ideal S2x2048 .f32) (k : Fin 2048) : gs g (ix2 0 k) = g (ix2 1 k) := by
  pointwise [gs]

/-- The host's array of rows. -/
theorem V4 : V m c main_v4 = xs (m ((c : Thread nD τ).loc main_arg0)) := rfl

/-- The host's array of the norm's weights. -/
theorem V8 : V m c main_v8 = gs (m ((c : Thread nD τ).loc main_arg1)) := rfl

/-- The host's copy of the weights. -/
theorem V7 : V m c main_v7 = m ((c : Thread nD τ).loc main_arg2) := rfl

/-- The reference's row that row `r` of point `t`'s block is. -/
abbrev row (t : Fin cfg0.N) (r : Fin 512) (k : Fin 2048) : EReal :=
  m ((c : Thread nD τ).loc main_arg0) (ix3 ⟨(t.val * 512 + r) / 2048, by have h : t.val < 32 := lt_of_lt_of_eq t.isLt N_0; omega⟩
    ⟨(t.val * 512 + r) % 2048, by omega⟩ k)

/-- The block of input rows at a point. -/
theorem blk0 (t : Fin cfg0.N) (r : Fin 512) (k : Fin 2048) :
    (show FVec Ideal S512x2048 .f32 from iblk m c 0 t) (ix2 r k) = row m c t r k := by
  have ht : t.val < 32 := lt_of_lt_of_eq t.isLt N_0
  refine Eq.trans ?_ (xs_at _ ⟨t.val * 512 + r, by omega⟩ k)
  rw [← V4 m c]
  blk_point [iblk, idx t]

/-- The norm's weights at a point. -/
theorem blk1 (t : Fin cfg0.N) (k : Fin 2048) :
    (show FVec Ideal S1x2048 .f32 from iblk m c 1 t) (ix2 0 k) = m ((c : Thread nD τ).loc main_arg1) (ix2 1 k) := by
  refine Eq.trans ?_ (gs_at _ k)
  rw [← V8 m c]
  blk_point [iblk, idx t]

/-- Weight tile 0 at a point. -/
theorem blk2 (t : Fin cfg0.N) (k : Fin 2048) (f : Fin 1024) :
    (show FVec Ideal S1x2048x1024 .bf16 from X0_2 m c t) (ix3 0 k f)
      = m ((c : Thread nD τ).loc main_arg2) (ix3 0 k ⟨0 * 1024 + f.val, by omega⟩) := by
  unfold X0_2 Pipeline.Window.fill
  dsimp only
  rw [dif_pos (moved0_2 t _), ← V7 m c]
  blk_point [iblk, idx t]

/-- Weight tile 1 at a point. -/
theorem blk3 (t : Fin cfg0.N) (k : Fin 2048) (f : Fin 1024) :
    (show FVec Ideal S1x2048x1024 .bf16 from X0_3 m c t) (ix3 0 k f)
      = m ((c : Thread nD τ).loc main_arg2) (ix3 0 k ⟨1 * 1024 + f.val, by omega⟩) := by
  unfold X0_3 Pipeline.Window.fill
  dsimp only
  rw [dif_pos (moved0_3 t _), ← V7 m c]
  blk_point [iblk, idx t]

/-- Weight tile 2 at a point. -/
theorem blk4 (t : Fin cfg0.N) (k : Fin 2048) (f : Fin 1024) :
    (show FVec Ideal S1x2048x1024 .bf16 from X0_4 m c t) (ix3 0 k f)
      = m ((c : Thread nD τ).loc main_arg2) (ix3 0 k ⟨2 * 1024 + f.val, by omega⟩) := by
  unfold X0_4 Pipeline.Window.fill
  dsimp only
  rw [dif_pos (moved0_4 t _), ← V7 m c]
  blk_point [iblk, idx t]

/-- Weight tile 3 at a point. -/
theorem blk5 (t : Fin cfg0.N) (k : Fin 2048) (f : Fin 1024) :
    (show FVec Ideal S1x2048x1024 .bf16 from X0_5 m c t) (ix3 0 k f)
      = m ((c : Thread nD τ).loc main_arg2) (ix3 0 k ⟨3 * 1024 + f.val, by omega⟩) := by
  unfold X0_5 Pipeline.Window.fill
  dsimp only
  rw [dif_pos (moved0_5 t _), ← V7 m c]
  blk_point [iblk, idx t]

/-- The time steps' weights as the host prepares them: their 64 columns, then zeros. -/
def wdt (w : FVec Ideal S1x2048x10304 .f32) : FVec Ideal S2048x128 .bf16 :=
  truncf .bf16 (pad S2048x128 ![0, 0] ![0, 64] ![0, 0] (extractStridedSlice S2048x64 ![0, 10240] (shapeCast S2048x10304 w shapeCasts_S1x2048x10304_S2048x10304)
    slices_S2048x10304_S2048x64_0_10240) (sitofp (F := Ideal) .f32 (constantI S_ 32 0#32)) pads_S2048x64_S2048x128_000_0640 h_S_) bitsLt_bf16_f32

/-- The prepared weights at an index. -/
theorem wdt_at (w : FVec Ideal S1x2048x10304 .f32) (k : Fin 2048) (l : Fin 128) :
    wdt w (ix2 k l) = if h : l.val < 64 then w (ix3 0 k ⟨10240 + l.val, by omega⟩) else 0 := by
  pointwise [wdt]
  rw [sitofp_zero]

/-- The host's array of them. -/
theorem V3 : V m c main_v3 = wdt (m ((c : Thread nD τ).loc main_arg2)) := rfl

/-- The time steps' weights at a point. -/
theorem blk6 (t : Fin cfg0.N) (k : Fin 2048) (l : Fin 128) :
    (show FVec Ideal S2048x128 .bf16 from iblk m c 6 t) (ix2 k l) = wdt (m ((c : Thread nD τ).loc main_arg2)) (ix2 k l) := by
  rw [← V3 m c]
  blk_point [iblk, idx t]

/-- The row's product with the weights' column `n`. -/
abbrev out (t : Fin cfg0.N) (r : Fin 512) (n : Fin 4096) : EReal :=
  dot (row m c t r) (fun k => m ((c : Thread nD τ).loc main_arg1) (ix2 1 k))
    (fun k => m ((c : Thread nD τ).loc main_arg2) (ix3 0 k ⟨n.val, by omega⟩))

/-- The product of a point's rows with a tile holding the columns from `j * 1024` on. -/
theorem prod (t : Fin cfg0.N) (w : FVec Ideal S1x2048x1024 .bf16) (j : ℕ) (hj : j < 4)
    (hw : ∀ (k : Fin 2048) (f : Fin 1024), w (ix3 0 k f) = m ((c : Thread nD τ).loc main_arg2) (ix3 0 k ⟨j * 1024 + f.val, by omega⟩))
    (r : Fin 512) (f : Fin 1024) :
    k0_pay16 (F := Ideal) (k0_pay4 (show FVec Ideal S512x2048 .f32 from iblk m c 0 t) (show FVec Ideal S1x2048 .f32 from iblk m c 1 t)) w (ix2 r f)
      = out m c t r ⟨j * 1024 + f.val, by omega⟩ := by
  rw [mm_at]
  simp only [blk0 m c t, blk1 m c t, hw]

/-- A stored piece: 128 columns of a product's tile, at the slab they belong to. -/
theorem piece (t : Fin cfg0.N) (A : FVec Ideal S512x1024 .f32) (j : ℕ) (hj : j < 4)
    (hA : ∀ (r : Fin 512) (f : Fin 1024), A (ix2 r f) = out m c t r ⟨j * 1024 + f.val, by omega⟩)
    (o : ℕ) (hs : S512x1024.Slices ![0, o] S512x128) (ho : o + 128 ≤ 1024) (s : Fin 32) (r : Fin 512) (l : Fin 128) (x : S1x512x128.Idx)
    (n : ℕ) (hn : n * 128 = j * 1024 + o) (h0 : s.val = n + (x 0).val) (x0_lt : (x 0).val < 1) (h1 : r.val = (x 1).val) (h2 : l.val = (x 2).val) :
    shapeCast S1x512x128 (extractStridedSlice S512x128 ![0, o] A hs) shapeCasts_S512x128_S1x512x128 x = out m c t r ⟨s.val * 128 + l.val, by omega⟩ := by
  obtain ⟨z, r', l', rfl⟩ : ∃ (z : Fin 1) (r' : Fin 512) (l' : Fin 128), x = ix3 z r' l' := ⟨x 0, x 1, x 2, by ext a; fin_cases a <;> rfl⟩
  obtain rfl : z = 0 := Subsingleton.elim _ _
  obtain rfl : r = r' := Fin.ext h1
  obtain rfl : l = l' := Fin.ext h2
  rw [piece_at A o hs ho, hA]
  have e : j * 1024 + (o + l.val) = s.val * 128 + l.val := by
    have h0' : s.val = n := h0
    omega
  exact congrArg (out m c t r) (Fin.ext e)

set_option maxHeartbeats 4000000 in
/-- The stored block of the gate at an index. -/
theorem z_point (t : Fin cfg0.N) (s : Fin 32) (r : Fin 512) (l : Fin 128) :
    (outsAt0 m c t).1 (ix3 s r l) = out m c t r ⟨s.val * 128 + l.val, by omega⟩ := by
  unfold outsAt0
  frame_out
  canon_tiles x h
  case piece0 => exact piece m c t _ 3 (by decide) (prod m c t _ 3 (by decide) (blk5 m c t)) 896 slices_S512x1024_o0_896_S512x128 (by decide) s r l x 31 rfl h0 x0_lt h1 h2
  case piece1 => exact piece m c t _ 3 (by decide) (prod m c t _ 3 (by decide) (blk5 m c t)) 768 slices_S512x1024_o0_768_S512x128 (by decide) s r l x 30 rfl h0 x0_lt h1 h2
  case piece2 => exact piece m c t _ 3 (by decide) (prod m c t _ 3 (by decide) (blk5 m c t)) 640 slices_S512x1024_o0_640_S512x128 (by decide) s r l x 29 rfl h0 x0_lt h1 h2
  case piece3 => exact piece m c t _ 3 (by decide) (prod m c t _ 3 (by decide) (blk5 m c t)) 512 slices_S512x1024_o0_512_S512x128 (by decide) s r l x 28 rfl h0 x0_lt h1 h2
  case piece4 => exact piece m c t _ 3 (by decide) (prod m c t _ 3 (by decide) (blk5 m c t)) 384 slices_S512x1024_o0_384_S512x128 (by decide) s r l x 27 rfl h0 x0_lt h1 h2
  case piece5 => exact piece m c t _ 3 (by decide) (prod m c t _ 3 (by decide) (blk5 m c t)) 256 slices_S512x1024_o0_256_S512x128 (by decide) s r l x 26 rfl h0 x0_lt h1 h2
  case piece6 => exact piece m c t _ 3 (by decide) (prod m c t _ 3 (by decide) (blk5 m c t)) 128 slices_S512x1024_o0_128_S512x128 (by decide) s r l x 25 rfl h0 x0_lt h1 h2
  case piece7 => exact piece m c t _ 3 (by decide) (prod m c t _ 3 (by decide) (blk5 m c t)) 0 slices_S512x1024_o0_0_S512x128 (by decide) s r l x 24 rfl h0 x0_lt h1 h2
  case piece8 => exact piece m c t _ 2 (by decide) (prod m c t _ 2 (by decide) (blk4 m c t)) 896 slices_S512x1024_o0_896_S512x128 (by decide) s r l x 23 rfl h0 x0_lt h1 h2
  case piece9 => exact piece m c t _ 2 (by decide) (prod m c t _ 2 (by decide) (blk4 m c t)) 768 slices_S512x1024_o0_768_S512x128 (by decide) s r l x 22 rfl h0 x0_lt h1 h2
  case piece10 => exact piece m c t _ 2 (by decide) (prod m c t _ 2 (by decide) (blk4 m c t)) 640 slices_S512x1024_o0_640_S512x128 (by decide) s r l x 21 rfl h0 x0_lt h1 h2
  case piece11 => exact piece m c t _ 2 (by decide) (prod m c t _ 2 (by decide) (blk4 m c t)) 512 slices_S512x1024_o0_512_S512x128 (by decide) s r l x 20 rfl h0 x0_lt h1 h2
  case piece12 => exact piece m c t _ 2 (by decide) (prod m c t _ 2 (by decide) (blk4 m c t)) 384 slices_S512x1024_o0_384_S512x128 (by decide) s r l x 19 rfl h0 x0_lt h1 h2
  case piece13 => exact piece m c t _ 2 (by decide) (prod m c t _ 2 (by decide) (blk4 m c t)) 256 slices_S512x1024_o0_256_S512x128 (by decide) s r l x 18 rfl h0 x0_lt h1 h2
  case piece14 => exact piece m c t _ 2 (by decide) (prod m c t _ 2 (by decide) (blk4 m c t)) 128 slices_S512x1024_o0_128_S512x128 (by decide) s r l x 17 rfl h0 x0_lt h1 h2
  case piece15 => exact piece m c t _ 2 (by decide) (prod m c t _ 2 (by decide) (blk4 m c t)) 0 slices_S512x1024_o0_0_S512x128 (by decide) s r l x 16 rfl h0 x0_lt h1 h2
  case piece16 => exact piece m c t _ 1 (by decide) (prod m c t _ 1 (by decide) (blk3 m c t)) 896 slices_S512x1024_o0_896_S512x128 (by decide) s r l x 15 rfl h0 x0_lt h1 h2
  case piece17 => exact piece m c t _ 1 (by decide) (prod m c t _ 1 (by decide) (blk3 m c t)) 768 slices_S512x1024_o0_768_S512x128 (by decide) s r l x 14 rfl h0 x0_lt h1 h2
  case piece18 => exact piece m c t _ 1 (by decide) (prod m c t _ 1 (by decide) (blk3 m c t)) 640 slices_S512x1024_o0_640_S512x128 (by decide) s r l x 13 rfl h0 x0_lt h1 h2
  case piece19 => exact piece m c t _ 1 (by decide) (prod m c t _ 1 (by decide) (blk3 m c t)) 512 slices_S512x1024_o0_512_S512x128 (by decide) s r l x 12 rfl h0 x0_lt h1 h2
  case piece20 => exact piece m c t _ 1 (by decide) (prod m c t _ 1 (by decide) (blk3 m c t)) 384 slices_S512x1024_o0_384_S512x128 (by decide) s r l x 11 rfl h0 x0_lt h1 h2
  case piece21 => exact piece m c t _ 1 (by decide) (prod m c t _ 1 (by decide) (blk3 m c t)) 256 slices_S512x1024_o0_256_S512x128 (by decide) s r l x 10 rfl h0 x0_lt h1 h2
  case piece22 => exact piece m c t _ 1 (by decide) (prod m c t _ 1 (by decide) (blk3 m c t)) 128 slices_S512x1024_o0_128_S512x128 (by decide) s r l x 9 rfl h0 x0_lt h1 h2
  case piece23 => exact piece m c t _ 1 (by decide) (prod m c t _ 1 (by decide) (blk3 m c t)) 0 slices_S512x1024_o0_0_S512x128 (by decide) s r l x 8 rfl h0 x0_lt h1 h2
  case piece24 => exact piece m c t _ 0 (by decide) (prod m c t _ 0 (by decide) (blk2 m c t)) 896 slices_S512x1024_o0_896_S512x128 (by decide) s r l x 7 rfl h0 x0_lt h1 h2
  case piece25 => exact piece m c t _ 0 (by decide) (prod m c t _ 0 (by decide) (blk2 m c t)) 768 slices_S512x1024_o0_768_S512x128 (by decide) s r l x 6 rfl h0 x0_lt h1 h2
  case piece26 => exact piece m c t _ 0 (by decide) (prod m c t _ 0 (by decide) (blk2 m c t)) 640 slices_S512x1024_o0_640_S512x128 (by decide) s r l x 5 rfl h0 x0_lt h1 h2
  case piece27 => exact piece m c t _ 0 (by decide) (prod m c t _ 0 (by decide) (blk2 m c t)) 512 slices_S512x1024_o0_512_S512x128 (by decide) s r l x 4 rfl h0 x0_lt h1 h2
  case piece28 => exact piece m c t _ 0 (by decide) (prod m c t _ 0 (by decide) (blk2 m c t)) 384 slices_S512x1024_o0_384_S512x128 (by decide) s r l x 3 rfl h0 x0_lt h1 h2
  case piece29 => exact piece m c t _ 0 (by decide) (prod m c t _ 0 (by decide) (blk2 m c t)) 256 slices_S512x1024_o0_256_S512x128 (by decide) s r l x 2 rfl h0 x0_lt h1 h2
  case piece30 => exact piece m c t _ 0 (by decide) (prod m c t _ 0 (by decide) (blk2 m c t)) 128 slices_S512x1024_o0_128_S512x128 (by decide) s r l x 1 rfl h0 x0_lt h1 h2
  case piece31 => exact piece m c t _ 0 (by decide) (prod m c t _ 0 (by decide) (blk2 m c t)) 0 slices_S512x1024_o0_0_S512x128 (by decide) s r l x 0 rfl (h0.trans (Nat.zero_add _).symm) x0_lt h1 h2

/-- The stored block of the time steps at an index. -/
theorem dt_point (t : Fin cfg0.N) (r : Fin 512) (l : Fin 128) :
    (outsAt0 m c t).2 (ix2 r l) = if h : l.val < 64 then dot (row m c t r) (fun k => m ((c : Thread nD τ).loc main_arg1) (ix2 1 k))
      (fun k => m ((c : Thread nD τ).loc main_arg2) (ix3 0 k ⟨10240 + l.val, by omega⟩)) else 0 := by
  unfold outsAt0
  frame_out
  refine (dt_at _ _ _ r l).trans ?_
  simp only [blk0 m c t, blk1 m c t, blk6 m c t, wdt_at]
  split
  · rfl
  · unfold dot
    simp only [mul_zero, Finset.sum_const_zero]

/-- The gate's slabs after the run are the reference's. -/
theorem final_z : (dats m 0 c).arrAt 7 cfg0.N = Cert.Reference4Ideal.Read.val_main_v21 (F := Ideal) (m ((c : Thread nD τ).loc main_arg0))
    (m ((c : Thread nD τ).loc main_arg1)) (m ((c : Thread nD τ).loc main_arg2)) := by
  refine (dats m 0 c).arrAt_eq_of_covers 7 _ (by decide +kernel) fun t hf y => ?_
  blk_simp
  rw [after0_7]
  idx_vars y
  have ht : t.val < 32 := lt_of_lt_of_eq t.isLt N_0
  have he : ((cfg0.win 7).blk t).view.emb (ix3 y0 y1 y2) = (ix3 y0 ⟨t.val * 512 + y1, by omega⟩ y2 : S32x16384x128.Idx) := by
    blk_ext [idx t]
  refine Eq.trans ?_ (congrArg _ he).symm
  rw [ref_z]
  exact z_point m c t y0 y1 y2

/-- The time steps after the run are the reference's. -/
theorem final_dt : (dats m 0 c).arrAt 8 cfg0.N = Cert.Reference4Ideal.Read.val_main_v23 (F := Ideal) (m ((c : Thread nD τ).loc main_arg0))
    (m ((c : Thread nD τ).loc main_arg1)) (m ((c : Thread nD τ).loc main_arg2)) := by
  refine (dats m 0 c).arrAt_eq_of_covers 8 _ (by decide +kernel) fun t hf y => ?_
  blk_simp
  rw [after0_8]
  idx_vars y
  have ht : t.val < 32 := lt_of_lt_of_eq t.isLt N_0
  have he : ((cfg0.win 8).blk t).view.emb (ix2 y0 y1) = (ix2 ⟨t.val * 512 + y0, by omega⟩ y1 : S16384x128.Idx) := by
    blk_ext [idx t]
  refine Eq.trans ?_ (congrArg _ he).symm
  rw [ref_dt]
  exact dt_point m c t y0 y1

end Cert.Kernel4Ideal.In
-- ==== Proof.InS.lean ====
module

public import proofs.«01_k».proof.Proof.InMath
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit

@[expose] public section

set_option maxRecDepth 16384

noncomputable section

namespace Cert.Kernel5Ideal.In

open Cert.Kernel5Ideal Cert.Kernel5Ideal.Gen Idealize.ShloMosaic Idealize.ShloMosaic.TcCoe Idealize.SL.Sem Cert.InMath
open Idealize.ShloMosaic.Pipeline (Dat)

open Cert.Reference5Ideal.Read in
/-- The reference at an index. -/
theorem ref_at (x : FVec Ideal S8x2048x2048 .f32) (g : FVec Ideal S2x2048 .f32) (w : FVec Ideal S1x2048x10304 .f32)
    (s : Fin 48) (R : Fin 16384) (l : Fin 128) :
    val_main_v21 (F := Ideal) x g w (ix3 s R l)
      = dot (fun k => x (ix3 ⟨R / 2048, by omega⟩ ⟨R % 2048, by omega⟩ k)) (fun k => g (ix2 1 k))
          (fun k => w (ix3 0 k ⟨4096 + (s.val * 128 + l.val), by omega⟩)) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_v19, val_main_v20, val_main_v21]
  rfl

/-- A piece of a product's tile as the body stores it, at an index. -/
theorem piece_at (A : FVec Ideal S256x1024 .f32) (o : ℕ) (hs : S256x1024.Slices ![0, o] S256x128) (ho : o + 128 ≤ 1024)
    (r : Fin 256) (l : Fin 128) :
    shapeCast S1x256x128 (extractStridedSlice S256x128 ![0, o] A hs) shapeCasts_S256x128_S1x256x128 (ix3 0 r l) = A (ix2 r ⟨o + l.val, by omega⟩) := by
  pointwise []

/-- The product payload over normalised rows at an index. -/
theorem mm_at (x : FVec Ideal S256x2048 .f32) (g : FVec Ideal S1x2048 .f32) (w : FVec Ideal S1x2048x1024 .bf16) (r : Fin 256) (f : Fin 1024) :
    k0_pay16 (F := Ideal) (k0_pay5 x g) w (ix2 r f) = dot (fun k => x (ix2 r k)) (fun k => g (ix2 0 k)) (fun k => w (ix3 0 k f)) := by
  pointwise [k0_pay16, k0_pay5]
  rfl

variable (m : (ℓ : Loc nD τ sig) → Buf (Elt Ideal) ℓ) (c : Dev nD)

/-- Where each window's block lies at a point. -/
theorem idx : ∀ t : Fin cfg0.N, win0_0.index t = ![t.val, 0] ∧ win0_1.index t = ![0, 0] ∧ win0_2.index t = ![0, 0, 4]
    ∧ win0_3.index t = ![0, 0, 5] ∧ win0_4.index t = ![0, 0, 6] ∧ win0_5.index t = ![0, 0, 7] ∧ win0_6.index t = ![0, 0, 8]
    ∧ win0_7.index t = ![0, 0, 9] ∧ win0_8.index t = ![0, t.val, 0] :=
  (by decide +kernel : ∀ t : Fin grid0.N, win0_0.index t = ![t.val, 0] ∧ win0_1.index t = ![0, 0] ∧ win0_2.index t = ![0, 0, 4]
    ∧ win0_3.index t = ![0, 0, 5] ∧ win0_4.index t = ![0, 0, 6] ∧ win0_5.index t = ![0, 0, 7] ∧ win0_6.index t = ![0, 0, 8]
    ∧ win0_7.index t = ![0, 0, 9] ∧ win0_8.index t = ![0, t.val, 0])

/-- The reference's row that row `r` of point `t`'s block is. -/
abbrev row (t : Fin cfg0.N) (r : Fin 256) (k : Fin 2048) : EReal :=
  m ((c : Thread nD τ).loc main_arg0) (ix3 ⟨(t.val * 256 + r) / 2048, by have h : t.val < 64 := lt_of_lt_of_eq t.isLt N_0; omega⟩
    ⟨(t.val * 256 + r) % 2048, by omega⟩ k)

/-- The block of input rows at a point. -/
theorem blk0 (t : Fin cfg0.N) (r : Fin 256) (k : Fin 2048) :
    (show FVec Ideal S256x2048 .f32 from iblk m c 0 t) (ix2 r k) = row m c t r k := by
  blk_point [iblk, V, idx t]

/-- The norm's weights at a point. -/
theorem blk1 (t : Fin cfg0.N) (k : Fin 2048) :
    (show FVec Ideal S1x2048 .f32 from iblk m c 1 t) (ix2 0 k) = m ((c : Thread nD τ).loc main_arg1) (ix2 1 k) := by
  blk_point [iblk, V, idx t]

/-- The weight tile 0 at a point. -/
theorem blk2 (t : Fin cfg0.N) (k : Fin 2048) (f : Fin 1024) :
    (show FVec Ideal S1x2048x1024 .bf16 from X0_2 m c t) (ix3 0 k f)
      = m ((c : Thread nD τ).loc main_arg2) (ix3 0 k ⟨4096 + (0 * 1024 + f.val), by omega⟩) := by
  unfold X0_2 Pipeline.Window.fill
  dsimp only
  rw [dif_pos (moved0_2 t _)]
  blk_point [iblk, V, idx t]

/-- A weight tile 1 at a point. -/
theorem blk3 (t : Fin cfg0.N) (k : Fin 2048) (f : Fin 1024) :
    (show FVec Ideal S1x2048x1024 .bf16 from X0_3 m c t) (ix3 0 k f)
      = m ((c : Thread nD τ).loc main_arg2) (ix3 0 k ⟨4096 + (1 * 1024 + f.val), by omega⟩) := by
  unfold X0_3 Pipeline.Window.fill
  dsimp only
  rw [dif_pos (moved0_3 t _)]
  blk_point [iblk, V, idx t]

/-- A weight tile 2 at a point. -/
theorem blk4 (t : Fin cfg0.N) (k : Fin 2048) (f : Fin 1024) :
    (show FVec Ideal S1x2048x1024 .bf16 from X0_4 m c t) (ix3 0 k f)
      = m ((c : Thread nD τ).loc main_arg2) (ix3 0 k ⟨4096 + (2 * 1024 + f.val), by omega⟩) := by
  unfold X0_4 Pipeline.Window.fill
  dsimp only
  rw [dif_pos (moved0_4 t _)]
  blk_point [iblk, V, idx t]

/-- A weight tile 3 at a point. -/
theorem blk5 (t : Fin cfg0.N) (k : Fin 2048) (f : Fin 1024) :
    (show FVec Ideal S1x2048x1024 .bf16 from X0_5 m c t) (ix3 0 k f)
      = m ((c : Thread nD τ).loc main_arg2) (ix3 0 k ⟨4096 + (3 * 1024 + f.val), by omega⟩) := by
  unfold X0_5 Pipeline.Window.fill
  dsimp only
  rw [dif_pos (moved0_5 t _)]
  blk_point [iblk, V, idx t]

/-- A weight tile 4 at a point. -/
theorem blk6 (t : Fin cfg0.N) (k : Fin 2048) (f : Fin 1024) :
    (show FVec Ideal S1x2048x1024 .bf16 from X0_6 m c t) (ix3 0 k f)
      = m ((c : Thread nD τ).loc main_arg2) (ix3 0 k ⟨4096 + (4 * 1024 + f.val), by omega⟩) := by
  unfold X0_6 Pipeline.Window.fill
  dsimp only
  rw [dif_pos (moved0_6 t _)]
  blk_point [iblk, V, idx t]

/-- A weight tile 5 at a point. -/
theorem blk7 (t : Fin cfg0.N) (k : Fin 2048) (f : Fin 1024) :
    (show FVec Ideal S1x2048x1024 .bf16 from X0_7 m c t) (ix3 0 k f)
      = m ((c : Thread nD τ).loc main_arg2) (ix3 0 k ⟨4096 + (5 * 1024 + f.val), by omega⟩) := by
  unfold X0_7 Pipeline.Window.fill
  dsimp only
  rw [dif_pos (moved0_7 t _)]
  blk_point [iblk, V, idx t]

/-- Entry `n` of the row's product with the weights' columns from the gate's on. -/
abbrev out (t : Fin cfg0.N) (r : Fin 256) (n : Fin 6144) : EReal :=
  dot (row m c t r) (fun k => m ((c : Thread nD τ).loc main_arg1) (ix2 1 k))
    (fun k => m ((c : Thread nD τ).loc main_arg2) (ix3 0 k ⟨4096 + n.val, by omega⟩))

/-- The product of a point's rows with a tile holding the columns from `4096 + j * 1024` on. -/
theorem prod (t : Fin cfg0.N) (w : FVec Ideal S1x2048x1024 .bf16) (j : ℕ) (hj : j < 6)
    (hw : ∀ (k : Fin 2048) (f : Fin 1024), w (ix3 0 k f) = m ((c : Thread nD τ).loc main_arg2) (ix3 0 k ⟨4096 + (j * 1024 + f.val), by omega⟩))
    (r : Fin 256) (f : Fin 1024) :
    k0_pay16 (F := Ideal) (k0_pay5 (show FVec Ideal S256x2048 .f32 from iblk m c 0 t) (show FVec Ideal S1x2048 .f32 from iblk m c 1 t)) w (ix2 r f)
      = out m c t r ⟨j * 1024 + f.val, by omega⟩ := by
  rw [mm_at]
  simp only [blk0 m c t, blk1 m c t, hw]

/-- A stored piece: 128 columns of a product's tile, at the slab they belong to. -/
theorem piece (t : Fin cfg0.N) (A : FVec Ideal S256x1024 .f32) (j : ℕ) (hj : j < 6)
    (hA : ∀ (r : Fin 256) (f : Fin 1024), A (ix2 r f) = out m c t r ⟨j * 1024 + f.val, by omega⟩)
    (o : ℕ) (hs : S256x1024.Slices ![0, o] S256x128) (ho : o + 128 ≤ 1024) (s : Fin 48) (r : Fin 256) (l : Fin 128) (x : S1x256x128.Idx)
    (n : ℕ) (hn : n * 128 = j * 1024 + o) (h0 : s.val = n + (x 0).val) (x0_lt : (x 0).val < 1) (h1 : r.val = (x 1).val) (h2 : l.val = (x 2).val) :
    shapeCast S1x256x128 (extractStridedSlice S256x128 ![0, o] A hs) shapeCasts_S256x128_S1x256x128 x = out m c t r ⟨s.val * 128 + l.val, by omega⟩ := by
  obtain ⟨z, r', l', rfl⟩ : ∃ (z : Fin 1) (r' : Fin 256) (l' : Fin 128), x = ix3 z r' l' := ⟨x 0, x 1, x 2, by ext a; fin_cases a <;> rfl⟩
  obtain rfl : z = 0 := Subsingleton.elim _ _
  obtain rfl : r = r' := Fin.ext h1
  obtain rfl : l = l' := Fin.ext h2
  rw [piece_at A o hs ho, hA]
  have e : j * 1024 + (o + l.val) = s.val * 128 + l.val := by
    have h0' : s.val = n := h0
    omega
  exact congrArg (out m c t r) (Fin.ext e)

set_option maxHeartbeats 4000000 in
/-- The stored block at an index. -/
theorem point (t : Fin cfg0.N) (s : Fin 48) (r : Fin 256) (l : Fin 128) :
    outsAt0 m c t (ix3 s r l) = out m c t r ⟨s.val * 128 + l.val, by omega⟩ := by
  unfold outsAt0
  frame_out
  canon_tiles x h
  case piece0 => exact piece m c t _ 5 (by decide) (prod m c t _ 5 (by decide) (blk7 m c t)) 896 slices_S256x1024_o0_896_S256x128 (by decide) s r l x 47 rfl h0 x0_lt h1 h2
  case piece1 => exact piece m c t _ 5 (by decide) (prod m c t _ 5 (by decide) (blk7 m c t)) 768 slices_S256x1024_o0_768_S256x128 (by decide) s r l x 46 rfl h0 x0_lt h1 h2
  case piece2 => exact piece m c t _ 5 (by decide) (prod m c t _ 5 (by decide) (blk7 m c t)) 640 slices_S256x1024_o0_640_S256x128 (by decide) s r l x 45 rfl h0 x0_lt h1 h2
  case piece3 => exact piece m c t _ 5 (by decide) (prod m c t _ 5 (by decide) (blk7 m c t)) 512 slices_S256x1024_o0_512_S256x128 (by decide) s r l x 44 rfl h0 x0_lt h1 h2
  case piece4 => exact piece m c t _ 5 (by decide) (prod m c t _ 5 (by decide) (blk7 m c t)) 384 slices_S256x1024_o0_384_S256x128 (by decide) s r l x 43 rfl h0 x0_lt h1 h2
  case piece5 => exact piece m c t _ 5 (by decide) (prod m c t _ 5 (by decide) (blk7 m c t)) 256 slices_S256x1024_o0_256_S256x128 (by decide) s r l x 42 rfl h0 x0_lt h1 h2
  case piece6 => exact piece m c t _ 5 (by decide) (prod m c t _ 5 (by decide) (blk7 m c t)) 128 slices_S256x1024_o0_128_S256x128 (by decide) s r l x 41 rfl h0 x0_lt h1 h2
  case piece7 => exact piece m c t _ 5 (by decide) (prod m c t _ 5 (by decide) (blk7 m c t)) 0 slices_S256x1024_o0_0_S256x128 (by decide) s r l x 40 rfl h0 x0_lt h1 h2
  case piece8 => exact piece m c t _ 4 (by decide) (prod m c t _ 4 (by decide) (blk6 m c t)) 896 slices_S256x1024_o0_896_S256x128 (by decide) s r l x 39 rfl h0 x0_lt h1 h2
  case piece9 => exact piece m c t _ 4 (by decide) (prod m c t _ 4 (by decide) (blk6 m c t)) 768 slices_S256x1024_o0_768_S256x128 (by decide) s r l x 38 rfl h0 x0_lt h1 h2
  case piece10 => exact piece m c t _ 4 (by decide) (prod m c t _ 4 (by decide) (blk6 m c t)) 640 slices_S256x1024_o0_640_S256x128 (by decide) s r l x 37 rfl h0 x0_lt h1 h2
  case piece11 => exact piece m c t _ 4 (by decide) (prod m c t _ 4 (by decide) (blk6 m c t)) 512 slices_S256x1024_o0_512_S256x128 (by decide) s r l x 36 rfl h0 x0_lt h1 h2
  case piece12 => exact piece m c t _ 4 (by decide) (prod m c t _ 4 (by decide) (blk6 m c t)) 384 slices_S256x1024_o0_384_S256x128 (by decide) s r l x 35 rfl h0 x0_lt h1 h2
  case piece13 => exact piece m c t _ 4 (by decide) (prod m c t _ 4 (by decide) (blk6 m c t)) 256 slices_S256x1024_o0_256_S256x128 (by decide) s r l x 34 rfl h0 x0_lt h1 h2
  case piece14 => exact piece m c t _ 4 (by decide) (prod m c t _ 4 (by decide) (blk6 m c t)) 128 slices_S256x1024_o0_128_S256x128 (by decide) s r l x 33 rfl h0 x0_lt h1 h2
  case piece15 => exact piece m c t _ 4 (by decide) (prod m c t _ 4 (by decide) (blk6 m c t)) 0 slices_S256x1024_o0_0_S256x128 (by decide) s r l x 32 rfl h0 x0_lt h1 h2
  case piece16 => exact piece m c t _ 3 (by decide) (prod m c t _ 3 (by decide) (blk5 m c t)) 896 slices_S256x1024_o0_896_S256x128 (by decide) s r l x 31 rfl h0 x0_lt h1 h2
  case piece17 => exact piece m c t _ 3 (by decide) (prod m c t _ 3 (by decide) (blk5 m c t)) 768 slices_S256x1024_o0_768_S256x128 (by decide) s r l x 30 rfl h0 x0_lt h1 h2
  case piece18 => exact piece m c t _ 3 (by decide) (prod m c t _ 3 (by decide) (blk5 m c t)) 640 slices_S256x1024_o0_640_S256x128 (by decide) s r l x 29 rfl h0 x0_lt h1 h2
  case piece19 => exact piece m c t _ 3 (by decide) (prod m c t _ 3 (by decide) (blk5 m c t)) 512 slices_S256x1024_o0_512_S256x128 (by decide) s r l x 28 rfl h0 x0_lt h1 h2
  case piece20 => exact piece m c t _ 3 (by decide) (prod m c t _ 3 (by decide) (blk5 m c t)) 384 slices_S256x1024_o0_384_S256x128 (by decide) s r l x 27 rfl h0 x0_lt h1 h2
  case piece21 => exact piece m c t _ 3 (by decide) (prod m c t _ 3 (by decide) (blk5 m c t)) 256 slices_S256x1024_o0_256_S256x128 (by decide) s r l x 26 rfl h0 x0_lt h1 h2
  case piece22 => exact piece m c t _ 3 (by decide) (prod m c t _ 3 (by decide) (blk5 m c t)) 128 slices_S256x1024_o0_128_S256x128 (by decide) s r l x 25 rfl h0 x0_lt h1 h2
  case piece23 => exact piece m c t _ 3 (by decide) (prod m c t _ 3 (by decide) (blk5 m c t)) 0 slices_S256x1024_o0_0_S256x128 (by decide) s r l x 24 rfl h0 x0_lt h1 h2
  case piece24 => exact piece m c t _ 2 (by decide) (prod m c t _ 2 (by decide) (blk4 m c t)) 896 slices_S256x1024_o0_896_S256x128 (by decide) s r l x 23 rfl h0 x0_lt h1 h2
  case piece25 => exact piece m c t _ 2 (by decide) (prod m c t _ 2 (by decide) (blk4 m c t)) 768 slices_S256x1024_o0_768_S256x128 (by decide) s r l x 22 rfl h0 x0_lt h1 h2
  case piece26 => exact piece m c t _ 2 (by decide) (prod m c t _ 2 (by decide) (blk4 m c t)) 640 slices_S256x1024_o0_640_S256x128 (by decide) s r l x 21 rfl h0 x0_lt h1 h2
  case piece27 => exact piece m c t _ 2 (by decide) (prod m c t _ 2 (by decide) (blk4 m c t)) 512 slices_S256x1024_o0_512_S256x128 (by decide) s r l x 20 rfl h0 x0_lt h1 h2
  case piece28 => exact piece m c t _ 2 (by decide) (prod m c t _ 2 (by decide) (blk4 m c t)) 384 slices_S256x1024_o0_384_S256x128 (by decide) s r l x 19 rfl h0 x0_lt h1 h2
  case piece29 => exact piece m c t _ 2 (by decide) (prod m c t _ 2 (by decide) (blk4 m c t)) 256 slices_S256x1024_o0_256_S256x128 (by decide) s r l x 18 rfl h0 x0_lt h1 h2
  case piece30 => exact piece m c t _ 2 (by decide) (prod m c t _ 2 (by decide) (blk4 m c t)) 128 slices_S256x1024_o0_128_S256x128 (by decide) s r l x 17 rfl h0 x0_lt h1 h2
  case piece31 => exact piece m c t _ 2 (by decide) (prod m c t _ 2 (by decide) (blk4 m c t)) 0 slices_S256x1024_o0_0_S256x128 (by decide) s r l x 16 rfl h0 x0_lt h1 h2
  case piece32 => exact piece m c t _ 1 (by decide) (prod m c t _ 1 (by decide) (blk3 m c t)) 896 slices_S256x1024_o0_896_S256x128 (by decide) s r l x 15 rfl h0 x0_lt h1 h2
  case piece33 => exact piece m c t _ 1 (by decide) (prod m c t _ 1 (by decide) (blk3 m c t)) 768 slices_S256x1024_o0_768_S256x128 (by decide) s r l x 14 rfl h0 x0_lt h1 h2
  case piece34 => exact piece m c t _ 1 (by decide) (prod m c t _ 1 (by decide) (blk3 m c t)) 640 slices_S256x1024_o0_640_S256x128 (by decide) s r l x 13 rfl h0 x0_lt h1 h2
  case piece35 => exact piece m c t _ 1 (by decide) (prod m c t _ 1 (by decide) (blk3 m c t)) 512 slices_S256x1024_o0_512_S256x128 (by decide) s r l x 12 rfl h0 x0_lt h1 h2
  case piece36 => exact piece m c t _ 1 (by decide) (prod m c t _ 1 (by decide) (blk3 m c t)) 384 slices_S256x1024_o0_384_S256x128 (by decide) s r l x 11 rfl h0 x0_lt h1 h2
  case piece37 => exact piece m c t _ 1 (by decide) (prod m c t _ 1 (by decide) (blk3 m c t)) 256 slices_S256x1024_o0_256_S256x128 (by decide) s r l x 10 rfl h0 x0_lt h1 h2
  case piece38 => exact piece m c t _ 1 (by decide) (prod m c t _ 1 (by decide) (blk3 m c t)) 128 slices_S256x1024_o0_128_S256x128 (by decide) s r l x 9 rfl h0 x0_lt h1 h2
  case piece39 => exact piece m c t _ 1 (by decide) (prod m c t _ 1 (by decide) (blk3 m c t)) 0 slices_S256x1024_o0_0_S256x128 (by decide) s r l x 8 rfl h0 x0_lt h1 h2
  case piece40 => exact piece m c t _ 0 (by decide) (prod m c t _ 0 (by decide) (blk2 m c t)) 896 slices_S256x1024_o0_896_S256x128 (by decide) s r l x 7 rfl h0 x0_lt h1 h2
  case piece41 => exact piece m c t _ 0 (by decide) (prod m c t _ 0 (by decide) (blk2 m c t)) 768 slices_S256x1024_o0_768_S256x128 (by decide) s r l x 6 rfl h0 x0_lt h1 h2
  case piece42 => exact piece m c t _ 0 (by decide) (prod m c t _ 0 (by decide) (blk2 m c t)) 640 slices_S256x1024_o0_640_S256x128 (by decide) s r l x 5 rfl h0 x0_lt h1 h2
  case piece43 => exact piece m c t _ 0 (by decide) (prod m c t _ 0 (by decide) (blk2 m c t)) 512 slices_S256x1024_o0_512_S256x128 (by decide) s r l x 4 rfl h0 x0_lt h1 h2
  case piece44 => exact piece m c t _ 0 (by decide) (prod m c t _ 0 (by decide) (blk2 m c t)) 384 slices_S256x1024_o0_384_S256x128 (by decide) s r l x 3 rfl h0 x0_lt h1 h2
  case piece45 => exact piece m c t _ 0 (by decide) (prod m c t _ 0 (by decide) (blk2 m c t)) 256 slices_S256x1024_o0_256_S256x128 (by decide) s r l x 2 rfl h0 x0_lt h1 h2
  case piece46 => exact piece m c t _ 0 (by decide) (prod m c t _ 0 (by decide) (blk2 m c t)) 128 slices_S256x1024_o0_128_S256x128 (by decide) s r l x 1 rfl h0 x0_lt h1 h2
  case piece47 => exact piece m c t _ 0 (by decide) (prod m c t _ 0 (by decide) (blk2 m c t)) 0 slices_S256x1024_o0_0_S256x128 (by decide) s r l x 0 rfl (h0.trans (Nat.zero_add _).symm) x0_lt h1 h2

/-- The slabs after the run are the reference's. -/
theorem final : (dats m 0 c).arrAt 8 cfg0.N = Cert.Reference5Ideal.Read.val_main_v21 (F := Ideal) (m ((c : Thread nD τ).loc main_arg0))
    (m ((c : Thread nD τ).loc main_arg1)) (m ((c : Thread nD τ).loc main_arg2)) := by
  refine (dats m 0 c).arrAt_eq_of_covers 8 _ (by decide +kernel) fun t hf y => ?_
  blk_simp
  rw [after0_8]
  idx_vars y
  have ht : t.val < 64 := lt_of_lt_of_eq t.isLt N_0
  have he : ((cfg0.win 8).blk t).view.emb (ix3 y0 y1 y2) = (ix3 y0 ⟨t.val * 256 + y1, by omega⟩ y2 : S48x16384x128.Idx) := by
    blk_ext [idx t]
  refine Eq.trans ?_ (congrArg _ he).symm
  rw [ref_at]
  exact point m c t y0 y1 y2

end Cert.Kernel5Ideal.In
-- ==== Proof.InSClaim.lean ====
module

public import proofs.«01_k».proof.Defs
public import proofs.«01_k».proof.Proof.InZ
public import proofs.«01_k».proof.Proof.InS
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Reference5Ideal.Run
public import Idealize.ShloMosaic.Lib.Claim

@[expose] public section

set_option maxRecDepth 16384

noncomputable section

/-! The claims about the state-space layer's in-projection: the gate and time steps, and the convolution's rows. -/

namespace Cert.InZClaim

open Idealize.ShloMosaic Idealize.SL.Sem

/-- The printed call keeps its arguments. -/
theorem frame_p : Cert.quiescent_Kernel4 := fun m ρ _ => Cert.Kernel4.Gen.frame m ρ

/-- So does the idealized call. -/
theorem frame_pi : Cert.quiescent_Kernel4Ideal := fun m ρ _ => Cert.Kernel4Ideal.Gen.frame m ρ

/-- So does the reference. -/
theorem frame_ri : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Kernel and reference end with equal results. -/
theorem algebraic : Cert.algebraic_Kernel4Ideal_Reference4Ideal := by
  pair_intro
  · run_from Cert.Kernel4Ideal.Value.run_blocks (F := Ideal) m g
  · run_from Cert.Reference4Ideal.Value.run (F := Ideal) m' g'
    · exact (Cert.Reference4Ideal.Read.val_main_v21_eq ..).trans (Cert.Kernel4Ideal.In.final_z m c).symm
    · exact (Cert.Reference4Ideal.Read.val_main_v23_eq ..).trans (Cert.Kernel4Ideal.In.final_dt m c).symm

end Cert.InZClaim

namespace Cert.InSClaim

open Idealize.ShloMosaic Idealize.SL.Sem

/-- The printed call keeps its arguments. -/
theorem frame_p : Cert.quiescent_Kernel5 := fun m ρ _ => Cert.Kernel5.Gen.frame m ρ

/-- So does the idealized call. -/
theorem frame_pi : Cert.quiescent_Kernel5Ideal := fun m ρ _ => Cert.Kernel5Ideal.Gen.frame m ρ

/-- So does the reference. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference end with equal results. -/
theorem algebraic : Cert.algebraic_Kernel5Ideal_Reference5Ideal := by
  pair_intro
  · run_from Cert.Kernel5Ideal.Gen.run_main (F := Ideal) m g
  · run_from Cert.Reference5Ideal.Value.run (F := Ideal) m' g'
    exact (Cert.Reference5Ideal.Read.val_main_v21_eq ..).trans (Cert.Kernel5Ideal.In.final m c).symm

end Cert.InSClaim
-- ==== Proof.Out.lean ====
module

public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import Idealize.ShloMosaic.Lib.Pointwise
public import Idealize.ShloMosaic.Lib.Pipeline.ValueKit

@[expose] public section

set_option maxRecDepth 16384

noncomputable section

/-! The two out-projections: the product of a tile of rows with the whole weight against the reference's product. -/

namespace Cert.Kernel6Ideal.Out

open Cert.Kernel6Ideal Cert.Kernel6Ideal.Gen Idealize.ShloMosaic Idealize.ShloMosaic.TcCoe Idealize.SL.Sem
open Idealize.ShloMosaic.Pipeline (Dat)

/-- The payload at an index: the residual's entry plus the two halves of the product. -/
theorem pay_at (res : FVec Ideal S512x2048 .f32) (a : FVec Ideal S512x1024 .bf16) (w : FVec Ideal S1024x2048 .bf16)
    (b : FVec Ideal S512x1024 .bf16) (w' : FVec Ideal S1024x2048 .bf16) (r : Fin 512) (l : Fin 2048) :
    k0_pay1 (F := Ideal) res a w b w' (ix2 r l)
      = res (ix2 r l) + ((∑ k : Fin 1024, a (ix2 r k) * w (ix2 k l)) + ∑ k : Fin 1024, b (ix2 r k) * w' (ix2 k l)) := by
  pointwise [k0_pay1]
  rw [add_assoc]

open Cert.Reference6Ideal.Read in
/-- The reference at an index, its sum over the concatenated row cut into halves. -/
theorem ref_at (a b : FVec Ideal S16384x1024 .bf16) (w : FVec Ideal S1x2048x2048 .f32) (x : FVec Ideal S8x2048x2048 .f32)
    (r : Fin 16384) (l : Fin 2048) :
    val_main_v5 (F := Ideal) a b w x (ix2 r l)
      = x (ix3 ⟨r / 2048, by omega⟩ ⟨r % 2048, by omega⟩ l)
        + ((∑ k : Fin 1024, a (ix2 r k) * w (ix3 0 ⟨k, by omega⟩ l)) + ∑ k : Fin 1024, b (ix2 r k) * w (ix3 0 ⟨1024 + k, by omega⟩ l)) := by
  pointwise [val_main_v0, val_main_v1, val_main_v2, val_main_v3, val_main_v4, val_main_v5]

variable (m : (ℓ : Loc nD τ sig) → Buf (Elt Ideal) ℓ) (c : Dev nD)

/-- Where each window's block lies at a point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![t.val, 0])

/-- The weight block at a point. -/
theorem blk2 (t : Fin cfg0.N) (k l : Fin 2048) :
    (show FVec Ideal S2048x2048 .bf16 from iblk m c 2 t) (ix2 k l) = m ((c : Thread nD τ).loc main_arg2) (ix3 0 k l) := by
  blk_point [iblk, V, idx t]

/-- The upper half of the weight's rows, as the body loads it. -/
theorem ldTop (w : Vec Ideal S2048x2048 .bf16) (k : Fin 1024) (l : Fin 2048) :
    View.ld w r0_2 (ix2 k l) = w (ix2 ⟨k.val, by omega⟩ l) :=
  View.ld_unit_apply_of w _ _ _ _ _ fun a => by
    fin_cases a
    · exact (Nat.zero_add _).symm
    · exact (Nat.zero_add _).symm

/-- The lower half. -/
theorem ldBot (w : Vec Ideal S2048x2048 .bf16) (k : Fin 1024) (l : Fin 2048) :
    View.ld w r0_3 (ix2 k l) = w (ix2 ⟨1024 + k.val, by omega⟩ l) :=
  View.ld_unit_apply_of w _ _ _ _ _ fun a => by
    fin_cases a
    · rfl
    · exact (Nat.zero_add _).symm

/-- The result array after the run is the reference's. -/
theorem final : (dats m 0 c).arrAt 4 cfg0.N
    = Cert.Reference6Ideal.Read.val_main_v5 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  have ht : t.val < 32 := lt_of_lt_of_eq t.isLt N_0
  have he : ((cfg0.win 4).blk t).view.emb (ix2 y0 y1) = (ix2 ⟨t.val * 512 + y0, by omega⟩ y1 : S16384x2048.Idx) := by
    blk_ext [idx t]
  refine Eq.trans ?_ (congrArg _ he).symm
  rw [ref_at, pay_at]
  refine congrArg₂ (· + ·) ?_ (congrArg₂ (· + ·) (Finset.sum_congr rfl fun k _ => congrArg₂ (· * ·) ?_ ?_)
    (Finset.sum_congr rfl fun k _ => congrArg₂ (· * ·) ?_ ?_))
  · blk_point [iblk, V, idx t]
  · blk_point [iblk, V, idx t]
  · exact (ldTop _ k y1).trans (blk2 m c t _ _)
  · blk_point [iblk, V, idx t]
  · exact (ldBot _ k y1).trans (blk2 m c t _ _)

end Cert.Kernel6Ideal.Out

namespace Cert.Kernel7Ideal.Out

open Cert.Kernel7Ideal Cert.Kernel7Ideal.Gen Idealize.ShloMosaic Idealize.ShloMosaic.TcCoe Idealize.SL.Sem
open Idealize.ShloMosaic.Pipeline (Dat)

/-- The payload at an index: the residual's entry plus the product. -/
theorem pay_at (res : FVec Ideal S512x2048 .f32) (a : FVec Ideal S512x4096 .bf16) (w : FVec Ideal S4096x2048 .bf16)
    (r : Fin 512) (l : Fin 2048) :
    k0_pay1 (F := Ideal) res a w (ix2 r l) = res (ix2 r l) + ∑ k : Fin 4096, a (ix2 r k) * w (ix2 k l) := by
  pointwise [k0_pay1]

open Cert.Reference7Ideal.Read in
/-- The reference at an index. -/
theorem ref_at (a : FVec Ideal S16384x4096 .bf16) (w : FVec Ideal S1x4096x2048 .f32) (x : FVec Ideal S16384x2048 .f32)
    (r : Fin 16384) (l : Fin 2048) :
    val_main_v3 (F := Ideal) a w x (ix2 r l) = x (ix2 r l) + ∑ k : Fin 4096, a (ix2 r k) * w (ix3 0 k l) := by
  pointwise [val_main_v0, val_main_v1, val_main_v2, val_main_v3]

variable (m : (ℓ : Loc nD τ sig) → Buf (Elt Ideal) ℓ) (c : Dev nD)

/-- Where each window's block lies at a point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, win0_0.index t = ![t.val, 0] ∧ win0_1.index t = ![0, 0] ∧ win0_2.index t = ![t.val, 0]
    ∧ win0_3.index t = ![t.val, 0])

/-- The result array after the run is the reference's. -/
theorem final : (dats m 0 c).arrAt 3 cfg0.N
    = Cert.Reference7Ideal.Read.val_main_v3 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  frame_out
  idx_vars y
  have ht : t.val < 32 := lt_of_lt_of_eq t.isLt N_0
  have he : ((cfg0.win 3).blk t).view.emb (ix2 y0 y1) = (ix2 ⟨t.val * 512 + y0, by omega⟩ y1 : S16384x2048.Idx) := by
    blk_ext [idx t]
  refine Eq.trans ?_ (congrArg _ he).symm
  rw [ref_at, pay_at]
  refine congrArg₂ (· + ·) ?_ (Finset.sum_congr rfl fun k _ => congrArg₂ (· * ·) ?_ ?_)
  · blk_point [iblk, V, idx t]
  · blk_point [iblk, V, idx t]
  · blk_point [iblk, V, idx t]

end Cert.Kernel7Ideal.Out
-- ==== Proof.OutClaim.lean ====
module

public import proofs.«01_k».proof.Defs
public import proofs.«01_k».proof.Proof.Out
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import proofs.«01_k».proof.Proof.Gen.Reference7Ideal.Run
public import Idealize.ShloMosaic.Lib.Claim

@[expose] public section

set_option maxRecDepth 16384

noncomputable section

/-! The claims about the two out-projections. -/

namespace Cert.OutAClaim

open Idealize.ShloMosaic Idealize.SL.Sem

/-- The printed call keeps its arguments. -/
theorem frame_p : Cert.quiescent_Kernel6 := fun m ρ _ => Cert.Kernel6.Gen.frame m ρ

/-- So does the idealized call. -/
theorem frame_pi : Cert.quiescent_Kernel6Ideal := fun m ρ _ => Cert.Kernel6Ideal.Gen.frame m ρ

/-- So does the reference. -/
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Kernel and reference end with equal results. -/
theorem algebraic : Cert.algebraic_Kernel6Ideal_Reference6Ideal := by
  pair_intro
  · run_from Cert.Kernel6Ideal.Gen.run_main (F := Ideal) m g
  · run_from Cert.Reference6Ideal.Value.run (F := Ideal) m' g'
    exact (Cert.Reference6Ideal.Read.val_main_v5_eq ..).trans (Cert.Kernel6Ideal.Out.final m c).symm

end Cert.OutAClaim

namespace Cert.OutSClaim

open Idealize.ShloMosaic Idealize.SL.Sem

/-- The printed call keeps its arguments. -/
theorem frame_p : Cert.quiescent_Kernel7 := fun m ρ _ => Cert.Kernel7.Gen.frame m ρ

/-- So does the idealized call. -/
theorem frame_pi : Cert.quiescent_Kernel7Ideal := fun m ρ _ => Cert.Kernel7Ideal.Gen.frame m ρ

/-- So does the reference. -/
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Kernel and reference end with equal results. -/
theorem algebraic : Cert.algebraic_Kernel7Ideal_Reference7Ideal := by
  pair_intro
  · run_from Cert.Kernel7Ideal.Gen.run_main (F := Ideal) m g
  · run_from Cert.Reference7Ideal.Value.run (F := Ideal) m' g'
    exact (Cert.Reference7Ideal.Read.val_main_v3_eq ..).trans (Cert.Kernel7Ideal.Out.final m c).symm

end Cert.OutSClaim
-- ==== Proof.InSample.lean ====
module

public import proofs.«01_k».proof.Proof.InMath
public import proofs.«01_k».proof.Proof.Gen.Kernel8Ideal.Value
public import proofs.«01_k».proof.Proof.Gen.Reference8Ideal.Read
public import Idealize.ShloMosaic.Lib.Pointwise
public import Idealize.ShloMosaic.Lib.Pipeline.ValueKit

@[expose] public section

set_option maxRecDepth 16384

noncomputable section

/-! The in-projection of the attention layer over the sample batch: five projected tiles of the normalised rows, two of them
normalised and rotated head by head at one position, against the reference. -/

namespace Cert.Kernel8Ideal.In

open Cert.Kernel8Ideal Cert.Kernel8Ideal.Gen Idealize.ShloMosaic Idealize.ShloMosaic.TcCoe Idealize.SL.Sem Cert.InMath
open Idealize.ShloMosaic.Pipeline (Dat)

/-- One head of a tile: normalised, then rotated by the two tables. -/
def head (y : FVec Ideal S32x128 .f32) (g : FVec Ideal S1x128 .f32) (c s : FVec Ideal S32x128 .f32) : FVec Ideal S32x128 .f32 :=
  let z := mulf (mulf y (broadcastTo S32x128 (rsqrt (addf (divf (shapeCast S32x1 (multiReduction .add [1] S32 (mulf y y) 0x00000000#32
    reduces_S32x128_S32 (.inl rfl) rfl) shapeCasts_S32_S32x1) (broadcast S32x1 (Scalar.ofBits .f32 0x43000000#32)))
    (broadcast S32x1 (Scalar.ofBits .f32 0x358637BD#32)))) broadcasts_S32x1_S32x128))
    (broadcastTo S32x128 (shapeCast S1x128 g shapeCasts_S1x128_S1x128) broadcasts_S1x128_S32x128)
  addf (mulf z (shapeCast S32x128 c shapeCasts_S32x128_S32x128))
    (mulf (select (cmpi .slt (iota .tc S32x128 32 [1] iota_S32x128_d1_w32) (broadcast S32x128 16#32))
      (dynamicRotate 1 112#32 none z rotates_S32x128_d1) (dynamicRotate 1 16#32 none z rotates_S32x128_d1))
      (shapeCast S32x128 s shapeCasts_S32x128_S32x128))

/-- A head of a tile at an index. -/
theorem head_at (y : FVec Ideal S32x128 .f32) (g : FVec Ideal S1x128 .f32) (c s : FVec Ideal S32x128 .f32) (r : Fin 32) (l : Fin 128) :
    head y g c s (ix2 r l)
      = rot (hnrm (fun k => y (ix2 r k)) (fun k => g (ix2 0 k))) (fun k => c (ix2 r k)) (fun k => s (ix2 r k)) l := by
  have hc : ∀ l : Fin 128, IntOp.cmpi CmpIPredicate.slt (BitVec.ofNat 32 l.val) 16#32 = if l.val < 16 then 1#1 else 0#1 := by decide +kernel
  pointwise [head]
  rw [hc l]
  unfold rot
  by_cases h : l.val < 16
  · simp only [h, if_true]
    have e : (⟨(l.val + 16) % 128, by omega⟩ : Fin 128) = ⟨(l.val + 128 - 112) % 128, by omega⟩ := Fin.ext (by simp only []; omega)
    rw [e]
    rfl
  · simp only [h, if_false]
    have e : (⟨(l.val + 112) % 128, by omega⟩ : Fin 128) = ⟨(l.val + 128 - 16) % 128, by omega⟩ := Fin.ext (by simp only []; omega)
    rw [e]
    rfl

/-- A tile's columns from an offset on, at an index. -/
theorem slice_at (A : FVec Ideal S32x1024 .f32) (o : ℕ) (h : S32x1024.Slices ![0, o] S32x128) (ho : o + 128 ≤ 1024) (r : Fin 32) (l : Fin 128) :
    extractStridedSlice S32x128 ![0, o] A h (ix2 r l) = A (ix2 r ⟨o + l, by omega⟩) := by
  pointwise []
/-- The normalising payload at an index. -/
theorem xn_at (x : FVec Ideal S32x2048 .f32) (g : FVec Ideal S1x2048 .f32) (r : Fin 32) (l : Fin 2048) :
    k0_pay10 (F := Ideal) x g (ix2 r l) = nrm (fun k => x (ix2 r k)) (g (ix2 0 l)) l := by
  pointwise [k0_pay10]
  rfl

/-- The sample batch's position as the angles read it. -/
abbrev pos : EReal := FloatOps.sitofp (F := Ideal) FTy.f32 8192#32

section
open Cert.Reference8Ideal.Read

/-- The reference's product at an index. -/
theorem ref_dot (x : FVec Ideal S32x1x2048 .f32) (g : FVec Ideal S2x2048 .f32) (w : FVec Ideal S1x2048x5120 .f32)
    (b : Fin 32) (f : Fin 5120) :
    val_main_v16 (F := Ideal) x g w (ix3 b 0 f) = dot (fun k => x (ix3 b 0 k)) (fun k => g (ix2 0 k)) (fun k => w (ix3 0 k f)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  rfl

/-- The reference's queries before their rotation. -/
theorem ref_hq (x : FVec Ideal S32x1x2048 .f32) (g : FVec Ideal S2x2048 .f32) (w : FVec Ideal S1x2048x5120 .f32)
    (n : FVec Ideal S1x128 .f32) (b : Fin 32) (h : Fin 8) (k : Fin 128) :
    val_main_v36 (F := Ideal) x g w n (ix4 b 0 h k)
      = hnrm (fun k => dot (fun k => x (ix3 b 0 k)) (fun k => g (ix2 0 k)) (fun j => w (ix3 0 j ⟨h.val * 128 + k.val, by omega⟩)))
          (fun k => n (ix2 0 k)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v17, val_main_v22, val_main_v23, val_main_v24, val_main_v25, val_main_v26, val_main_v27, val_main_v28, val_main_v29, val_main_v30, val_main_v31, val_main_v32, val_main_v33, val_main_v34, val_main_v35, val_main_v36, val_main_cst_2, val_main_cst_3, val_main_cst_4]
  rfl

/-- The reference's keys before their rotation. -/
theorem ref_hk (x : FVec Ideal S32x1x2048 .f32) (g : FVec Ideal S2x2048 .f32) (w : FVec Ideal S1x2048x5120 .f32)
    (n : FVec Ideal S1x128 .f32) (b : Fin 32) (h : Fin 8) (k : Fin 128) :
    val_main_v87 (F := Ideal) x g w n (ix4 b 0 h k)
      = hnrm (fun k => dot (fun k => x (ix3 b 0 k)) (fun k => g (ix2 0 k)) (fun j => w (ix3 0 j ⟨1024 + (h.val * 128 + k.val), by omega⟩)))
          (fun k => n (ix2 0 k)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_v18, val_main_v73, val_main_v74, val_main_v75, val_main_v76, val_main_v77, val_main_v78, val_main_v79, val_main_v80, val_main_v81, val_main_v82, val_main_v83, val_main_v84, val_main_v85, val_main_v86, val_main_v87, val_main_cst_7, val_main_cst_8, val_main_cst_9]
  rfl

/-- The reference's queries. -/
theorem ref_q (x : FVec Ideal S32x1x2048 .f32) (g : FVec Ideal S2x2048 .f32) (w : FVec Ideal S1x2048x5120 .f32)
    (n : FVec Ideal S1x128 .f32) (R : Fin 32) (C : Fin 1024) :
    val_main_v124 (F := Ideal) x g w n (ix2 R C)
      = entry (fun f => dot (fun k => x (ix3 R 0 k)) (fun k => g (ix2 0 k)) (fun j => w (ix3 0 j ⟨f.val, by omega⟩)))
          (fun k => n (ix2 0 k)) pos C := by
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v124, val_main_cst_5, val_main_cst_6, val_main_c]
  simp only [ref_hq]
  rfl

/-- The reference's keys. -/
theorem ref_k (x : FVec Ideal S32x1x2048 .f32) (g : FVec Ideal S2x2048 .f32) (w : FVec Ideal S1x2048x5120 .f32)
    (n : FVec Ideal S1x128 .f32) (R : Fin 32) (C : Fin 1024) :
    val_main_v125 (F := Ideal) x g w n (ix2 R C)
      = entry (fun f => dot (fun k => x (ix3 R 0 k)) (fun k => g (ix2 0 k)) (fun j => w (ix3 0 j ⟨1024 + f.val, by omega⟩)))
          (fun k => n (ix2 0 k)) pos C := by
  pointwise [val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v125, val_main_cst_10, val_main_cst_11, val_main_c_12]
  simp only [ref_hk]
  rfl

/-- The reference's values. -/
theorem ref_126 (x : FVec Ideal S32x1x2048 .f32) (g : FVec Ideal S2x2048 .f32) (w : FVec Ideal S1x2048x5120 .f32)
    (R : Fin 32) (C : Fin 1024) :
    val_main_v126 (F := Ideal) x g w (ix2 R C)
      = dot (fun k => x (ix3 R 0 k)) (fun k => g (ix2 0 k)) (fun j => w (ix3 0 j ⟨2048 + C.val, by omega⟩)) := by
  pointwise [val_main_v19, val_main_v126]
  exact ref_dot ..

/-- The reference's recurrence's input. -/
theorem ref_127 (x : FVec Ideal S32x1x2048 .f32) (g : FVec Ideal S2x2048 .f32) (w : FVec Ideal S1x2048x5120 .f32)
    (R : Fin 32) (C : Fin 1024) :
    val_main_v127 (F := Ideal) x g w (ix2 R C)
      = dot (fun k => x (ix3 R 0 k)) (fun k => g (ix2 0 k)) (fun j => w (ix3 0 j ⟨3072 + C.val, by omega⟩)) := by
  pointwise [val_main_v20, val_main_v127]
  exact ref_dot ..

/-- The reference's gate's input. -/
theorem ref_128 (x : FVec Ideal S32x1x2048 .f32) (g : FVec Ideal S2x2048 .f32) (w : FVec Ideal S1x2048x5120 .f32)
    (R : Fin 32) (C : Fin 1024) :
    val_main_v128 (F := Ideal) x g w (ix2 R C)
      = dot (fun k => x (ix3 R 0 k)) (fun k => g (ix2 0 k)) (fun j => w (ix3 0 j ⟨4096 + C.val, by omega⟩)) := by
  pointwise [val_main_v21, val_main_v128]
  exact ref_dot ..

end
variable (m : (ℓ : Loc nD τ sig) → Buf (Elt Ideal) ℓ) (c : Dev nD)

/-- Where each window's block lies at a point. -/
theorem idx : ∀ t : Fin cfg0.N, win0_0.index t = ![0, 0] ∧ win0_1.index t = ![0, 0] ∧ win0_2.index t = ![0, 0, 0]
    ∧ win0_3.index t = ![0, 0, 1] ∧ win0_4.index t = ![0, 0, 2] ∧ win0_5.index t = ![0, 0, 3] ∧ win0_6.index t = ![0, 0, 4]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] :=
  (by decide +kernel : ∀ t : Fin grid0.N, win0_0.index t = ![0, 0] ∧ win0_1.index t = ![0, 0] ∧ win0_2.index t = ![0, 0, 0]
    ∧ win0_3.index t = ![0, 0, 1] ∧ win0_4.index t = ![0, 0, 2] ∧ win0_5.index t = ![0, 0, 3] ∧ win0_6.index t = ![0, 0, 4]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0])

/-- The reference's row that row `r` of the block is. -/
abbrev row (r : Fin 32) (k : Fin 2048) : EReal := m ((c : Thread nD τ).loc main_arg0) (ix3 r 0 k)

/-- The angles as the host prepares them. -/
def ang : FVec Ideal S32x16 .f32 :=
  mulf (broadcastInDim S32x16 ![0, 1] bcast_S32x1_S32x16_0_1 (broadcastInDim S32x1 ![0] bcast_S32_S32x1_0
      (sitofp (F := Ideal) .f32 (broadcastInDim S32 ![] bcast_S_S32 (constantI S_ 32 8192#32)))))
    (broadcastInDim S32x16 ![0, 1] bcast_S1x16_S32x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

/-- The table of cosines as the host prepares it. -/
def tcos : FVec Ideal S32x128 .f32 :=
  concatenate S32x128 1 [⟨S32x16, (Host.cos ang : FVec Ideal S32x16 .f32)⟩, ⟨S32x16, (Host.cos ang : FVec Ideal S32x16 .f32)⟩,
    ⟨S32x96, (broadcastInDim S32x96 ![] bcast_S_S32x96 (constant S_ .f32 0x3F800000#32) : FVec Ideal S32x96 .f32)⟩]
    concatenates_S32x16_S32x16_S32x96_S32x128_d1

/-- The table of signed sines as the host prepares it. -/
def tsin : FVec Ideal S32x128 .f32 :=
  concatenate S32x128 1 [⟨S32x16, (Host.negf (Host.sin ang) : FVec Ideal S32x16 .f32)⟩, ⟨S32x16, (Host.sin ang : FVec Ideal S32x16 .f32)⟩,
    ⟨S32x96, (broadcastInDim S32x96 ![] bcast_S_S32x96 (constant S_ .f32 0x00000000#32) : FVec Ideal S32x96 .f32)⟩]
    concatenates_S32x16_S32x16_S32x96_S32x128_d1

/-- The host leaves the cosines' table in the window's array. -/
theorem V16 : V m c main_v16 = tcos := rfl

/-- The host leaves the signed sines' table in the window's array. -/
theorem V19 : V m c main_v19 = tsin := rfl

/-- The angles at an index. -/
theorem ang_at (r : Fin 32) (k : Fin 16) : ang (ix2 r k) = theta (pos) k.val := by
  pointwise [ang]
  rfl

/-- The cosines' table at an index. -/
theorem tcos_at (r : Fin 32) (k : Fin 128) : tcos (ix2 r k) = tc (pos) k := by
  pointwise [tcos]
  simp only [ang_at, dite_eq_ite]
  rfl

/-- The signed sines' table at an index. -/
theorem tsin_at (r : Fin 32) (k : Fin 128) : tsin (ix2 r k) = ts (pos) k := by
  pointwise [tsin]
  simp only [ang_at, dite_eq_ite]
  rfl

/-- The block of input rows at a point. -/
theorem blk0 (t : Fin cfg0.N) (r : Fin 32) (k : Fin 2048) :
    (show FVec Ideal S32x2048 .f32 from iblk m c 0 t) (ix2 r k) = row m c r k := by
  blk_point [iblk, V, idx t]

/-- The norm's weights at a point. -/
theorem blk1 (t : Fin cfg0.N) (k : Fin 2048) :
    (show FVec Ideal S1x2048 .f32 from iblk m c 1 t) (ix2 0 k) = m ((c : Thread nD τ).loc main_arg1) (ix2 0 k) := by
  blk_point [iblk, V, idx t]

/-- The weight tile of the queries at a point. -/
theorem blk2 (t : Fin cfg0.N) (k : Fin 2048) (f : Fin 1024) :
    (show FVec Ideal S1x2048x1024 .bf16 from iblk m c 2 t) (ix3 0 k f)
      = m ((c : Thread nD τ).loc main_arg2) (ix3 0 k ⟨f.val, by omega⟩) := by
  blk_point [iblk, V, idx t]

/-- The weight tile of the keys at a point. -/
theorem blk3 (t : Fin cfg0.N) (k : Fin 2048) (f : Fin 1024) :
    (show FVec Ideal S1x2048x1024 .bf16 from iblk m c 3 t) (ix3 0 k f)
      = m ((c : Thread nD τ).loc main_arg2) (ix3 0 k ⟨1024 + f.val, by omega⟩) := by
  blk_point [iblk, V, idx t]

/-- The weight tile of the values at a point. -/
theorem blk4 (t : Fin cfg0.N) (k : Fin 2048) (f : Fin 1024) :
    (show FVec Ideal S1x2048x1024 .bf16 from iblk m c 4 t) (ix3 0 k f)
      = m ((c : Thread nD τ).loc main_arg2) (ix3 0 k ⟨2048 + f.val, by omega⟩) := by
  blk_point [iblk, V, idx t]

/-- The weight tile of the recurrence at a point. -/
theorem blk5 (t : Fin cfg0.N) (k : Fin 2048) (f : Fin 1024) :
    (show FVec Ideal S1x2048x1024 .bf16 from iblk m c 5 t) (ix3 0 k f)
      = m ((c : Thread nD τ).loc main_arg2) (ix3 0 k ⟨3072 + f.val, by omega⟩) := by
  blk_point [iblk, V, idx t]

/-- The weight tile of the gate at a point. -/
theorem blk6 (t : Fin cfg0.N) (k : Fin 2048) (f : Fin 1024) :
    (show FVec Ideal S1x2048x1024 .bf16 from iblk m c 6 t) (ix3 0 k f)
      = m ((c : Thread nD τ).loc main_arg2) (ix3 0 k ⟨4096 + f.val, by omega⟩) := by
  blk_point [iblk, V, idx t]

/-- The queries' norm weights at a point. -/
theorem blk7 (t : Fin cfg0.N) (k : Fin 128) :
    (show FVec Ideal S1x128 .f32 from iblk m c 7 t) (ix2 0 k) = m ((c : Thread nD τ).loc main_arg3) (ix2 0 k) := by
  blk_point [iblk, V, idx t]

/-- The keys' norm weights at a point. -/
theorem blk8 (t : Fin cfg0.N) (k : Fin 128) :
    (show FVec Ideal S1x128 .f32 from iblk m c 8 t) (ix2 0 k) = m ((c : Thread nD τ).loc main_arg4) (ix2 0 k) := by
  blk_point [iblk, V, idx t]

/-- The block of cosines at a point. -/
theorem blk9 (t : Fin cfg0.N) (r : Fin 32) (k : Fin 128) :
    (show FVec Ideal S32x128 .f32 from iblk m c 9 t) (ix2 r k) = tc pos k := by
  refine Eq.trans ?_ (tcos_at r k)
  rw [← V16 m c]
  blk_point [iblk, idx t]

/-- The block of signed sines at a point. -/
theorem blk10 (t : Fin cfg0.N) (r : Fin 32) (k : Fin 128) :
    (show FVec Ideal S32x128 .f32 from iblk m c 10 t) (ix2 r k) = ts pos k := by
  refine Eq.trans ?_ (tsin_at r k)
  rw [← V19 m c]
  blk_point [iblk, idx t]

/-- The product payload over normalised rows at an index. -/
theorem mm_at (x : FVec Ideal S32x2048 .f32) (g : FVec Ideal S1x2048 .f32) (w : FVec Ideal S1x2048x1024 .bf16) (r : Fin 32) (f : Fin 1024) :
    k0_pay38 (F := Ideal) (k0_pay10 x g) w (ix2 r f) = dot (fun k => x (ix2 r k)) (fun k => g (ix2 0 k)) (fun k => w (ix3 0 k f)) := by
  pointwise [k0_pay38, k0_pay10]
  rfl

/-- A head cut out of a tile of projected rows, at an index. -/
theorem head_piece (A : FVec Ideal S32x1024 .f32) (gn : FVec Ideal S1x128 .f32) (ta tb : FVec Ideal S32x128 .f32)
    (o : ℕ) (hs : S32x1024.Slices ![0, o] S32x128) (ho : o + 128 ≤ 1024) (hd : o % 128 = 0) (y : Fin 1024 → EReal) (p : EReal)
    (gv : Fin 128 → EReal) (r : Fin 32) (l : Fin 128) (C : Fin 1024) (hA : ∀ f, A (ix2 r f) = y f) (hg : ∀ k, gn (ix2 0 k) = gv k)
    (hc : ∀ k, ta (ix2 r k) = tc p k) (hn : ∀ k, tb (ix2 r k) = ts p k) (hC : C.val = o + l.val) :
    head (extractStridedSlice S32x128 ![0, o] A hs) gn ta tb (ix2 r l) = entry y gv p C := by
  rw [head_at, ← entry_eq y gv p o ho hd l C hC, ← rot_eq]
  simp only [slice_at A o hs ho, hA, hg, hc, hn]

/-- A piece of a plain product's tile, at an index. -/
theorem plain_piece (A : FVec Ideal S32x1024 .f32) (o : ℕ) (hs : S32x1024.Slices ![0, o] S32x128) (ho : o + 128 ≤ 1024)
    (y : Fin 1024 → EReal) (r : Fin 32) (l : Fin 128) (C : Fin 1024) (hA : ∀ f, A (ix2 r f) = y f) (hC : C.val = o + l.val) :
    extractStridedSlice S32x128 ![0, o] A hs (ix2 r l) = y C := by
  rw [slice_at A o hs ho, hA]
  exact congrArg y (Fin.ext hC.symm)

/-- The rows' product with the columns of the weight that a map names. -/
abbrev prod (r : Fin 32) (col : Fin 1024 → Fin 5120) (f : Fin 1024) : EReal :=
  dot (row m c r) (fun k => m ((c : Thread nD τ).loc main_arg1) (ix2 0 k)) (fun k => m ((c : Thread nD τ).loc main_arg2) (ix3 0 k (col f)))

/-- The product payload over a point's normalised rows, from what its weight tile holds. -/
theorem mm_point (t : Fin cfg0.N) (w : FVec Ideal S1x2048x1024 .bf16) (col : Fin 1024 → Fin 5120)
    (hw : ∀ k f, w (ix3 0 k f) = m ((c : Thread nD τ).loc main_arg2) (ix3 0 k (col f))) (r : Fin 32) (f : Fin 1024) :
    k0_pay38 (F := Ideal) (k0_pay10 (iblk m c 0 t) (iblk m c 1 t)) w (ix2 r f) = prod m c r col f := by
  rw [mm_at]
  have e0 := funext (blk0 m c t r)
  have e1 := funext (blk1 m c t)
  have e2 := funext fun k => hw k f
  exact congr (congr (congrArg dot e0) e1) e2

/-- What the body leaves in the queries' tile at a point. -/
theorem q_point (t : Fin cfg0.N) (r : Fin 32) (C : Fin 1024) :
    out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r C)
      = entry (prod m c r (fun f => ⟨f.val, by omega⟩)) (fun k => m ((c : Thread nD τ).loc main_arg3) (ix2 0 k)) pos C := by
  unfold_out out0_11
  frame_out
  have hA := mm_point m c t (iblk m c 2 t) (fun f => ⟨f.val, by omega⟩) (blk2 m c t) r
  canon_tiles x h
  all_goals obtain ⟨r', l, rfl⟩ : ∃ (r' : Fin 32) (l : Fin 128), x = ix2 r' l := ⟨x 0, x 1, by ext a; fin_cases a <;> rfl⟩
  all_goals obtain rfl : r' = r := Fin.ext h0.symm
  case piece0 => exact head_piece _ (iblk m c 7 t) _ _ 896 slices_S32x1024_o0_896_S32x128 (by decide) (by decide) _ _ _ _ l C hA (blk7 m c t) (blk9 m c t _) (blk10 m c t _) h1
  case piece1 => exact head_piece _ (iblk m c 7 t) _ _ 768 slices_S32x1024_o0_768_S32x128 (by decide) (by decide) _ _ _ _ l C hA (blk7 m c t) (blk9 m c t _) (blk10 m c t _) h1
  case piece2 => exact head_piece _ (iblk m c 7 t) _ _ 640 slices_S32x1024_o0_640_S32x128 (by decide) (by decide) _ _ _ _ l C hA (blk7 m c t) (blk9 m c t _) (blk10 m c t _) h1
  case piece3 => exact head_piece _ (iblk m c 7 t) _ _ 512 slices_S32x1024_o0_512_S32x128 (by decide) (by decide) _ _ _ _ l C hA (blk7 m c t) (blk9 m c t _) (blk10 m c t _) h1
  case piece4 => exact head_piece _ (iblk m c 7 t) _ _ 384 slices_S32x1024_o0_384_S32x128 (by decide) (by decide) _ _ _ _ l C hA (blk7 m c t) (blk9 m c t _) (blk10 m c t _) h1
  case piece5 => exact head_piece _ (iblk m c 7 t) _ _ 256 slices_S32x1024_o0_256_S32x128 (by decide) (by decide) _ _ _ _ l C hA (blk7 m c t) (blk9 m c t _) (blk10 m c t _) h1
  case piece6 => exact head_piece _ (iblk m c 7 t) _ _ 128 slices_S32x1024_o0_128_S32x128 (by decide) (by decide) _ _ _ _ l C hA (blk7 m c t) (blk9 m c t _) (blk10 m c t _) h1
  case piece7 => exact head_piece _ (iblk m c 7 t) _ _ 0 slices_S32x1024_o0_0_S32x128 (by decide) (by decide) _ _ _ _ l C hA (blk7 m c t) (blk9 m c t _) (blk10 m c t _) (h1.trans (Nat.zero_add _).symm)

/-- What the body leaves in the keys' tile at a point. -/
theorem k_point (t : Fin cfg0.N) (r : Fin 32) (C : Fin 1024) :
    out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r C)
      = entry (prod m c r (fun f => ⟨1024 + f.val, by omega⟩)) (fun k => m ((c : Thread nD τ).loc main_arg4) (ix2 0 k)) pos C := by
  unfold_out out0_12
  frame_out
  have hA := mm_point m c t (iblk m c 3 t) (fun f => ⟨1024 + f.val, by omega⟩) (blk3 m c t) r
  canon_tiles x h
  all_goals obtain ⟨r', l, rfl⟩ : ∃ (r' : Fin 32) (l : Fin 128), x = ix2 r' l := ⟨x 0, x 1, by ext a; fin_cases a <;> rfl⟩
  all_goals obtain rfl : r' = r := Fin.ext h0.symm
  case piece0 => exact head_piece _ (iblk m c 8 t) _ _ 896 slices_S32x1024_o0_896_S32x128 (by decide) (by decide) _ _ _ _ l C hA (blk8 m c t) (blk9 m c t _) (blk10 m c t _) h1
  case piece1 => exact head_piece _ (iblk m c 8 t) _ _ 768 slices_S32x1024_o0_768_S32x128 (by decide) (by decide) _ _ _ _ l C hA (blk8 m c t) (blk9 m c t _) (blk10 m c t _) h1
  case piece2 => exact head_piece _ (iblk m c 8 t) _ _ 640 slices_S32x1024_o0_640_S32x128 (by decide) (by decide) _ _ _ _ l C hA (blk8 m c t) (blk9 m c t _) (blk10 m c t _) h1
  case piece3 => exact head_piece _ (iblk m c 8 t) _ _ 512 slices_S32x1024_o0_512_S32x128 (by decide) (by decide) _ _ _ _ l C hA (blk8 m c t) (blk9 m c t _) (blk10 m c t _) h1
  case piece4 => exact head_piece _ (iblk m c 8 t) _ _ 384 slices_S32x1024_o0_384_S32x128 (by decide) (by decide) _ _ _ _ l C hA (blk8 m c t) (blk9 m c t _) (blk10 m c t _) h1
  case piece5 => exact head_piece _ (iblk m c 8 t) _ _ 256 slices_S32x1024_o0_256_S32x128 (by decide) (by decide) _ _ _ _ l C hA (blk8 m c t) (blk9 m c t _) (blk10 m c t _) h1
  case piece6 => exact head_piece _ (iblk m c 8 t) _ _ 128 slices_S32x1024_o0_128_S32x128 (by decide) (by decide) _ _ _ _ l C hA (blk8 m c t) (blk9 m c t _) (blk10 m c t _) h1
  case piece7 => exact head_piece _ (iblk m c 8 t) _ _ 0 slices_S32x1024_o0_0_S32x128 (by decide) (by decide) _ _ _ _ l C hA (blk8 m c t) (blk9 m c t _) (blk10 m c t _) (h1.trans (Nat.zero_add _).symm)

/-- What the body leaves in the values' tile at a point. -/
theorem v_point (t : Fin cfg0.N) (r : Fin 32) (C : Fin 1024) :
    out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r C)
      = prod m c r (fun f => ⟨2048 + f.val, by omega⟩) C := by
  unfold_out out0_13
  frame_out
  have hA := mm_point m c t (iblk m c 4 t) (fun f => ⟨2048 + f.val, by omega⟩) (blk4 m c t) r
  canon_tiles x h
  all_goals obtain ⟨r', l, rfl⟩ : ∃ (r' : Fin 32) (l : Fin 128), x = ix2 r' l := ⟨x 0, x 1, by ext a; fin_cases a <;> rfl⟩
  all_goals obtain rfl : r' = r := Fin.ext h0.symm
  case piece0 => exact plain_piece _ 896 slices_S32x1024_o0_896_S32x128 (by decide) _ _ l C hA h1
  case piece1 => exact plain_piece _ 768 slices_S32x1024_o0_768_S32x128 (by decide) _ _ l C hA h1
  case piece2 => exact plain_piece _ 640 slices_S32x1024_o0_640_S32x128 (by decide) _ _ l C hA h1
  case piece3 => exact plain_piece _ 512 slices_S32x1024_o0_512_S32x128 (by decide) _ _ l C hA h1
  case piece4 => exact plain_piece _ 384 slices_S32x1024_o0_384_S32x128 (by decide) _ _ l C hA h1
  case piece5 => exact plain_piece _ 256 slices_S32x1024_o0_256_S32x128 (by decide) _ _ l C hA h1
  case piece6 => exact plain_piece _ 128 slices_S32x1024_o0_128_S32x128 (by decide) _ _ l C hA h1
  case piece7 => exact plain_piece _ 0 slices_S32x1024_o0_0_S32x128 (by decide) _ _ l C hA (h1.trans (Nat.zero_add _).symm)

/-- What the body leaves in the recurrence's inputs' tile at a point. -/
theorem xr_point (t : Fin cfg0.N) (r : Fin 32) (C : Fin 1024) :
    out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r C)
      = prod m c r (fun f => ⟨3072 + f.val, by omega⟩) C := by
  unfold_out out0_14
  frame_out
  have hA := mm_point m c t (iblk m c 5 t) (fun f => ⟨3072 + f.val, by omega⟩) (blk5 m c t) r
  canon_tiles x h
  all_goals obtain ⟨r', l, rfl⟩ : ∃ (r' : Fin 32) (l : Fin 128), x = ix2 r' l := ⟨x 0, x 1, by ext a; fin_cases a <;> rfl⟩
  all_goals obtain rfl : r' = r := Fin.ext h0.symm
  case piece0 => exact plain_piece _ 896 slices_S32x1024_o0_896_S32x128 (by decide) _ _ l C hA h1
  case piece1 => exact plain_piece _ 768 slices_S32x1024_o0_768_S32x128 (by decide) _ _ l C hA h1
  case piece2 => exact plain_piece _ 640 slices_S32x1024_o0_640_S32x128 (by decide) _ _ l C hA h1
  case piece3 => exact plain_piece _ 512 slices_S32x1024_o0_512_S32x128 (by decide) _ _ l C hA h1
  case piece4 => exact plain_piece _ 384 slices_S32x1024_o0_384_S32x128 (by decide) _ _ l C hA h1
  case piece5 => exact plain_piece _ 256 slices_S32x1024_o0_256_S32x128 (by decide) _ _ l C hA h1
  case piece6 => exact plain_piece _ 128 slices_S32x1024_o0_128_S32x128 (by decide) _ _ l C hA h1
  case piece7 => exact plain_piece _ 0 slices_S32x1024_o0_0_S32x128 (by decide) _ _ l C hA (h1.trans (Nat.zero_add _).symm)

/-- What the body leaves in the gates' tile at a point. -/
theorem yg_point (t : Fin cfg0.N) (r : Fin 32) (C : Fin 1024) :
    out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r C)
      = prod m c r (fun f => ⟨4096 + f.val, by omega⟩) C := by
  unfold_out out0_15
  frame_out
  have hA := mm_point m c t (iblk m c 6 t) (fun f => ⟨4096 + f.val, by omega⟩) (blk6 m c t) r
  canon_tiles x h
  all_goals obtain ⟨r', l, rfl⟩ : ∃ (r' : Fin 32) (l : Fin 128), x = ix2 r' l := ⟨x 0, x 1, by ext a; fin_cases a <;> rfl⟩
  all_goals obtain rfl : r' = r := Fin.ext h0.symm
  case piece0 => exact plain_piece _ 896 slices_S32x1024_o0_896_S32x128 (by decide) _ _ l C hA h1
  case piece1 => exact plain_piece _ 768 slices_S32x1024_o0_768_S32x128 (by decide) _ _ l C hA h1
  case piece2 => exact plain_piece _ 640 slices_S32x1024_o0_640_S32x128 (by decide) _ _ l C hA h1
  case piece3 => exact plain_piece _ 512 slices_S32x1024_o0_512_S32x128 (by decide) _ _ l C hA h1
  case piece4 => exact plain_piece _ 384 slices_S32x1024_o0_384_S32x128 (by decide) _ _ l C hA h1
  case piece5 => exact plain_piece _ 256 slices_S32x1024_o0_256_S32x128 (by decide) _ _ l C hA h1
  case piece6 => exact plain_piece _ 128 slices_S32x1024_o0_128_S32x128 (by decide) _ _ l C hA h1
  case piece7 => exact plain_piece _ 0 slices_S32x1024_o0_0_S32x128 (by decide) _ _ l C hA (h1.trans (Nat.zero_add _).symm)

/-- The array of queries after the run is the reference's. -/
theorem final_q : (dats m 0 c).arrAt 11 cfg0.N
    = Cert.Reference8Ideal.Read.val_main_v124 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 11 _ (by decide +kernel) fun t hf y => ?_
  blk_simp
  rw [after0_11]
  idx_vars y
  have he : ((cfg0.win 11).blk t).view.emb (ix2 y0 y1) = (ix2 y0 y1 : S32x1024.Idx) := by
    blk_ext [idx t]
  refine Eq.trans ?_ (congrArg _ he).symm
  rw [ref_q]
  exact q_point m c t y0 y1

/-- The array of keys after the run is the reference's. -/
theorem final_k : (dats m 0 c).arrAt 12 cfg0.N
    = Cert.Reference8Ideal.Read.val_main_v125 (F := Ideal) (m ((c : Thread nD τ).loc main_arg0)) (m ((c : Thread nD τ).loc main_arg1))
        (m ((c : Thread nD τ).loc main_arg2)) (m ((c : Thread nD τ).loc main_arg4)) := by
  refine (dats m 0 c).arrAt_eq_of_covers 12 _ (by decide +kernel) fun t hf y => ?_
  blk_simp
  rw [after0_12]
  idx_vars y
  have he : ((cfg0.win 12).blk t).view.emb (ix2 y0 y1) = (ix2 y0 y1 : S32x1024.Idx) := by
    blk_ext [idx t]
  refine Eq.trans ?_ (congrArg _ he).symm
  rw [ref_k]
  exact k_point m c t y0 y1

/-- The array of values after the run is the reference's. -/
theorem final_v : (dats m 0 c).arrAt 13 cfg0.N
    = Cert.Reference8Ideal.Read.val_main_v126 (F := Ideal) (m ((c : Thread nD τ).loc main_arg0)) (m ((c : Thread nD τ).loc main_arg1))
        (m ((c : Thread nD τ).loc main_arg2)) := by
  refine (dats m 0 c).arrAt_eq_of_covers 13 _ (by decide +kernel) fun t hf y => ?_
  blk_simp
  rw [after0_13]
  idx_vars y
  have he : ((cfg0.win 13).blk t).view.emb (ix2 y0 y1) = (ix2 y0 y1 : S32x1024.Idx) := by
    blk_ext [idx t]
  refine Eq.trans ?_ (congrArg _ he).symm
  rw [ref_126]
  exact v_point m c t y0 y1

/-- The array of recurrence's inputs after the run is the reference's. -/
theorem final_xr : (dats m 0 c).arrAt 14 cfg0.N
    = Cert.Reference8Ideal.Read.val_main_v127 (F := Ideal) (m ((c : Thread nD τ).loc main_arg0)) (m ((c : Thread nD τ).loc main_arg1))
        (m ((c : Thread nD τ).loc main_arg2)) := by
  refine (dats m 0 c).arrAt_eq_of_covers 14 _ (by decide +kernel) fun t hf y => ?_
  blk_simp
  rw [after0_14]
  idx_vars y
  have he : ((cfg0.win 14).blk t).view.emb (ix2 y0 y1) = (ix2 y0 y1 : S32x1024.Idx) := by
    blk_ext [idx t]
  refine Eq.trans ?_ (congrArg _ he).symm
  rw [ref_127]
  exact xr_point m c t y0 y1

/-- The array of gates after the run is the reference's. -/
theorem final_yg : (dats m 0 c).arrAt 15 cfg0.N
    = Cert.Reference8Ideal.Read.val_main_v128 (F := Ideal) (m ((c : Thread nD τ).loc main_arg0)) (m ((c : Thread nD τ).loc main_arg1))
        (m ((c : Thread nD τ).loc main_arg2)) := by
  refine (dats m 0 c).arrAt_eq_of_covers 15 _ (by decide +kernel) fun t hf y => ?_
  blk_simp
  rw [after0_15]
  idx_vars y
  have he : ((cfg0.win 15).blk t).view.emb (ix2 y0 y1) = (ix2 y0 y1 : S32x1024.Idx) := by
    blk_ext [idx t]
  refine Eq.trans ?_ (congrArg _ he).symm
  rw [ref_128]
  exact yg_point m c t y0 y1

end Cert.Kernel8Ideal.In
-- ==== Proof.InSSample.lean ====
module

public import proofs.«01_k».proof.Proof.InMath
public import proofs.«01_k».proof.Proof.Gen.Kernel9Ideal.Value
public import proofs.«01_k».proof.Proof.Gen.Reference9Ideal.Read
public import Idealize.ShloMosaic.Lib.Pointwise
public import Idealize.ShloMosaic.Lib.Pipeline.ValueKit

@[expose] public section

set_option maxRecDepth 16384

noncomputable section

namespace Cert.Kernel9Ideal.In

open Cert.Kernel9Ideal Cert.Kernel9Ideal.Gen Idealize.ShloMosaic Idealize.ShloMosaic.TcCoe Idealize.SL.Sem Cert.InMath
open Idealize.ShloMosaic.Pipeline (Dat)

open Cert.Reference9Ideal.Read in
/-- The reference at an index. -/
theorem ref_at (x : FVec Ideal S32x1x2048 .f32) (g : FVec Ideal S2x2048 .f32) (w : FVec Ideal S1x2048x10304 .f32)
    (s : Fin 48) (R : Fin 32) (l : Fin 128) :
    val_main_v21 (F := Ideal) x g w (ix3 s R l)
      = dot (fun k => x (ix3 R 0 k)) (fun k => g (ix2 1 k))
          (fun k => w (ix3 0 k ⟨4096 + (s.val * 128 + l.val), by omega⟩)) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_v19, val_main_v20, val_main_v21]
  rfl

/-- A piece of a product's tile as the body stores it, at an index. -/
theorem piece_at (A : FVec Ideal S32x1024 .f32) (o : ℕ) (hs : S32x1024.Slices ![0, o] S32x128) (ho : o + 128 ≤ 1024)
    (r : Fin 32) (l : Fin 128) :
    shapeCast S1x32x128 (extractStridedSlice S32x128 ![0, o] A hs) shapeCasts_S32x128_S1x32x128 (ix3 0 r l) = A (ix2 r ⟨o + l.val, by omega⟩) := by
  pointwise []

/-- The product payload over normalised rows at an index. -/
theorem mm_at (x : FVec Ideal S32x2048 .f32) (g : FVec Ideal S1x2048 .f32) (w : FVec Ideal S1x2048x1024 .bf16) (r : Fin 32) (f : Fin 1024) :
    k0_pay16 (F := Ideal) (k0_pay5 x g) w (ix2 r f) = dot (fun k => x (ix2 r k)) (fun k => g (ix2 0 k)) (fun k => w (ix3 0 k f)) := by
  pointwise [k0_pay16, k0_pay5]
  rfl

variable (m : (ℓ : Loc nD τ sig) → Buf (Elt Ideal) ℓ) (c : Dev nD)

/-- Where each window's block lies at a point. -/
theorem idx : ∀ t : Fin cfg0.N, win0_0.index t = ![0, 0] ∧ win0_1.index t = ![0, 0] ∧ win0_2.index t = ![0, 0, 4]
    ∧ win0_3.index t = ![0, 0, 5] ∧ win0_4.index t = ![0, 0, 6] ∧ win0_5.index t = ![0, 0, 7] ∧ win0_6.index t = ![0, 0, 8]
    ∧ win0_7.index t = ![0, 0, 9] ∧ win0_8.index t = ![0, 0, 0] :=
  (by decide +kernel : ∀ t : Fin grid0.N, win0_0.index t = ![0, 0] ∧ win0_1.index t = ![0, 0] ∧ win0_2.index t = ![0, 0, 4]
    ∧ win0_3.index t = ![0, 0, 5] ∧ win0_4.index t = ![0, 0, 6] ∧ win0_5.index t = ![0, 0, 7] ∧ win0_6.index t = ![0, 0, 8]
    ∧ win0_7.index t = ![0, 0, 9] ∧ win0_8.index t = ![0, 0, 0])

/-- The reference's row that row `r` of the block is. -/
abbrev row (r : Fin 32) (k : Fin 2048) : EReal := m ((c : Thread nD τ).loc main_arg0) (ix3 r 0 k)

/-- The block of input rows at a point. -/
theorem blk0 (t : Fin cfg0.N) (r : Fin 32) (k : Fin 2048) :
    (show FVec Ideal S32x2048 .f32 from iblk m c 0 t) (ix2 r k) = row m c r k := by
  blk_point [iblk, V, idx t]

/-- The norm's weights at a point. -/
theorem blk1 (t : Fin cfg0.N) (k : Fin 2048) :
    (show FVec Ideal S1x2048 .f32 from iblk m c 1 t) (ix2 0 k) = m ((c : Thread nD τ).loc main_arg1) (ix2 1 k) := by
  blk_point [iblk, V, idx t]

/-- The weight tile 0 at a point. -/
theorem blk2 (t : Fin cfg0.N) (k : Fin 2048) (f : Fin 1024) :
    (show FVec Ideal S1x2048x1024 .bf16 from X0_2 m c t) (ix3 0 k f)
      = m ((c : Thread nD τ).loc main_arg2) (ix3 0 k ⟨4096 + (0 * 1024 + f.val), by omega⟩) := by
  unfold X0_2 Pipeline.Window.fill
  dsimp only
  rw [dif_pos (moved0_2 t _)]
  blk_point [iblk, V, idx t]

/-- A weight tile 1 at a point. -/
theorem blk3 (t : Fin cfg0.N) (k : Fin 2048) (f : Fin 1024) :
    (show FVec Ideal S1x2048x1024 .bf16 from X0_3 m c t) (ix3 0 k f)
      = m ((c : Thread nD τ).loc main_arg2) (ix3 0 k ⟨4096 + (1 * 1024 + f.val), by omega⟩) := by
  unfold X0_3 Pipeline.Window.fill
  dsimp only
  rw [dif_pos (moved0_3 t _)]
  blk_point [iblk, V, idx t]

/-- A weight tile 2 at a point. -/
theorem blk4 (t : Fin cfg0.N) (k : Fin 2048) (f : Fin 1024) :
    (show FVec Ideal S1x2048x1024 .bf16 from X0_4 m c t) (ix3 0 k f)
      = m ((c : Thread nD τ).loc main_arg2) (ix3 0 k ⟨4096 + (2 * 1024 + f.val), by omega⟩) := by
  unfold X0_4 Pipeline.Window.fill
  dsimp only
  rw [dif_pos (moved0_4 t _)]
  blk_point [iblk, V, idx t]

/-- A weight tile 3 at a point. -/
theorem blk5 (t : Fin cfg0.N) (k : Fin 2048) (f : Fin 1024) :
    (show FVec Ideal S1x2048x1024 .bf16 from X0_5 m c t) (ix3 0 k f)
      = m ((c : Thread nD τ).loc main_arg2) (ix3 0 k ⟨4096 + (3 * 1024 + f.val), by omega⟩) := by
  unfold X0_5 Pipeline.Window.fill
  dsimp only
  rw [dif_pos (moved0_5 t _)]
  blk_point [iblk, V, idx t]

/-- A weight tile 4 at a point. -/
theorem blk6 (t : Fin cfg0.N) (k : Fin 2048) (f : Fin 1024) :
    (show FVec Ideal S1x2048x1024 .bf16 from X0_6 m c t) (ix3 0 k f)
      = m ((c : Thread nD τ).loc main_arg2) (ix3 0 k ⟨4096 + (4 * 1024 + f.val), by omega⟩) := by
  unfold X0_6 Pipeline.Window.fill
  dsimp only
  rw [dif_pos (moved0_6 t _)]
  blk_point [iblk, V, idx t]

/-- A weight tile 5 at a point. -/
theorem blk7 (t : Fin cfg0.N) (k : Fin 2048) (f : Fin 1024) :
    (show FVec Ideal S1x2048x1024 .bf16 from X0_7 m c t) (ix3 0 k f)
      = m ((c : Thread nD τ).loc main_arg2) (ix3 0 k ⟨4096 + (5 * 1024 + f.val), by omega⟩) := by
  unfold X0_7 Pipeline.Window.fill
  dsimp only
  rw [dif_pos (moved0_7 t _)]
  blk_point [iblk, V, idx t]

/-- Entry `n` of the row's product with the weights' columns from the gate's on. -/
abbrev out (r : Fin 32) (n : Fin 6144) : EReal :=
  dot (row m c r) (fun k => m ((c : Thread nD τ).loc main_arg1) (ix2 1 k))
    (fun k => m ((c : Thread nD τ).loc main_arg2) (ix3 0 k ⟨4096 + n.val, by omega⟩))

/-- The product of a point's rows with a tile holding the columns from `4096 + j * 1024` on. -/
theorem prod (t : Fin cfg0.N) (w : FVec Ideal S1x2048x1024 .bf16) (j : ℕ) (hj : j < 6)
    (hw : ∀ (k : Fin 2048) (f : Fin 1024), w (ix3 0 k f) = m ((c : Thread nD τ).loc main_arg2) (ix3 0 k ⟨4096 + (j * 1024 + f.val), by omega⟩))
    (r : Fin 32) (f : Fin 1024) :
    k0_pay16 (F := Ideal) (k0_pay5 (show FVec Ideal S32x2048 .f32 from iblk m c 0 t) (show FVec Ideal S1x2048 .f32 from iblk m c 1 t)) w (ix2 r f)
      = out m c r ⟨j * 1024 + f.val, by omega⟩ := by
  rw [mm_at]
  simp only [blk0 m c t, blk1 m c t, hw]

/-- A stored piece: 128 columns of a product's tile, at the slab they belong to. -/
theorem piece (A : FVec Ideal S32x1024 .f32) (j : ℕ) (hj : j < 6)
    (hA : ∀ (r : Fin 32) (f : Fin 1024), A (ix2 r f) = out m c r ⟨j * 1024 + f.val, by omega⟩)
    (o : ℕ) (hs : S32x1024.Slices ![0, o] S32x128) (ho : o + 128 ≤ 1024) (s : Fin 48) (r : Fin 32) (l : Fin 128) (x : S1x32x128.Idx)
    (n : ℕ) (hn : n * 128 = j * 1024 + o) (h0 : s.val = n + (x 0).val) (x0_lt : (x 0).val < 1) (h1 : r.val = (x 1).val) (h2 : l.val = (x 2).val) :
    shapeCast S1x32x128 (extractStridedSlice S32x128 ![0, o] A hs) shapeCasts_S32x128_S1x32x128 x = out m c r ⟨s.val * 128 + l.val, by omega⟩ := by
  obtain ⟨z, r', l', rfl⟩ : ∃ (z : Fin 1) (r' : Fin 32) (l' : Fin 128), x = ix3 z r' l' := ⟨x 0, x 1, x 2, by ext a; fin_cases a <;> rfl⟩
  obtain rfl : z = 0 := Subsingleton.elim _ _
  obtain rfl : r = r' := Fin.ext h1
  obtain rfl : l = l' := Fin.ext h2
  rw [piece_at A o hs ho, hA]
  have e : j * 1024 + (o + l.val) = s.val * 128 + l.val := by
    have h0' : s.val = n := h0
    omega
  exact congrArg (out m c r) (Fin.ext e)

set_option maxHeartbeats 4000000 in
/-- The stored block at an index. -/
theorem point (t : Fin cfg0.N) (s : Fin 48) (r : Fin 32) (l : Fin 128) :
    outsAt0 m c t (ix3 s r l) = out m c r ⟨s.val * 128 + l.val, by omega⟩ := by
  unfold outsAt0
  frame_out
  canon_tiles x h
  case piece0 => exact piece m c _ 5 (by decide) (prod m c t _ 5 (by decide) (blk7 m c t)) 896 slices_S32x1024_o0_896_S32x128 (by decide) s r l x 47 rfl h0 x0_lt h1 h2
  case piece1 => exact piece m c _ 5 (by decide) (prod m c t _ 5 (by decide) (blk7 m c t)) 768 slices_S32x1024_o0_768_S32x128 (by decide) s r l x 46 rfl h0 x0_lt h1 h2
  case piece2 => exact piece m c _ 5 (by decide) (prod m c t _ 5 (by decide) (blk7 m c t)) 640 slices_S32x1024_o0_640_S32x128 (by decide) s r l x 45 rfl h0 x0_lt h1 h2
  case piece3 => exact piece m c _ 5 (by decide) (prod m c t _ 5 (by decide) (blk7 m c t)) 512 slices_S32x1024_o0_512_S32x128 (by decide) s r l x 44 rfl h0 x0_lt h1 h2
  case piece4 => exact piece m c _ 5 (by decide) (prod m c t _ 5 (by decide) (blk7 m c t)) 384 slices_S32x1024_o0_384_S32x128 (by decide) s r l x 43 rfl h0 x0_lt h1 h2
  case piece5 => exact piece m c _ 5 (by decide) (prod m c t _ 5 (by decide) (blk7 m c t)) 256 slices_S32x1024_o0_256_S32x128 (by decide) s r l x 42 rfl h0 x0_lt h1 h2
  case piece6 => exact piece m c _ 5 (by decide) (prod m c t _ 5 (by decide) (blk7 m c t)) 128 slices_S32x1024_o0_128_S32x128 (by decide) s r l x 41 rfl h0 x0_lt h1 h2
  case piece7 => exact piece m c _ 5 (by decide) (prod m c t _ 5 (by decide) (blk7 m c t)) 0 slices_S32x1024_o0_0_S32x128 (by decide) s r l x 40 rfl h0 x0_lt h1 h2
  case piece8 => exact piece m c _ 4 (by decide) (prod m c t _ 4 (by decide) (blk6 m c t)) 896 slices_S32x1024_o0_896_S32x128 (by decide) s r l x 39 rfl h0 x0_lt h1 h2
  case piece9 => exact piece m c _ 4 (by decide) (prod m c t _ 4 (by decide) (blk6 m c t)) 768 slices_S32x1024_o0_768_S32x128 (by decide) s r l x 38 rfl h0 x0_lt h1 h2
  case piece10 => exact piece m c _ 4 (by decide) (prod m c t _ 4 (by decide) (blk6 m c t)) 640 slices_S32x1024_o0_640_S32x128 (by decide) s r l x 37 rfl h0 x0_lt h1 h2
  case piece11 => exact piece m c _ 4 (by decide) (prod m c t _ 4 (by decide) (blk6 m c t)) 512 slices_S32x1024_o0_512_S32x128 (by decide) s r l x 36 rfl h0 x0_lt h1 h2
  case piece12 => exact piece m c _ 4 (by decide) (prod m c t _ 4 (by decide) (blk6 m c t)) 384 slices_S32x1024_o0_384_S32x128 (by decide) s r l x 35 rfl h0 x0_lt h1 h2
  case piece13 => exact piece m c _ 4 (by decide) (prod m c t _ 4 (by decide) (blk6 m c t)) 256 slices_S32x1024_o0_256_S32x128 (by decide) s r l x 34 rfl h0 x0_lt h1 h2
  case piece14 => exact piece m c _ 4 (by decide) (prod m c t _ 4 (by decide) (blk6 m c t)) 128 slices_S32x1024_o0_128_S32x128 (by decide) s r l x 33 rfl h0 x0_lt h1 h2
  case piece15 => exact piece m c _ 4 (by decide) (prod m c t _ 4 (by decide) (blk6 m c t)) 0 slices_S32x1024_o0_0_S32x128 (by decide) s r l x 32 rfl h0 x0_lt h1 h2
  case piece16 => exact piece m c _ 3 (by decide) (prod m c t _ 3 (by decide) (blk5 m c t)) 896 slices_S32x1024_o0_896_S32x128 (by decide) s r l x 31 rfl h0 x0_lt h1 h2
  case piece17 => exact piece m c _ 3 (by decide) (prod m c t _ 3 (by decide) (blk5 m c t)) 768 slices_S32x1024_o0_768_S32x128 (by decide) s r l x 30 rfl h0 x0_lt h1 h2
  case piece18 => exact piece m c _ 3 (by decide) (prod m c t _ 3 (by decide) (blk5 m c t)) 640 slices_S32x1024_o0_640_S32x128 (by decide) s r l x 29 rfl h0 x0_lt h1 h2
  case piece19 => exact piece m c _ 3 (by decide) (prod m c t _ 3 (by decide) (blk5 m c t)) 512 slices_S32x1024_o0_512_S32x128 (by decide) s r l x 28 rfl h0 x0_lt h1 h2
  case piece20 => exact piece m c _ 3 (by decide) (prod m c t _ 3 (by decide) (blk5 m c t)) 384 slices_S32x1024_o0_384_S32x128 (by decide) s r l x 27 rfl h0 x0_lt h1 h2
  case piece21 => exact piece m c _ 3 (by decide) (prod m c t _ 3 (by decide) (blk5 m c t)) 256 slices_S32x1024_o0_256_S32x128 (by decide) s r l x 26 rfl h0 x0_lt h1 h2
  case piece22 => exact piece m c _ 3 (by decide) (prod m c t _ 3 (by decide) (blk5 m c t)) 128 slices_S32x1024_o0_128_S32x128 (by decide) s r l x 25 rfl h0 x0_lt h1 h2
  case piece23 => exact piece m c _ 3 (by decide) (prod m c t _ 3 (by decide) (blk5 m c t)) 0 slices_S32x1024_o0_0_S32x128 (by decide) s r l x 24 rfl h0 x0_lt h1 h2
  case piece24 => exact piece m c _ 2 (by decide) (prod m c t _ 2 (by decide) (blk4 m c t)) 896 slices_S32x1024_o0_896_S32x128 (by decide) s r l x 23 rfl h0 x0_lt h1 h2
  case piece25 => exact piece m c _ 2 (by decide) (prod m c t _ 2 (by decide) (blk4 m c t)) 768 slices_S32x1024_o0_768_S32x128 (by decide) s r l x 22 rfl h0 x0_lt h1 h2
  case piece26 => exact piece m c _ 2 (by decide) (prod m c t _ 2 (by decide) (blk4 m c t)) 640 slices_S32x1024_o0_640_S32x128 (by decide) s r l x 21 rfl h0 x0_lt h1 h2
  case piece27 => exact piece m c _ 2 (by decide) (prod m c t _ 2 (by decide) (blk4 m c t)) 512 slices_S32x1024_o0_512_S32x128 (by decide) s r l x 20 rfl h0 x0_lt h1 h2
  case piece28 => exact piece m c _ 2 (by decide) (prod m c t _ 2 (by decide) (blk4 m c t)) 384 slices_S32x1024_o0_384_S32x128 (by decide) s r l x 19 rfl h0 x0_lt h1 h2
  case piece29 => exact piece m c _ 2 (by decide) (prod m c t _ 2 (by decide) (blk4 m c t)) 256 slices_S32x1024_o0_256_S32x128 (by decide) s r l x 18 rfl h0 x0_lt h1 h2
  case piece30 => exact piece m c _ 2 (by decide) (prod m c t _ 2 (by decide) (blk4 m c t)) 128 slices_S32x1024_o0_128_S32x128 (by decide) s r l x 17 rfl h0 x0_lt h1 h2
  case piece31 => exact piece m c _ 2 (by decide) (prod m c t _ 2 (by decide) (blk4 m c t)) 0 slices_S32x1024_o0_0_S32x128 (by decide) s r l x 16 rfl h0 x0_lt h1 h2
  case piece32 => exact piece m c _ 1 (by decide) (prod m c t _ 1 (by decide) (blk3 m c t)) 896 slices_S32x1024_o0_896_S32x128 (by decide) s r l x 15 rfl h0 x0_lt h1 h2
  case piece33 => exact piece m c _ 1 (by decide) (prod m c t _ 1 (by decide) (blk3 m c t)) 768 slices_S32x1024_o0_768_S32x128 (by decide) s r l x 14 rfl h0 x0_lt h1 h2
  case piece34 => exact piece m c _ 1 (by decide) (prod m c t _ 1 (by decide) (blk3 m c t)) 640 slices_S32x1024_o0_640_S32x128 (by decide) s r l x 13 rfl h0 x0_lt h1 h2
  case piece35 => exact piece m c _ 1 (by decide) (prod m c t _ 1 (by decide) (blk3 m c t)) 512 slices_S32x1024_o0_512_S32x128 (by decide) s r l x 12 rfl h0 x0_lt h1 h2
  case piece36 => exact piece m c _ 1 (by decide) (prod m c t _ 1 (by decide) (blk3 m c t)) 384 slices_S32x1024_o0_384_S32x128 (by decide) s r l x 11 rfl h0 x0_lt h1 h2
  case piece37 => exact piece m c _ 1 (by decide) (prod m c t _ 1 (by decide) (blk3 m c t)) 256 slices_S32x1024_o0_256_S32x128 (by decide) s r l x 10 rfl h0 x0_lt h1 h2
  case piece38 => exact piece m c _ 1 (by decide) (prod m c t _ 1 (by decide) (blk3 m c t)) 128 slices_S32x1024_o0_128_S32x128 (by decide) s r l x 9 rfl h0 x0_lt h1 h2
  case piece39 => exact piece m c _ 1 (by decide) (prod m c t _ 1 (by decide) (blk3 m c t)) 0 slices_S32x1024_o0_0_S32x128 (by decide) s r l x 8 rfl h0 x0_lt h1 h2
  case piece40 => exact piece m c _ 0 (by decide) (prod m c t _ 0 (by decide) (blk2 m c t)) 896 slices_S32x1024_o0_896_S32x128 (by decide) s r l x 7 rfl h0 x0_lt h1 h2
  case piece41 => exact piece m c _ 0 (by decide) (prod m c t _ 0 (by decide) (blk2 m c t)) 768 slices_S32x1024_o0_768_S32x128 (by decide) s r l x 6 rfl h0 x0_lt h1 h2
  case piece42 => exact piece m c _ 0 (by decide) (prod m c t _ 0 (by decide) (blk2 m c t)) 640 slices_S32x1024_o0_640_S32x128 (by decide) s r l x 5 rfl h0 x0_lt h1 h2
  case piece43 => exact piece m c _ 0 (by decide) (prod m c t _ 0 (by decide) (blk2 m c t)) 512 slices_S32x1024_o0_512_S32x128 (by decide) s r l x 4 rfl h0 x0_lt h1 h2
  case piece44 => exact piece m c _ 0 (by decide) (prod m c t _ 0 (by decide) (blk2 m c t)) 384 slices_S32x1024_o0_384_S32x128 (by decide) s r l x 3 rfl h0 x0_lt h1 h2
  case piece45 => exact piece m c _ 0 (by decide) (prod m c t _ 0 (by decide) (blk2 m c t)) 256 slices_S32x1024_o0_256_S32x128 (by decide) s r l x 2 rfl h0 x0_lt h1 h2
  case piece46 => exact piece m c _ 0 (by decide) (prod m c t _ 0 (by decide) (blk2 m c t)) 128 slices_S32x1024_o0_128_S32x128 (by decide) s r l x 1 rfl h0 x0_lt h1 h2
  case piece47 => exact piece m c _ 0 (by decide) (prod m c t _ 0 (by decide) (blk2 m c t)) 0 slices_S32x1024_o0_0_S32x128 (by decide) s r l x 0 rfl (h0.trans (Nat.zero_add _).symm) x0_lt h1 h2

/-- The slabs after the run are the reference's. -/
theorem final : (dats m 0 c).arrAt 8 cfg0.N = Cert.Reference9Ideal.Read.val_main_v21 (F := Ideal) (m ((c : Thread nD τ).loc main_arg0))
    (m ((c : Thread nD τ).loc main_arg1)) (m ((c : Thread nD τ).loc main_arg2)) := by
  refine (dats m 0 c).arrAt_eq_of_covers 8 _ (by decide +kernel) fun t hf y => ?_
  blk_simp
  rw [after0_8]
  idx_vars y
  have he : ((cfg0.win 8).blk t).view.emb (ix3 y0 y1 y2) = (ix3 y0 y1 y2 : S48x32x128.Idx) := by
    blk_ext [idx t]
  refine Eq.trans ?_ (congrArg _ he).symm
  rw [ref_at]
  exact point m c t y0 y1 y2

end Cert.Kernel9Ideal.In
-- ==== Proof.MlpSample.lean ====
module

public import proofs.«01_k».proof.Proof.Gen.Kernel10Ideal.Value
public import proofs.«01_k».proof.Proof.Gen.Reference10Ideal.Read
public import Idealize.ShloMosaic.Lib.Pointwise
public import Idealize.ShloMosaic.Lib.Pipeline.ValueKit

@[expose] public section

set_option maxRecDepth 16384

noncomputable section

/-! The feed-forward call over the sample batch: its accumulated tile products against the reference's two products. -/

namespace Cert.Kernel10Ideal.Mlp

open Cert.Kernel10Ideal Cert.Kernel10Ideal.Gen Idealize.ShloMosaic Idealize.ShloMosaic.TcCoe Idealize.SL.Sem
open Idealize.ShloMosaic.Pipeline (Dat)

/-- One entry of the normalised row: the row's entry times the reciprocal root of its mean square plus epsilon, times the weight. -/
def nrm (x : Fin 2048 → EReal) (g : EReal) (k : Fin 2048) : EReal :=
  x k * Ideal.rsqrt (Ideal.div (∑ l, x l * x l) (Ideal.ofBits FTy.f32 1157627904#32) + Ideal.ofBits FTy.f32 897988541#32) * g

/-- The squared positive part. -/
def sqr (s : EReal) : EReal := max s 0 * max s 0

/-- The first payload passes its block on. -/
theorem pay1_at (x : FVec Ideal S32x2048 .f32) (j) : k0_pay1 (F := Ideal) x j = x j := by pointwise [k0_pay1]

/-- The normalising payload at an index. -/
theorem pay2_at (x : FVec Ideal S32x2048 .f32) (g : FVec Ideal S1x2048 .f32) (r : Fin 32) (l : Fin 2048) :
    k0_pay2 (F := Ideal) x g (ix2 r l) = nrm (fun k => x (ix2 r k)) (g (ix2 0 l)) l := by
  pointwise [k0_pay2, k0_pay1]
  rfl

/-- The accumulating payload at an index: what was there plus one tile of hidden columns. -/
theorem pay3_at (xn : FVec Ideal S32x2048 .bf16) (u : FVec Ideal S1x2048x1024 .bf16) (acc : FVec Ideal S32x2048 .f32)
    (d : FVec Ideal S1x1024x2048 .bf16) (r : Fin 32) (l : Fin 2048) :
    k0_pay3 (F := Ideal) xn u acc d (ix2 r l)
      = acc (ix2 r l) + ∑ f : Fin 1024, sqr (∑ k : Fin 2048, xn (ix2 r k) * u (ix3 0 k f)) * d (ix3 0 f l) := by
  pointwise [k0_pay3]
  rfl

open Cert.Reference10Ideal.Read in
/-- The reference at an index. -/
theorem ref_at (x : FVec Ideal S32x1x2048 .f32) (g : FVec Ideal S2x2048 .f32) (u : FVec Ideal S2x2048x8192 .f32)
    (d : FVec Ideal S2x8192x2048 .f32) (r : Fin 32) (l : Fin 2048) :
    val_main_v24 (F := Ideal) x g u d (ix2 r l)
      = x (ix3 r 0 l)
        + ∑ f : Fin 8192, sqr (∑ k : Fin 2048, nrm (fun k => x (ix3 r 0 k)) (g (ix2 1 k)) k
            * u (ix3 1 k f)) * d (ix3 1 f l) := by
  pointwise [val_main_cst, val_main_cst_0, val_main_cst_1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_call0_cst, val_main_call0_v0]
  rfl

variable (m : (ℓ : Loc nD τ sig) → Buf (Elt Ideal) ℓ) (c : Dev nD)

/-- Where each window's block lies at a point. -/
theorem idx : ∀ t : Fin cfg0.N, win0_0.index t = ![0, 0] ∧ win0_1.index t = ![0, 0] ∧ win0_2.index t = ![1, 0, t.val % 8]
    ∧ win0_3.index t = ![1, t.val % 8, 0] ∧ win0_4.index t = ![0, 0] :=
  (by decide +kernel : ∀ t : Fin grid0.N, win0_0.index t = ![0, 0] ∧ win0_1.index t = ![0, 0] ∧ win0_2.index t = ![1, 0, t.val % 8]
    ∧ win0_3.index t = ![1, t.val % 8, 0] ∧ win0_4.index t = ![0, 0])

/-- The reference's row that row `r` of the block is. -/
abbrev row (r : Fin 32) (k : Fin 2048) : EReal := m ((c : Thread nD τ).loc main_arg0) (ix3 r 0 k)

/-- The input block at a point. -/
theorem blk0 (t : Fin cfg0.N) (r : Fin 32) (k : Fin 2048) :
    (show FVec Ideal S32x2048 .f32 from iblk m c 0 t) (ix2 r k) = row m c r k := by
  blk_point [iblk, V, idx t]

/-- The weight block at a point. -/
theorem blk1 (t : Fin cfg0.N) (k : Fin 2048) :
    (show FVec Ideal S1x2048 .f32 from iblk m c 1 t) (ix2 0 k) = m ((c : Thread nD τ).loc main_arg1) (ix2 1 k) := by
  blk_point [iblk, V, idx t]

/-- The tile of the first product's weights at a point. -/
theorem blk2 (t : Fin cfg0.N) (k : Fin 2048) (f : Fin 1024) :
    (show FVec Ideal S1x2048x1024 .bf16 from iblk m c 2 t) (ix3 0 k f)
      = m ((c : Thread nD τ).loc main_arg2) (ix3 1 k ⟨t.val % 8 * 1024 + f, by omega⟩) := by
  blk_point [iblk, V, idx t]

/-- The tile of the second product's weights at a point. -/
theorem blk3 (t : Fin cfg0.N) (f : Fin 1024) (l : Fin 2048) :
    (show FVec Ideal S1x1024x2048 .bf16 from iblk m c 3 t) (ix3 0 f l)
      = m ((c : Thread nD τ).loc main_arg3) (ix3 1 ⟨t.val % 8 * 1024 + f, by omega⟩ l) := by
  blk_point [iblk, V, idx t]

/-- At the first point of a run the scratch is filled with the normalised rows. -/
theorem scrA (t : Fin cfg0.N) (h0 : t.val % 8 = 0) (r : Fin 32) (k : Fin 2048) :
    (outsAt0 m c t.val t.isLt).2 (ix2 r k) = nrm (row m c r) (m ((c : Thread nD τ).loc main_arg1) (ix2 1 k)) k := by
  rw [outsAt0_A m c t h0]
  frame_out
  rw [pay2_at]
  exact congrArg₂ (fun a b => nrm a b k) (funext (blk0 m c t r)) (blk1 m c t k)

/-- At the other points the scratch is kept. -/
theorem scrB (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- The carried scratch holds the normalised rows of the point's block. -/
theorem scr (n : ℕ) : ∀ h : n < cfg0.N, ∀ (r : Fin 32) (k : Fin 2048),
    (outsAt0 m c n h).2 (ix2 r k) = nrm (row m c r) (m ((c : Thread nD τ).loc main_arg1) (ix2 1 k)) k := by
  induction n with
  | zero => exact fun h r k => scrA m c ⟨0, h⟩ rfl r k
  | succ n ih =>
    intro h r k
    by_cases h0 : (n + 1) % 8 = 0
    · exact scrA m c ⟨n + 1, h⟩ h0 r k
    · have h1 := congrFun (scrB m c ⟨n + 1, h⟩ h0) (ix2 r k)
      rw [h1]
      exact ih (Nat.lt_of_succ_lt h) r k

/-- One point's part of the accumulated block. -/
def part (t : Fin cfg0.N) (r : Fin 32) (l : Fin 2048) : EReal :=
  ∑ f : Fin 1024, sqr (∑ k : Fin 2048, nrm (row m c r) (m ((c : Thread nD τ).loc main_arg1) (ix2 1 k)) k
    * m ((c : Thread nD τ).loc main_arg2) (ix3 1 k ⟨t.val % 8 * 1024 + f, by omega⟩))
    * m ((c : Thread nD τ).loc main_arg3) (ix3 1 ⟨t.val % 8 * 1024 + f, by omega⟩ l)

/-- The accumulating payload over a scratch of normalised rows adds the point's part. -/
theorem pay3_part (t : Fin cfg0.N) (xn : FVec Ideal S32x2048 .bf16) (acc : FVec Ideal S32x2048 .f32) (r : Fin 32) (l : Fin 2048)
    (hs : ∀ k, xn (ix2 r k) = nrm (row m c r) (m ((c : Thread nD τ).loc main_arg1) (ix2 1 k)) k) :
    k0_pay3 (F := Ideal) xn (iblk m c 2 t) acc (iblk m c 3 t) (ix2 r l) = acc (ix2 r l) + part m c t r l := by
  rw [pay3_at]
  unfold part
  refine congrArg₂ (· + ·) rfl (Finset.sum_congr rfl fun f _ => congrArg₂ (· * ·) (congrArg sqr ?_) (blk3 m c t f l))
  exact Finset.sum_congr rfl fun k _ => congrArg₂ (· * ·) (hs k) (blk2 m c t k f)

/-- What the body leaves at the first point of a run: the block itself plus the point's part. -/
theorem accA (t : Fin cfg0.N) (h0 : t.val % 8 = 0) (r : Fin 32) (l : Fin 2048) :
    (outsAt0 m c t.val t.isLt).1 (ix2 r l) = row m c r l + part m c t r l := by
  rw [outsAt0_A m c t h0]
  frame_out
  refine (pay3_part m c t _ _ r l fun k => ?_).trans (congrArg₂ (· + ·) ?_ rfl)
  · rw [pay2_at]
    exact congrArg₂ (fun a b => nrm a b k) (funext (blk0 m c t r)) (blk1 m c t k)
  · rw [pay1_at]
    exact blk0 m c t r l

/-- What the body leaves at another point: what was there plus the point's part. -/
theorem accB (t : Fin cfg0.N) (h0 : ¬t.val % 8 = 0) (r : Fin 32) (l : Fin 2048) :
    (outsAt0 m c t.val t.isLt).1 (ix2 r l)
      = (outsAt0 m c (t.val - 1) (Nat.lt_of_le_of_lt (Nat.sub_le _ _) t.isLt)).1 (ix2 r l) + part m c t r l := by
  have hs : ∀ k, (outsAt0 m c (t.val - 1) (Nat.lt_of_le_of_lt (Nat.sub_le _ _) t.isLt)).2 (ix2 r k)
      = nrm (row m c r) (m ((c : Thread nD τ).loc main_arg1) (ix2 1 k)) k := fun k => by
    rw [← congrFun (scrB m c t h0) (ix2 r k)]
    exact scr m c t.val t.isLt r k
  rw [outsAt0_B m c t h0]
  frame_out
  exact pay3_part m c t _ _ r l fun k => (congrFun ((Memref.isWhole_whole cc0_scratch0).read_unread _) _).trans (hs k)

/-- At the point that writes back: the row plus the parts of its run. -/
theorem acc_at (t : Fin cfg0.N) (hf : t.val % 8 = 7) (r : Fin 32) (l : Fin 2048) :
    (outsAt0 m c t.val t.isLt).1 (ix2 r l)
      = row m c r l + ∑ s : Fin 8, part m c ⟨8 * (t.val / 8) + s, Pipeline.run_point_lt_of_flush t hf s⟩ r l := by
  have h := Pipeline.eq_sum_fin_of_reset_step_apply_of_flush (ι := Fin 32 × Fin 2048) (M := EReal)
    (fun n h p => (outsAt0 m c n h).1 (ix2 p.1 p.2)) 8 (fun _ => 0)
    (fun t p => (if t.val % 8 = 0 then row m c p.1 p.2 else 0) + part m c t p.1 p.2)
    (fun t h p => by simp only [if_pos h, zero_add]; exact accA m c t h p.1 p.2)
    (fun t h p => by simp only [if_neg h, zero_add]; exact accB m c t h p.1 p.2) t hf (r, l)
  refine h.trans ?_
  simp only [zero_add]
  rw [Finset.sum_add_distrib]
  refine congrArg₂ (· + ·) ?_ rfl
  rw [Finset.sum_eq_single (0 : Fin 8)]
  · rw [if_pos (by simp)]
  · intro s _ hs
    refine if_neg ?_
    have h1 : (s : ℕ) ≠ 0 := fun h => hs (Fin.ext h)
    show ¬(8 * (t.val / 8) + (s : ℕ)) % 8 = 0
    omega
  · exact fun h => absurd (Finset.mem_univ _) h

/-- The run's parts are the reference's sum over all hidden columns. -/
theorem parts_eq (t : Fin cfg0.N) (hf : t.val % 8 = 7) (r : Fin 32) (l : Fin 2048) :
    ∑ s : Fin 8, part m c ⟨8 * (t.val / 8) + s, Pipeline.run_point_lt_of_flush t hf s⟩ r l
      = ∑ f : Fin 8192, sqr (∑ k : Fin 2048, nrm (row m c r) (m ((c : Thread nD τ).loc main_arg1) (ix2 1 k)) k
          * m ((c : Thread nD τ).loc main_arg2) (ix3 1 k f)) * m ((c : Thread nD τ).loc main_arg3) (ix3 1 f l) := by
  unfold part
  refine Fin.sum_mul_add_congr fun s f hl => ?_
  have e : ∀ h, (⟨(8 * (t.val / 8) + (s : ℕ)) % 8 * 1024 + f, h⟩ : Fin 8192) = ⟨s * 1024 + f, hl⟩ := fun h => Fin.ext (by
    show (8 * (t.val / 8) + (s : ℕ)) % 8 * 1024 + (f : ℕ) = s * 1024 + f
    omega)
  simp only [e]

/-- The result array after the run is the reference's. -/
theorem final : (dats m 0 c).arrAt 4 cfg0.N
    = Cert.Reference10Ideal.Read.val_main_v24 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have h7 := (flush0_4 t).mp hf
  blk_simp
  rw [after0_4]
  idx_vars y
  rw [acc_at m c t h7, parts_eq m c t h7]
  have he : ((cfg0.win 4).blk t).view.emb (ix2 y0 y1)
      = (ix2 y0 y1 : S32x2048.Idx) := by
    blk_ext [idx t]
  refine Eq.trans ?_ (congrArg _ he).symm
  rw [ref_at]

end Cert.Kernel10Ideal.Mlp
-- ==== Proof.SampleClaim.lean ====
module

public import proofs.«01_k».proof.Defs
public import proofs.«01_k».proof.Proof.InSample
public import proofs.«01_k».proof.Proof.InSSample
public import proofs.«01_k».proof.Proof.MlpSample
public import proofs.«01_k».proof.Proof.Gen.Kernel8
public import proofs.«01_k».proof.Proof.Gen.Kernel8.Frame
public import proofs.«01_k».proof.Proof.Gen.Kernel8Ideal
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Reference10Ideal
public import proofs.«01_k».proof.Proof.Gen.Reference10Ideal.Run
public import Idealize.ShloMosaic.Lib.Claim

@[expose] public section

set_option maxRecDepth 16384

noncomputable section

/-! The claims about three calls over the sample batch: both layers' in-projections and the second layer's channel mixer. -/

namespace Cert.InSampleClaim

open Idealize.ShloMosaic Idealize.SL.Sem

/-- The printed call keeps its arguments. -/
theorem frame_p : Cert.quiescent_Kernel8 := fun m ρ _ => Cert.Kernel8.Gen.frame m ρ

/-- So does the idealized call. -/
theorem frame_pi : Cert.quiescent_Kernel8Ideal := fun m ρ _ => Cert.Kernel8Ideal.Gen.frame m ρ

/-- So does the reference. -/
theorem frame_ri : Cert.quiescent_Reference8Ideal := fun m ρ _ =>
  (θ_run Cert.Reference8Ideal.defs _ _).mono (fun r h => ⟨fun c => (h c).2.2.2.2.2, sem_eq_zero_of_no_sems (by decide) r.2⟩)
    (Cert.Reference8Ideal.Value.run (F := Ideal) m ρ)

set_option maxHeartbeats 2000000 in
/-- Kernel and reference end with equal results. -/
theorem algebraic : Cert.algebraic_Kernel8Ideal_Reference8Ideal := by
  pair_intro
  · run_from Cert.Kernel8Ideal.Gen.run_main (F := Ideal) m g
  · run_from Cert.Reference8Ideal.Value.run (F := Ideal) m' g'
    · obtain ⟨e0, e1, e2, e3, e4⟩ := hagree c
      refine (Cert.Reference8Ideal.Read.val_main_v124_eq (F := Ideal) m' c).trans (Eq.trans ?_ (Cert.Kernel8Ideal.In.final_q m c).symm)
      exact congr (congr (congr (congrArg (Cert.Reference8Ideal.Read.val_main_v124 (F := Ideal)) e0) e1) e2) e3
    · obtain ⟨e0, e1, e2, e3, e4⟩ := hagree c
      refine (Cert.Reference8Ideal.Read.val_main_v125_eq (F := Ideal) m' c).trans (Eq.trans ?_ (Cert.Kernel8Ideal.In.final_k m c).symm)
      exact congr (congr (congr (congrArg (Cert.Reference8Ideal.Read.val_main_v125 (F := Ideal)) e0) e1) e2) e4
    · exact (Cert.Reference8Ideal.Read.val_main_v126_eq ..).trans (Cert.Kernel8Ideal.In.final_v m c).symm
    · exact (Cert.Reference8Ideal.Read.val_main_v127_eq ..).trans (Cert.Kernel8Ideal.In.final_xr m c).symm
    · exact (Cert.Reference8Ideal.Read.val_main_v128_eq ..).trans (Cert.Kernel8Ideal.In.final_yg m c).symm

end Cert.InSampleClaim

namespace Cert.InSSampleClaim

open Idealize.ShloMosaic Idealize.SL.Sem

/-- The printed call keeps its arguments. -/
theorem frame_p : Cert.quiescent_Kernel9 := fun m ρ _ => Cert.Kernel9.Gen.frame m ρ

/-- So does the idealized call. -/
theorem frame_pi : Cert.quiescent_Kernel9Ideal := fun m ρ _ => Cert.Kernel9Ideal.Gen.frame m ρ

/-- So does the reference. -/
theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Kernel and reference end with equal results. -/
theorem algebraic : Cert.algebraic_Kernel9Ideal_Reference9Ideal := by
  pair_intro
  · run_from Cert.Kernel9Ideal.Gen.run_main (F := Ideal) m g
  · run_from Cert.Reference9Ideal.Value.run (F := Ideal) m' g'
    exact (Cert.Reference9Ideal.Read.val_main_v21_eq ..).trans (Cert.Kernel9Ideal.In.final m c).symm

end Cert.InSSampleClaim

namespace Cert.MlpSampleClaim

open Idealize.ShloMosaic Idealize.SL.Sem

/-- The printed call keeps its arguments. -/
theorem frame_p : Cert.quiescent_Kernel10 := fun m ρ _ => Cert.Kernel10.Gen.frame m ρ

/-- So does the idealized call. -/
theorem frame_pi : Cert.quiescent_Kernel10Ideal := fun m ρ _ => Cert.Kernel10Ideal.Gen.frame m ρ

/-- So does the reference. -/
theorem frame_ri : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Kernel and reference end with equal results. -/
theorem algebraic : Cert.algebraic_Kernel10Ideal_Reference10Ideal := by
  pair_intro
  · run_from Cert.Kernel10Ideal.Gen.run_main (F := Ideal) m g
  · run_from Cert.Reference10Ideal.Value.run (F := Ideal) m' g'
    exact (Cert.Reference10Ideal.Read.val_main_v24_eq ..).trans (Cert.Kernel10Ideal.Mlp.final m c).symm

end Cert.MlpSampleClaim
-- ==== Proof.LruMath.lean ====
module

public import Idealize.ShloMosaic.Lib.Pointwise
public import Idealize.ShloMosaic.Lib.Pipeline.ValueKit

@[expose] public section

set_option maxRecDepth 16384

noncomputable section

/-! The recurrence's step over the reals: the logistic function written with the hyperbolic tangent, the square root's argument
written with it, and the step itself. -/

namespace Cert.LruMath

open Idealize.ShloMosaic

/-- The word of one half. -/
theorem word_half : Ideal.ofBits .f32 0x3F000000#32 = ((1 / 2 : ℝ) : EReal) := by
  simp [Ideal.ofBits, Ideal.ieee, -EReal.coe_mul]; norm_num

/-- The word of two. -/
theorem word_two : Ideal.ofBits .f32 0x40000000#32 = 2 := by
  have h : Ideal.ofBits .f32 0x40000000#32 = ((2 : ℝ) : EReal) := by
    simp [Ideal.ofBits, Ideal.ieee, -EReal.coe_mul]; norm_num
  exact h

/-- The word of minus two. -/
theorem word_neg_two : Ideal.ofBits .f32 0xC0000000#32 = -2 := by
  have h : Ideal.ofBits .f32 0xC0000000#32 = ((-2 : ℝ) : EReal) := by
    simp [Ideal.ofBits, Ideal.ieee, -EReal.coe_mul]; norm_num
  rw [h, EReal.coe_neg]; rfl

/-- The logistic function written with the hyperbolic tangent. -/
def sg (x : EReal) : EReal := ((1 / 2 : ℝ) : EReal) * (Ideal.tanh (((1 / 2 : ℝ) : EReal) * x) + 1)

/-- The exponential of twice a number over the tangent's two sides. -/
theorem one_sub_exp (x : ℝ) : 1 - Real.exp (2 * x) = -2 * Real.tanh x * (1 - Real.tanh x)⁻¹ := by
  have hc : 0 < Real.exp x + Real.exp (-x) := add_pos (Real.exp_pos _) (Real.exp_pos _)
  have ht : Real.tanh x = (Real.exp x - Real.exp (-x)) / (Real.exp x + Real.exp (-x)) := Real.tanh_eq x
  have h1 : 1 - Real.tanh x = 2 * Real.exp (-x) / (Real.exp x + Real.exp (-x)) := by
    rw [ht]
    field_simp
    ring
  have he : Real.exp (2 * x) = Real.exp x * Real.exp x := by rw [two_mul, Real.exp_add]
  have hm : Real.exp x * Real.exp (-x) = 1 := by rw [← Real.exp_add, add_neg_cancel, Real.exp_zero]
  have hn : Real.exp (-x) ≠ 0 := (Real.exp_pos _).ne'
  rw [h1, ht, he]
  rw [inv_div]
  rw [eq_comm, show -2 * ((Real.exp x - Real.exp (-x)) / (Real.exp x + Real.exp (-x)))
      * ((Real.exp x + Real.exp (-x)) / (2 * Real.exp (-x))) = -(Real.exp x - Real.exp (-x)) / Real.exp (-x) by
    field_simp]
  rw [div_eq_iff hn]
  linear_combination Real.exp x * hm

/-- One minus the exponential of twice a number, as a quotient of the hyperbolic tangent. -/
theorem neg_expm1 (x : EReal) :
    -(Ideal.exp (2 * x) - 1) = Ideal.div (-2 * Ideal.tanh x) (1 - Ideal.tanh x) := by
  induction x using EReal.rec with
  | bot =>
    rw [EReal.mul_bot_of_pos (by norm_num)]
    show -((0 : EReal) - 1) = Ideal.div (-2 * (-1)) (1 - (-1))
    have h2 : (1 : EReal) - (-1) = ((2 : ℝ) : EReal) := by
      rw [sub_eq_add_neg, neg_neg]; exact one_add_one_eq_two
    have h3 : (-2 : EReal) * (-1) = ((2 : ℝ) : EReal) := by
      rw [mul_neg, mul_one, neg_neg]; rfl
    rw [h2, h3]
    unfold Ideal.div
    rw [if_neg (by norm_num), ← EReal.coe_inv, ← EReal.coe_mul, zero_sub, neg_neg]
    norm_num
  | coe r =>
    have h2 : (2 : EReal) * (r : EReal) = ((2 * r : ℝ) : EReal) := by rw [EReal.coe_mul]; rfl
    rw [h2]
    show -(((Real.exp (2 * r) : ℝ) : EReal) - 1) = Ideal.div (-2 * ((Real.tanh r : ℝ) : EReal)) (1 - ((Real.tanh r : ℝ) : EReal))
    have hlt : 1 - Real.tanh r ≠ 0 := by
      have := Real.tanh_lt_one r
      linarith
    have ha : (1 : EReal) - ((Real.tanh r : ℝ) : EReal) = ((1 - Real.tanh r : ℝ) : EReal) := by rw [EReal.coe_sub]; rfl
    have hb : (-2 : EReal) * ((Real.tanh r : ℝ) : EReal) = ((-2 * Real.tanh r : ℝ) : EReal) := by
      rw [EReal.coe_mul, EReal.coe_neg]; rfl
    have hc : -(((Real.exp (2 * r) : ℝ) : EReal) - 1) = ((1 - Real.exp (2 * r) : ℝ) : EReal) := by
      rw [← neg_sub (Real.exp (2 * r)) 1, EReal.coe_neg, EReal.coe_sub]; rfl
    rw [ha, hb, hc, one_sub_exp]
    unfold Ideal.div
    rw [if_neg (by exact_mod_cast hlt), ← EReal.coe_inv, ← EReal.coe_mul]
  | top =>
    rw [EReal.mul_top_of_pos (by norm_num)]
    show -((⊤ : EReal) - 1) = Ideal.div (-2 * 1) (1 - 1)
    have h2 : (1 : EReal) - 1 = 0 := by
      rw [← EReal.coe_one, ← EReal.coe_sub, sub_self, EReal.coe_zero]
    unfold Ideal.div
    rw [h2, if_pos rfl, if_neg, ← EReal.coe_one, EReal.top_sub_coe]
    · rfl
    · rw [mul_one]
      have h : (-2 : EReal) = ((-2 : ℝ) : EReal) := by rw [EReal.coe_neg]; rfl
      rw [h]
      norm_cast

/-- The logistic function over the reals. -/
theorem inv_one_add_exp (x : ℝ) : (1 + Real.exp (-x))⁻¹ = 1 / 2 * (Real.tanh (1 / 2 * x) + 1) := by
  have h := one_sub_exp (1 / 2 * x)
  have hlt := Real.tanh_lt_one (1 / 2 * x)
  have hp := Real.exp_pos x
  rw [show (2 : ℝ) * (1 / 2 * x) = x by ring] at h
  have h1 : 1 - Real.tanh (1 / 2 * x) ≠ 0 := by linarith
  have h2 : (1 - Real.exp x) * (1 - Real.tanh (1 / 2 * x)) = -2 * Real.tanh (1 / 2 * x) := by
    rw [h, mul_assoc, inv_mul_cancel₀ h1, mul_one]
  rw [Real.exp_neg]
  have h3 : (1 + (Real.exp x)⁻¹) = (Real.exp x + 1) / Real.exp x := by field_simp
  rw [h3, inv_div, div_eq_iff (by linarith)]
  linarith

/-- The logistic function written with the exponential is the one written with the hyperbolic tangent. -/
theorem logistic_eq (x : EReal) : Ideal.div 1 (1 + Ideal.exp (-x)) = sg x := by
  unfold sg
  have hh : (0 : EReal) < ((1 / 2 : ℝ) : EReal) := by norm_num
  induction x using EReal.rec with
  | bot =>
    rw [EReal.mul_bot_of_pos hh, EReal.neg_bot]
    show Ideal.div 1 (1 + ⊤) = ((1 / 2 : ℝ) : EReal) * ((-1) + 1)
    have h2 : (-1 : EReal) + 1 = 0 := by
      rw [← EReal.coe_one, ← EReal.coe_neg, ← EReal.coe_add, neg_add_cancel, EReal.coe_zero]
    rw [h2, mul_zero, ← EReal.coe_one, EReal.coe_add_top]
    unfold Ideal.div
    rw [if_neg (by simp), EReal.inv_top, mul_zero]
  | coe r =>
    have h2 : ((1 / 2 : ℝ) : EReal) * (r : EReal) = ((1 / 2 * r : ℝ) : EReal) := (EReal.coe_mul _ _).symm
    rw [h2, ← EReal.coe_neg]
    show Ideal.div 1 (1 + ((Real.exp (-r) : ℝ) : EReal)) = ((1 / 2 : ℝ) : EReal) * (((Real.tanh (1 / 2 * r) : ℝ) : EReal) + 1)
    have hp := Real.exp_pos (-r)
    have hne : 1 + Real.exp (-r) ≠ 0 := by linarith
    rw [← EReal.coe_one, ← EReal.coe_add, ← EReal.coe_add, ← EReal.coe_mul, ← inv_one_add_exp]
    unfold Ideal.div
    rw [if_neg (by exact_mod_cast hne), ← EReal.coe_inv, ← EReal.coe_mul, one_mul]
  | top =>
    rw [EReal.mul_top_of_pos hh, EReal.neg_top]
    show Ideal.div 1 (1 + 0) = ((1 / 2 : ℝ) : EReal) * (1 + 1)
    unfold Ideal.div
    rw [add_zero, if_neg one_ne_zero, ← EReal.coe_one, ← EReal.coe_inv, ← EReal.coe_mul, ← EReal.coe_add, ← EReal.coe_mul]
    norm_num

/-- The positive part and the logarithm of one plus the exponential, for the negated weight. -/
def sp (l : EReal) : EReal := max (-l) 0 + Ideal.log1p (Ideal.exp (-FloatOps.absf (F := Ideal) (φ := .f32) (-l)))

/-- The logarithm of the decay. -/
def loga (r l : EReal) : EReal := Ideal.ofBits .f32 0xC1000000#32 * r * sp l

/-- The new state: the old one times the decay, plus the gated input times the root of one minus the decay's square. -/
def stp (la h i x : EReal) : EReal :=
  Ideal.exp la * h + Ideal.sqrt (Ideal.div (-2 * Ideal.tanh la) (1 - Ideal.tanh la)) * (i * x)

/-- The gate of the output. -/
def gel (y : EReal) : EReal :=
  y * (Ideal.ofBits .f32 0x3F000000#32 * (1 + Ideal.tanh (Ideal.ofBits .f32 0x3F4C422A#32 * (y + Ideal.ofBits .f32 0x3D372713#32 * (y * y * y)))))

/-- One channel of the convolved row: the bias and the four taps. -/
def conv (b w0 w1 w2 w3 x0 x1 x2 x3 : EReal) : EReal := b + x0 * w0 + x1 * w1 + x2 * w2 + x3 * w3

/-- One channel of a gate: the product within the channel's group, then the logistic function. -/
def gate (x : Fin 1024 → EReal) (W : Fin 8 → Fin 128 → Fin 128 → EReal) (b : EReal) (w : Fin 1024) : EReal :=
  sg ((∑ k : Fin 128, x ⟨w.val / 128 * 128 + k.val, by omega⟩ * W ⟨w.val / 128, by omega⟩ k ⟨w.val % 128, by omega⟩) + b)

/-- Equal taps give equal convolutions. -/
theorem conv_congr {b w0 w1 w2 w3 x0 x1 x2 x3 b' w0' w1' w2' w3' x0' x1' x2' x3' : EReal} (hb : b = b') (h0 : w0 = w0') (h1 : w1 = w1')
    (h2 : w2 = w2') (h3 : w3 = w3') (g0 : x0 = x0') (g1 : x1 = x1') (g2 : x2 = x2') (g3 : x3 = x3') :
    conv b w0 w1 w2 w3 x0 x1 x2 x3 = conv b' w0' w1' w2' w3' x0' x1' x2' x3' := by
  rw [hb, h0, h1, h2, h3, g0, g1, g2, g3]

/-- The step of one channel: both gates of the row, the decay and the state. -/
def stepOf (x : Fin 1024 → EReal) (A X : Fin 8 → Fin 128 → Fin 128 → EReal) (a b l h : EReal) (w : Fin 1024) : EReal :=
  stp (loga (gate x A a w) l) h (gate x X b w) (x w)

/-- Equal operands give equal steps. -/
theorem stepOf_congr {x x' : Fin 1024 → EReal} {A A' X X' : Fin 8 → Fin 128 → Fin 128 → EReal} {a a' b b' l l' h h' : EReal}
    (hx : ∀ k, x k = x' k) (hA : ∀ n k l, A n k l = A' n k l) (hX : ∀ n k l, X n k l = X' n k l) (ha : a = a') (hb : b = b') (hl : l = l')
    (hh : h = h') (w : Fin 1024) : stepOf x A X a b l h w = stepOf x' A' X' a' b' l' h' w := by
  rw [funext hx, funext fun n => funext fun k => funext fun l => hA n k l, funext fun n => funext fun k => funext fun l => hX n k l,
    ha, hb, hl, hh]

end Cert.LruMath
-- ==== Proof.LruSample.lean ====
module

public import proofs.«01_k».proof.Proof.LruMath
public import proofs.«01_k».proof.Proof.Gen.Kernel11Ideal.Frame
public import proofs.«01_k».proof.Proof.Gen.Reference11Ideal.Read
public import Idealize.ShloMosaic.Lib.Pointwise
public import Idealize.ShloMosaic.Lib.Pipeline.ValueKit

@[expose] public section

set_option maxRecDepth 16384

noncomputable section

/-! One step of the first layer's recurrence over the sample batch against the reference's. -/

namespace Cert.Kernel11Ideal.Lru

open Cert.Kernel11Ideal Cert.Kernel11Ideal.Gen Idealize.ShloMosaic Idealize.ShloMosaic.TcCoe Idealize.SL.Sem
open Idealize.ShloMosaic.Pipeline (Dat)
open Cert.LruMath

/-- The convolved row at an index. -/
theorem pay3_at (v0 v4 v12 v19 v25 : FVec Ideal S1x1024 .f32) (v2 v10 v17 : FVec Ideal S1x32x1024 .f32)
    (v24 : FVec Ideal S32x1024 .f32) (b : Fin 32) (w : Fin 1024) :
    k0_pay3 (F := Ideal) v0 v2 v4 v10 v12 v17 v19 v24 v25 (ix2 b w)
      = conv (v0 (ix2 0 w)) (v4 (ix2 0 w)) (v12 (ix2 0 w)) (v19 (ix2 0 w)) (v25 (ix2 0 w))
          (v2 (ix3 0 b w)) (v10 (ix3 0 b w)) (v17 (ix3 0 b w)) (v24 (ix2 b w)) := by
  pointwise [k0_pay3]
  rfl

/-- One group's product. -/
def piece (o : ℕ) (h : S32x1024.Slices ![0, o] S32x128) (v : FVec Ideal S32x1024 .f32) (w : FVec Ideal S1x128x128 .bf16) :
    FVec Ideal S32x128 .f32 :=
  matmul dot_S32x128_S128x128_S32x128_1_0_0_1_n_n none
    (truncf .bf16 (extractStridedSlice S32x128 ![0, o] v h) bitsLt_bf16_f32 : FVec Ideal S32x128 .bf16)
    (shapeCast S128x128 w shapeCasts_S1x128x128_S128x128) (constant S32x128 .f32 0x00000000#32)

/-- One group's product at an index. -/
theorem piece_at (o : ℕ) (ho : o + 128 ≤ 1024) (h : S32x1024.Slices ![0, o] S32x128) (v : FVec Ideal S32x1024 .f32)
    (w : FVec Ideal S1x128x128 .bf16) (b : Fin 32) (l : Fin 128) :
    piece o h v w (ix2 b l) = ∑ k : Fin 128, v (ix2 b ⟨o + k.val, by omega⟩) * w (ix3 0 k l) := by
  pointwise [piece]

/-- The eight groups' products side by side. -/
def cat (p0 p1 p2 p3 p4 p5 p6 p7 : FVec Ideal S32x128 .f32) : FVec Ideal S32x1024 .f32 :=
  concatenate S32x1024 1 [⟨S32x128, p0⟩, ⟨S32x128, p1⟩, ⟨S32x128, p2⟩, ⟨S32x128, p3⟩, ⟨S32x128, p4⟩, ⟨S32x128, p5⟩, ⟨S32x128, p6⟩, ⟨S32x128, p7⟩]
    concatenates_S32x128_S32x128_S32x128_S32x128_S32x128_S32x128_S32x128_S32x128_S32x1024_d1

/-- A group's entry named by its channel. -/
theorem cat_aux (p : Fin 8 → FVec Ideal S32x128 .f32) (b : Fin 32) (w : Fin 1024) (n : Fin 8) (l : Fin 128)
    (h : w.val = n.val * 128 + l.val) : p n (ix2 b l) = p ⟨w.val / 128, by omega⟩ (ix2 b ⟨w.val % 128, by omega⟩) := by
  have e : (⟨w.val / 128, by omega⟩ : Fin 8) = n := Fin.ext (by simp only []; omega)
  have e' : (⟨w.val % 128, by omega⟩ : Fin 128) = l := Fin.ext (by simp only []; omega)
  rw [e, e']

/-- They are the groups' entries one after another. -/
theorem cat_at (p : Fin 8 → FVec Ideal S32x128 .f32) (b : Fin 32) (w : Fin 1024) :
    cat (p 0) (p 1) (p 2) (p 3) (p 4) (p 5) (p 6) (p 7) (ix2 b w) = p ⟨w.val / 128, by omega⟩ (ix2 b ⟨w.val % 128, by omega⟩) := by
  pointwise [cat]
  by_cases h0 : w.val < 128
  · rw [dif_pos h0]
    exact cat_aux p b w 0 ⟨w.val, h0⟩ (show w.val = 0 * 128 + (w.val) by omega)
  rw [dif_neg h0]
  by_cases h1 : w.val - 128 < 128
  · rw [dif_pos h1]
    exact cat_aux p b w 1 ⟨w.val - 128, h1⟩ (show w.val = 1 * 128 + (w.val - 128) by omega)
  rw [dif_neg h1]
  by_cases h2 : w.val - 128 - 128 < 128
  · rw [dif_pos h2]
    exact cat_aux p b w 2 ⟨w.val - 128 - 128, h2⟩ (show w.val = 2 * 128 + (w.val - 128 - 128) by omega)
  rw [dif_neg h2]
  by_cases h3 : w.val - 128 - 128 - 128 < 128
  · rw [dif_pos h3]
    exact cat_aux p b w 3 ⟨w.val - 128 - 128 - 128, h3⟩ (show w.val = 3 * 128 + (w.val - 128 - 128 - 128) by omega)
  rw [dif_neg h3]
  by_cases h4 : w.val - 128 - 128 - 128 - 128 < 128
  · rw [dif_pos h4]
    exact cat_aux p b w 4 ⟨w.val - 128 - 128 - 128 - 128, h4⟩ (show w.val = 4 * 128 + (w.val - 128 - 128 - 128 - 128) by omega)
  rw [dif_neg h4]
  by_cases h5 : w.val - 128 - 128 - 128 - 128 - 128 < 128
  · rw [dif_pos h5]
    exact cat_aux p b w 5 ⟨w.val - 128 - 128 - 128 - 128 - 128, h5⟩ (show w.val = 5 * 128 + (w.val - 128 - 128 - 128 - 128 - 128) by omega)
  rw [dif_neg h5]
  by_cases h6 : w.val - 128 - 128 - 128 - 128 - 128 - 128 < 128
  · rw [dif_pos h6]
    exact cat_aux p b w 6 ⟨w.val - 128 - 128 - 128 - 128 - 128 - 128, h6⟩ (show w.val = 6 * 128 + (w.val - 128 - 128 - 128 - 128 - 128 - 128) by omega)
  rw [dif_neg h6]
  exact cat_aux p b w 7 ⟨w.val - 128 - 128 - 128 - 128 - 128 - 128 - 128, by omega⟩ (show w.val = 7 * 128 + (w.val - 128 - 128 - 128 - 128 - 128 - 128 - 128) by omega)

/-- The logistic function over the products and the bias. -/
def act (v : FVec Ideal S1x1024 .f32) (p : FVec Ideal S32x1024 .f32) : FVec Ideal S32x1024 .f32 :=
  mulf (broadcast S32x1024 (Scalar.ofBits .f32 0x3F000000#32 : Ideal .f32))
    (addf (tanh (mulf (broadcast S32x1024 (Scalar.ofBits .f32 0x3F000000#32 : Ideal .f32)) (addf p (broadcastTo S32x1024 v broadcasts_S1x1024_S32x1024))))
      (broadcast S32x1024 (Scalar.ofBits .f32 0x3F800000#32 : Ideal .f32)))

/-- At an index. -/
theorem act_at (v : FVec Ideal S1x1024 .f32) (p : FVec Ideal S32x1024 .f32) (b : Fin 32) (w : Fin 1024) :
    act v p (ix2 b w) = sg (p (ix2 b w) + v (ix2 0 w)) := by
  pointwise [act]
  rw [word_half]
  rfl

/-- The softened positive part at an index. -/
theorem pay31_at (v : FVec Ideal S1x1024 .f32) (b : Fin 32) (w : Fin 1024) :
    k0_pay31 (F := Ideal) v (ix2 b w) = sp (v (ix2 0 w)) := by
  pointwise [k0_pay31]
  rw [if_neg (not_not.mpr rfl), zero_sub, zero_sub]
  rfl

/-- The new state at an index. -/
theorem pay1_at (x i r s h : FVec Ideal S32x1024 .f32) (b : Fin 32) (w : Fin 1024) :
    k0_pay1 (F := Ideal) x i r s h (ix2 b w) = stp (r (ix2 b w) * s (ix2 b w)) (h (ix2 b w)) (i (ix2 b w)) (x (ix2 b w)) := by
  pointwise [k0_pay1]
  rw [word_neg_two]
  rfl

/-- The gated state at an index. -/
theorem pay2_at (x i r s h y : FVec Ideal S32x1024 .f32) (b : Fin 32) (w : Fin 1024) :
    k0_pay2 (F := Ideal) x i r s h y (ix2 b w)
      = stp (r (ix2 b w) * s (ix2 b w)) (h (ix2 b w)) (i (ix2 b w)) (x (ix2 b w)) * gel (y (ix2 b w)) := by
  pointwise [k0_pay2]
  rw [pay1_at]
  unfold gel
  rw [mul_comm (y (ix2 b w)) (y (ix2 b w) * y (ix2 b w))]

/-- One group's weight, as the body loads it. -/
theorem ldW (w : Vec Ideal S8x128x128 .bf16) (n : ℕ) (hn : n < 8) (h) (k l : Fin 128) :
    View.ld w (Rect.unit (s := S8x128x128) ![n, 0, 0] S1x128x128.size h) (ix3 0 k l) = w (ix3 ⟨n, hn⟩ k l) :=
  View.ld_unit_apply_of w _ _ _ _ _ fun a => by
    fin_cases a
    · exact (Nat.add_zero _).symm
    · exact (Nat.zero_add _).symm
    · exact (Nat.zero_add _).symm

/-- The eight groups' products. -/
def prods (v : FVec Ideal S32x1024 .f32) (W : Vec Ideal S8x128x128 .bf16) : Fin 8 → FVec Ideal S32x128 .f32 :=
  ![piece 0 slices_S32x1024_o0_0_S32x128 v (View.ld W r0_9), piece 128 slices_S32x1024_o0_128_S32x128 v (View.ld W r0_10),
    piece 256 slices_S32x1024_o0_256_S32x128 v (View.ld W r0_11), piece 384 slices_S32x1024_o0_384_S32x128 v (View.ld W r0_12),
    piece 512 slices_S32x1024_o0_512_S32x128 v (View.ld W r0_13), piece 640 slices_S32x1024_o0_640_S32x128 v (View.ld W r0_14),
    piece 768 slices_S32x1024_o0_768_S32x128 v (View.ld W r0_15), piece 896 slices_S32x1024_o0_896_S32x128 v (View.ld W r0_16)]

/-- One group's product with its loaded weight at an index. -/
theorem prod_at (n : ℕ) (hn : n < 8) (hs : S32x1024.Slices ![0, n * 128] S32x128) (h) (v : FVec Ideal S32x1024 .f32)
    (W : Vec Ideal S8x128x128 .bf16) (b : Fin 32) (l : Fin 128) :
    piece (n * 128) hs v (View.ld W (Rect.unit (s := S8x128x128) ![n, 0, 0] S1x128x128.size h)) (ix2 b l)
      = ∑ k : Fin 128, v (ix2 b ⟨n * 128 + k.val, by omega⟩) * W (ix3 ⟨n, hn⟩ k l) := by
  rw [piece_at _ (by omega)]
  exact Finset.sum_congr rfl fun k _ => congrArg₂ (· * ·) rfl (ldW W n hn h k l)

/-- Every group's product at an index. -/
theorem prods_at (v : FVec Ideal S32x1024 .f32) (W : Vec Ideal S8x128x128 .bf16) (n : Fin 8) (b : Fin 32) (l : Fin 128) :
    prods v W n (ix2 b l) = ∑ k : Fin 128, v (ix2 b ⟨n.val * 128 + k.val, by omega⟩) * W (ix3 n k l) := by
  fin_cases n
  · exact prod_at 0 (by omega) slices_S32x1024_o0_0_S32x128 _ v W b l
  · exact prod_at 1 (by omega) slices_S32x1024_o0_128_S32x128 _ v W b l
  · exact prod_at 2 (by omega) slices_S32x1024_o0_256_S32x128 _ v W b l
  · exact prod_at 3 (by omega) slices_S32x1024_o0_384_S32x128 _ v W b l
  · exact prod_at 4 (by omega) slices_S32x1024_o0_512_S32x128 _ v W b l
  · exact prod_at 5 (by omega) slices_S32x1024_o0_640_S32x128 _ v W b l
  · exact prod_at 6 (by omega) slices_S32x1024_o0_768_S32x128 _ v W b l
  · exact prod_at 7 (by omega) slices_S32x1024_o0_896_S32x128 _ v W b l

/-- A gate of the whole row at an index. -/
theorem act_prods (v : FVec Ideal S32x1024 .f32) (W : Vec Ideal S8x128x128 .bf16) (a : FVec Ideal S1x1024 .f32) (b : Fin 32) (w : Fin 1024) :
    act a (cat (prods v W 0) (prods v W 1) (prods v W 2) (prods v W 3) (prods v W 4) (prods v W 5) (prods v W 6) (prods v W 7)) (ix2 b w)
      = gate (fun k => v (ix2 b k)) (fun n k l => W (ix3 n k l)) (a (ix2 0 w)) w := by
  rw [act_at, cat_at, prods_at]
  rfl

section
variable (x0 x1 : Vec Ideal S32x1024 .f32) (x2 : Vec Ideal S3x32x1024 .f32) (x3 : Vec Ideal S32x1024 .f32) (x4 : Vec Ideal S4x1024 .f32)
  (x5 : Vec Ideal S1x1024 .f32) (x6 : Vec Ideal S8x128x128 .bf16) (x7 : Vec Ideal S1x1024 .f32) (x8 : Vec Ideal S8x128x128 .bf16)
  (x9 x10 : Vec Ideal S1x1024 .f32)

/-- The bias row as the body loads it. -/
theorem ld0 (x : Vec Ideal S1x1024 .f32) (w : Fin 1024) : View.ld x r0_0 (ix2 0 w) = x (ix2 0 w) :=
  View.ld_unit_apply_of x _ _ _ _ _ fun a => by
    fin_cases a
    · rfl
    · exact (Nat.zero_add _).symm

/-- A whole block as the body loads it. -/
theorem ld7 (x : Vec Ideal S32x1024 .f32) (b : Fin 32) (w : Fin 1024) : View.ld x r0_7 (ix2 b w) = x (ix2 b w) :=
  View.ld_unit_apply_of x _ _ _ _ _ fun a => by
    fin_cases a
    · exact (Nat.zero_add _).symm
    · exact (Nat.zero_add _).symm

/-- One tap's weights as the body loads them. -/
theorem ldT (x : Vec Ideal S4x1024 .f32) (n : ℕ) (hn : n < 4) (h) (w : Fin 1024) :
    View.ld x (Rect.unit (s := S4x1024) ![n, 0] S1x1024.size h) (ix2 0 w) = x (ix2 ⟨n, hn⟩ w) :=
  View.ld_unit_apply_of x _ _ _ _ _ fun a => by
    fin_cases a
    · exact (Nat.add_zero _).symm
    · exact (Nat.zero_add _).symm

/-- One earlier row of the convolution as the body loads it. -/
theorem ldB (x : Vec Ideal S3x32x1024 .f32) (n : ℕ) (hn : n < 3) (h) (b : Fin 32) (w : Fin 1024) :
    View.ld x (Rect.unit (s := S3x32x1024) ![n, 0, 0] S1x32x1024.size h) (ix3 0 b w) = x (ix3 ⟨n, hn⟩ b w) :=
  View.ld_unit_apply_of x _ _ _ _ _ fun a => by
    fin_cases a
    · exact (Nat.add_zero _).symm
    · exact (Nat.zero_add _).symm
    · exact (Nat.zero_add _).symm

/-- The convolved row at an index, off the blocks. -/
theorem row_at (b : Fin 32) (w : Fin 1024) :
    k0_pay32 (F := Ideal) x0 x1 x2 x3 x4 x5 x6 x7 x8 x9 x10 (ix2 b w)
      = conv (x5 (ix2 0 w)) (x4 (ix2 0 w)) (x4 (ix2 1 w)) (x4 (ix2 2 w)) (x4 (ix2 3 w))
          (x2 (ix3 0 b w)) (x2 (ix3 1 b w)) (x2 (ix3 2 b w)) (x0 (ix2 b w)) := by
  refine (pay3_at ..).trans ?_
  rw [ld0, ld7, show View.ld x4 r0_2 (ix2 0 w) = _ from ldT x4 0 (by omega) _ w, show View.ld x4 r0_4 (ix2 0 w) = _ from ldT x4 1 (by omega) _ w,
    show View.ld x4 r0_6 (ix2 0 w) = _ from ldT x4 2 (by omega) _ w, show View.ld x4 r0_8 (ix2 0 w) = _ from ldT x4 3 (by omega) _ w,
    show View.ld x2 r0_1 (ix3 0 b w) = _ from ldB x2 0 (by omega) _ b w, show View.ld x2 r0_3 (ix3 0 b w) = _ from ldB x2 1 (by omega) _ b w,
    show View.ld x2 r0_5 (ix3 0 b w) = _ from ldB x2 2 (by omega) _ b w]
  rfl

/-- The biases' payloads pass their row on. -/
theorem pay4_at (x : Vec Ideal S1x1024 .f32) (w : Fin 1024) : k0_pay4 (F := Ideal) x (ix2 0 w) = x (ix2 0 w) := by pointwise [k0_pay4]
/-- So does the second. -/
theorem pay5_at (x : Vec Ideal S1x1024 .f32) (w : Fin 1024) : k0_pay5 (F := Ideal) x (ix2 0 w) = x (ix2 0 w) := by pointwise [k0_pay5]
/-- So does the third. -/
theorem pay6_at (x : Vec Ideal S1x1024 .f32) (w : Fin 1024) : k0_pay6 (F := Ideal) x (ix2 0 w) = x (ix2 0 w) := by pointwise [k0_pay6]

/-- The input's gate. -/
theorem gate_i (b : Fin 32) (w : Fin 1024) :
    k0_pay34 (F := Ideal) x0 x1 x2 x3 x4 x5 x6 x7 x8 x9 x10 (ix2 b w)
      = gate (fun k => k0_pay32 (F := Ideal) x0 x1 x2 x3 x4 x5 x6 x7 x8 x9 x10 (ix2 b k)) (fun n k l => x8 (ix3 n k l)) (x9 (ix2 0 w)) w := by
  refine (act_prods (k0_pay32 (F := Ideal) x0 x1 x2 x3 x4 x5 x6 x7 x8 x9 x10) x8 (k0_pay5 (View.ld x9 r0_0)) b w).trans ?_
  rw [pay5_at, ld0]

/-- The recurrence's gate, times its constant. -/
theorem gate_r (b : Fin 32) (w : Fin 1024) :
    k0_pay35 (F := Ideal) x0 x1 x2 x3 x4 x5 x6 x7 x8 x9 x10 (ix2 b w)
      = Ideal.ofBits .f32 0xC1000000#32
        * gate (fun k => k0_pay32 (F := Ideal) x0 x1 x2 x3 x4 x5 x6 x7 x8 x9 x10 (ix2 b k)) (fun n k l => x6 (ix3 n k l)) (x7 (ix2 0 w)) w := by
  have h := act_prods (k0_pay32 (F := Ideal) x0 x1 x2 x3 x4 x5 x6 x7 x8 x9 x10) x6 (k0_pay4 (View.ld x7 r0_0)) b w
  rw [pay4_at, ld0] at h
  exact congrArg (fun z => Ideal.ofBits .f32 0xC1000000#32 * z) h

/-- The softened positive part, off the block. -/
theorem soft_at (b : Fin 32) (w : Fin 1024) :
    k0_pay36 (F := Ideal) x0 x1 x2 x3 x4 x5 x6 x7 x8 x9 x10 (ix2 b w) = sp (x10 (ix2 0 w)) := by
  refine (pay31_at ..).trans ?_
  rw [pay6_at, ld0]

/-- The new state the body leaves, at an index. -/
theorem out12_at (b : Fin 32) (w : Fin 1024) :
    out0_12 (F := Ideal) x0 x1 x2 x3 x4 x5 x6 x7 x8 x9 x10 (ix2 b w)
      = stp (k0_pay35 (F := Ideal) x0 x1 x2 x3 x4 x5 x6 x7 x8 x9 x10 (ix2 b w) * k0_pay36 (F := Ideal) x0 x1 x2 x3 x4 x5 x6 x7 x8 x9 x10 (ix2 b w)) (x3 (ix2 b w))
          (k0_pay34 (F := Ideal) x0 x1 x2 x3 x4 x5 x6 x7 x8 x9 x10 (ix2 b w)) (k0_pay32 (F := Ideal) x0 x1 x2 x3 x4 x5 x6 x7 x8 x9 x10 (ix2 b w)) := by
  unfold out0_12
  refine (congrFun (View.canon_cons_unit_lit _ _ _ (by decide)) _).trans ((pay1_at ..).trans ?_)
  rw [ld7]

/-- The gated state the body leaves, at an index. -/
theorem out11_at (b : Fin 32) (w : Fin 1024) :
    out0_11 (F := Ideal) x0 x1 x2 x3 x4 x5 x6 x7 x8 x9 x10 (ix2 b w)
      = stp (k0_pay35 (F := Ideal) x0 x1 x2 x3 x4 x5 x6 x7 x8 x9 x10 (ix2 b w) * k0_pay36 (F := Ideal) x0 x1 x2 x3 x4 x5 x6 x7 x8 x9 x10 (ix2 b w)) (x3 (ix2 b w))
          (k0_pay34 (F := Ideal) x0 x1 x2 x3 x4 x5 x6 x7 x8 x9 x10 (ix2 b w)) (k0_pay32 (F := Ideal) x0 x1 x2 x3 x4 x5 x6 x7 x8 x9 x10 (ix2 b w)) * gel (x1 (ix2 b w)) := by
  unfold out0_11
  refine (congrFun (View.canon_cons_unit_lit _ _ _ (by decide)) _).trans ((pay2_at ..).trans ?_)
  rw [ld7, ld7]

/-- The step off the blocks, read out. -/
theorem step_at (b : Fin 32) (w : Fin 1024) (h : EReal) :
    stp (k0_pay35 (F := Ideal) x0 x1 x2 x3 x4 x5 x6 x7 x8 x9 x10 (ix2 b w) * k0_pay36 (F := Ideal) x0 x1 x2 x3 x4 x5 x6 x7 x8 x9 x10 (ix2 b w)) h
        (k0_pay34 (F := Ideal) x0 x1 x2 x3 x4 x5 x6 x7 x8 x9 x10 (ix2 b w)) (k0_pay32 (F := Ideal) x0 x1 x2 x3 x4 x5 x6 x7 x8 x9 x10 (ix2 b w))
      = stepOf (fun k => conv (x5 (ix2 0 k)) (x4 (ix2 0 k)) (x4 (ix2 1 k)) (x4 (ix2 2 k)) (x4 (ix2 3 k))
          (x2 (ix3 0 b k)) (x2 (ix3 1 b k)) (x2 (ix3 2 b k)) (x0 (ix2 b k))) (fun n k l => x6 (ix3 n k l)) (fun n k l => x8 (ix3 n k l))
          (x7 (ix2 0 w)) (x9 (ix2 0 w)) (x10 (ix2 0 w)) h w := by
  rw [gate_r, gate_i, soft_at, row_at]
  unfold stepOf loga
  simp only [row_at]

end

/-- The reference's step at an index: the state. -/
def refh (X : FVec Ideal S32x1024 .f32) (buf : FVec Ideal S1x32x3x1024 .f32) (h0 : FVec Ideal S1x32x1024 .f32)
    (cw : FVec Ideal S1x4x1024 .f32) (cb : FVec Ideal S1x1024 .f32) (wa : FVec Ideal S1x8x128x128 .f32) (ba : FVec Ideal S1x1024 .f32)
    (wx : FVec Ideal S1x8x128x128 .f32) (bx lam : FVec Ideal S1x1024 .f32) (b : Fin 32) (w : Fin 1024) : EReal :=
  stepOf (fun k => conv (cb (ix2 0 k)) (cw (ix3 0 0 k)) (cw (ix3 0 1 k)) (cw (ix3 0 2 k)) (cw (ix3 0 3 k))
    (buf (ix4 0 b 0 k)) (buf (ix4 0 b 1 k)) (buf (ix4 0 b 2 k)) (X (ix2 b k))) (fun n k l => wa (ix4 0 n k l)) (fun n k l => wx (ix4 0 n k l))
    (ba (ix2 0 w)) (bx (ix2 0 w)) (lam (ix2 0 w)) (h0 (ix3 0 b w)) w

section
open Cert.Reference11Ideal.Read
variable (X Y : FVec Ideal S32x1024 .f32) (buf : FVec Ideal S1x32x3x1024 .f32) (h0 : FVec Ideal S1x32x1024 .f32)
  (cw : FVec Ideal S1x4x1024 .f32) (cb : FVec Ideal S1x1024 .f32) (wa : FVec Ideal S1x8x128x128 .f32) (ba : FVec Ideal S1x1024 .f32)
  (wx : FVec Ideal S1x8x128x128 .f32) (bx lam : FVec Ideal S1x1024 .f32)

/-- The reference's convolved row. -/
theorem ref_row (b : Fin 32) (w : Fin 1024) :
    val_main_v37 (F := Ideal) X buf cw cb (ix3 b 0 w)
      = conv (cb (ix2 0 w)) (cw (ix3 0 0 w)) (cw (ix3 0 1 w)) (cw (ix3 0 2 w)) (cw (ix3 0 3 w))
          (buf (ix4 0 b 0 w)) (buf (ix4 0 b 1 w)) (buf (ix4 0 b 2 w)) (X (ix2 b w)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37]
  rfl

/-- The reference's first gate. -/
theorem ref_r (b : Fin 32) (w : Fin 1024) :
    val_main_v52 (F := Ideal) X buf cw cb wa ba (ix3 b 0 w)
      = gate (fun k => val_main_v37 (F := Ideal) X buf cw cb (ix3 b 0 k)) (fun n k l => wa (ix4 0 n k l)) (ba (ix2 0 w)) w := by
  pointwise [val_main_v38, val_main_v39, val_main_v40, val_main_v41, val_main_v42, val_main_v43, val_main_v44, val_main_v45, val_main_v46, val_main_v47, val_main_v48, val_main_v49, val_main_v50, val_main_v51, val_main_v52, val_main_cst, val_main_cst_0]
  rw [logistic_eq]
  exact congrArg sg (congrArg (· + _) (Finset.sum_congr rfl fun k _ => mul_comm _ _))

/-- The reference's second gate. -/
theorem ref_i (b : Fin 32) (w : Fin 1024) :
    val_main_v66 (F := Ideal) X buf cw cb wx bx (ix3 b 0 w)
      = gate (fun k => val_main_v37 (F := Ideal) X buf cw cb (ix3 b 0 k)) (fun n k l => wx (ix4 0 n k l)) (bx (ix2 0 w)) w := by
  pointwise [val_main_v38, val_main_v53, val_main_v54, val_main_v55, val_main_v56, val_main_v57, val_main_v58, val_main_v59, val_main_v60, val_main_v61, val_main_v62, val_main_v63, val_main_v64, val_main_v65, val_main_v66, val_main_cst_1, val_main_cst_2]
  rw [logistic_eq]
  exact congrArg sg (congrArg (· + _) (Finset.sum_congr rfl fun k _ => mul_comm _ _))

/-- The reference's softened positive part. -/
theorem ref_sp (w : Fin 1024) : val_main_v71 (F := Ideal) lam (ix1 w) = sp (lam (ix2 0 w)) := by
  pointwise [val_main_v69, val_main_v70, val_main_v71, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11]
  rw [if_neg (not_not.mpr rfl)]
  rfl

/-- The reference's logarithm of the decay. -/
theorem ref_log (b : Fin 32) (w : Fin 1024) :
    val_main_v74 (F := Ideal) X buf cw cb wa ba lam (ix3 b 0 w)
      = loga (val_main_v52 (F := Ideal) X buf cw cb wa ba (ix3 b 0 w)) (lam (ix2 0 w)) := by
  pointwise [val_main_cst_3, val_main_v67, val_main_v68, val_main_v72, val_main_v73, val_main_v74]
  rw [ref_sp]
  rfl

/-- The reference's new state. -/
theorem ref_h (b : Fin 32) (w : Fin 1024) :
    val_main_v87 (F := Ideal) X buf h0 cw cb wa ba wx bx lam (ix2 b w) = refh X buf h0 cw cb wa ba wx bx lam b w := by
  pointwise [val_main_v75, val_main_cst_4, val_main_v76, val_main_v77, val_main_v78, val_main_v79, val_main_v80, val_main_v81, val_main_v82, val_main_v83, val_main_v84, val_main_v85, val_main_v86, val_main_v87]
  rw [ref_log, ref_i, ref_r, word_two, neg_expm1]
  simp only [ref_row]
  rfl

/-- The reference's gated state. -/
theorem ref_rec (b : Fin 32) (w : Fin 1024) :
    val_main_v102 (F := Ideal) X Y buf h0 cw cb wa ba wx bx lam (ix2 b w)
      = refh X buf h0 cw cb wa ba wx bx lam b w * gel (Y (ix2 b w)) := by
  pointwise [val_main_cst_5, val_main_cst_6, val_main_cst_7, val_main_cst_8, val_main_v88, val_main_v89, val_main_v90, val_main_v91, val_main_v92, val_main_v93, val_main_v94, val_main_v95, val_main_v96, val_main_v97, val_main_v98, val_main_v99, val_main_v100, val_main_v101, val_main_v102]
  rw [ref_h]
  rfl

end

variable (m : (ℓ : Loc nD τ sig) → Buf (Elt Ideal) ℓ) (c : Dev nD)

/-- Where each window's block lies. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0, 0]
    ∧ win0_7.index t = ![0, 0] ∧ win0_8.index t = ![0, 0, 0] ∧ win0_9.index t = ![0, 0] ∧ win0_10.index t = ![0, 0]
    ∧ win0_11.index t = ![0, 0] ∧ win0_12.index t = ![0, 0] :=
  (by decide +kernel : ∀ t : Fin grid0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0, 0]
    ∧ win0_7.index t = ![0, 0] ∧ win0_8.index t = ![0, 0, 0] ∧ win0_9.index t = ![0, 0] ∧ win0_10.index t = ![0, 0]
    ∧ win0_11.index t = ![0, 0] ∧ win0_12.index t = ![0, 0])

/-- Window 0's block. -/
theorem blk0 (t : Fin cfg0.N) (b : Fin 32) (w : Fin 1024) :
    (show FVec Ideal S32x1024 .f32 from iblk m c 0 t) (ix2 b w) = m ((c : Thread nD τ).loc main_arg0) (ix2 b w) := by
  blk_point [iblk, V, idx t]

/-- Window 1's block. -/
theorem blk1 (t : Fin cfg0.N) (b : Fin 32) (w : Fin 1024) :
    (show FVec Ideal S32x1024 .f32 from iblk m c 1 t) (ix2 b w) = m ((c : Thread nD τ).loc main_arg1) (ix2 b w) := by
  blk_point [iblk, V, idx t]

/-- Window 2's block. -/
theorem blk2 (t : Fin cfg0.N) (j : Fin 3) (b : Fin 32) (w : Fin 1024) :
    (show FVec Ideal S3x32x1024 .f32 from iblk m c 2 t) (ix3 j b w) = m ((c : Thread nD τ).loc main_arg2) (ix4 0 b j w) := by
  blk_point [iblk, V, idx t]

/-- Window 3's block. -/
theorem blk3 (t : Fin cfg0.N) (b : Fin 32) (w : Fin 1024) :
    (show FVec Ideal S32x1024 .f32 from iblk m c 3 t) (ix2 b w) = m ((c : Thread nD τ).loc main_arg3) (ix3 0 b w) := by
  blk_point [iblk, V, idx t]

/-- Window 4's block. -/
theorem blk4 (t : Fin cfg0.N) (j : Fin 4) (w : Fin 1024) :
    (show FVec Ideal S4x1024 .f32 from iblk m c 4 t) (ix2 j w) = m ((c : Thread nD τ).loc main_arg4) (ix3 0 j w) := by
  blk_point [iblk, V, idx t]

/-- Window 5's block. -/
theorem blk5 (t : Fin cfg0.N) (w : Fin 1024) :
    (show FVec Ideal S1x1024 .f32 from iblk m c 5 t) (ix2 0 w) = m ((c : Thread nD τ).loc main_arg5) (ix2 0 w) := by
  blk_point [iblk, V, idx t]

/-- Window 6's block. -/
theorem blk6 (t : Fin cfg0.N) (n : Fin 8) (k l : Fin 128) :
    (show FVec Ideal S8x128x128 .bf16 from iblk m c 6 t) (ix3 n k l) = m ((c : Thread nD τ).loc main_arg6) (ix4 0 n k l) := by
  blk_point [iblk, V, idx t]

/-- Window 7's block. -/
theorem blk7 (t : Fin cfg0.N) (w : Fin 1024) :
    (show FVec Ideal S1x1024 .f32 from iblk m c 7 t) (ix2 0 w) = m ((c : Thread nD τ).loc main_arg7) (ix2 0 w) := by
  blk_point [iblk, V, idx t]

/-- Window 8's block. -/
theorem blk8 (t : Fin cfg0.N) (n : Fin 8) (k l : Fin 128) :
    (show FVec Ideal S8x128x128 .bf16 from iblk m c 8 t) (ix3 n k l) = m ((c : Thread nD τ).loc main_arg8) (ix4 0 n k l) := by
  blk_point [iblk, V, idx t]

/-- Window 9's block. -/
theorem blk9 (t : Fin cfg0.N) (w : Fin 1024) :
    (show FVec Ideal S1x1024 .f32 from iblk m c 9 t) (ix2 0 w) = m ((c : Thread nD τ).loc main_arg9) (ix2 0 w) := by
  blk_point [iblk, V, idx t]

/-- Window 10's block. -/
theorem blk10 (t : Fin cfg0.N) (w : Fin 1024) :
    (show FVec Ideal S1x1024 .f32 from iblk m c 10 t) (ix2 0 w) = m ((c : Thread nD τ).loc main_arg10) (ix2 0 w) := by
  blk_point [iblk, V, idx t]

/-- The state the body leaves is the reference's. -/
theorem out12_eq (t : Fin cfg0.N) (b : Fin 32) (w : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 b w)
      = refh (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b w := by
  rw [out12_at, step_at]
  unfold refh
  exact stepOf_congr (fun k => conv_congr (blk5 m c t k) (blk4 m c t 0 k) (blk4 m c t 1 k) (blk4 m c t 2 k) (blk4 m c t 3 k)
    (blk2 m c t 0 b k) (blk2 m c t 1 b k) (blk2 m c t 2 b k) (blk0 m c t b k)) (blk6 m c t) (blk8 m c t) (blk7 m c t w) (blk9 m c t w)
    (blk10 m c t w) (blk3 m c t b w) w

/-- The gated state the body leaves is the reference's. -/
theorem out11_eq (t : Fin cfg0.N) (b : Fin 32) (w : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 b w)
      = refh (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b w * gel (m ((c : Thread nD τ).loc main_arg1) (ix2 b w)) := by
  rw [out11_at, ← out12_at, out12_eq]
  exact congrArg (fun z => _ * gel z) (blk1 m c t b w)

/-- The new state after the run is the reference's. -/
theorem final_h : (dats m 0 c).arrAt 12 cfg0.N
    = Cert.Reference11Ideal.Read.val_main_v87 (F := Ideal) (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 12 _ (by decide +kernel) fun t hf y => ?_
  blk_simp
  rw [after0_12]
  idx_vars y
  have he : ((cfg0.win 12).blk t).view.emb (ix2 y0 y1) = (ix2 y0 y1 : S32x1024.Idx) := by
    blk_ext [idx t]
  refine Eq.trans ?_ (congrArg _ he).symm
  rw [ref_h]
  exact out12_eq m c t y0 y1

/-- The gated state after the run is the reference's. -/
theorem final_rec : (dats m 0 c).arrAt 11 cfg0.N
    = Cert.Reference11Ideal.Read.val_main_v102 (F := Ideal) (m ((c : Thread nD τ).loc main_arg0)) (m ((c : Thread nD τ).loc main_arg1))
        (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 11 _ (by decide +kernel) fun t hf y => ?_
  blk_simp
  rw [after0_11]
  idx_vars y
  have he : ((cfg0.win 11).blk t).view.emb (ix2 y0 y1) = (ix2 y0 y1 : S32x1024.Idx) := by
    blk_ext [idx t]
  refine Eq.trans ?_ (congrArg _ he).symm
  rw [ref_rec]
  exact out11_eq m c t y0 y1

end Cert.Kernel11Ideal.Lru
-- ==== Proof.LruSampleClaim.lean ====
module

public import proofs.«01_k».proof.Defs
public import proofs.«01_k».proof.Proof.LruSample
public import proofs.«01_k».proof.Proof.Gen.Kernel11
public import proofs.«01_k».proof.Proof.Gen.Kernel11.Frame
public import proofs.«01_k».proof.Proof.Gen.Kernel11Ideal
public import proofs.«01_k».proof.Proof.Gen.Reference11Ideal
public import proofs.«01_k».proof.Proof.Gen.Reference11Ideal.Run
public import Idealize.ShloMosaic.Lib.Claim

@[expose] public section

set_option maxRecDepth 16384

noncomputable section

/-! The claims about one step of the first layer's recurrence over the sample batch. -/

namespace Cert.LruSampleClaim

open Idealize.ShloMosaic Idealize.SL.Sem

/-- The printed call keeps its arguments. -/
theorem frame_p : Cert.quiescent_Kernel11 := fun m ρ _ => Cert.Kernel11.Gen.frame m ρ

/-- So does the idealized call. -/
theorem frame_pi : Cert.quiescent_Kernel11Ideal := fun m ρ _ => Cert.Kernel11Ideal.Gen.frame m ρ

/-- So does the reference. -/
theorem frame_ri : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

set_option maxHeartbeats 2000000 in
/-- Kernel and reference end with equal results. -/
theorem algebraic : Cert.algebraic_Kernel11Ideal_Reference11Ideal := by
  pair_intro
  · run_from Cert.Kernel11Ideal.Gen.run_main (F := Ideal) m g
  · run_from Cert.Reference11Ideal.Value.run (F := Ideal) m' g'
    · obtain ⟨e0, e1, e2, e3, e4, e5, e6, e7, e8, e9, e10⟩ := hagree c
      refine (Cert.Reference11Ideal.Read.val_main_v102_eq (F := Ideal) m' c).trans (Eq.trans ?_ (Cert.Kernel11Ideal.Lru.final_rec m c).symm)
      exact congr (congr (congr (congr (congr (congr (congr (congr (congr (congr (congrArg (Cert.Reference11Ideal.Read.val_main_v102 (F := Ideal)) e0) e1) e2) e3) e4) e5) e6) e7) e8) e9) e10
    · obtain ⟨e0, e1, e2, e3, e4, e5, e6, e7, e8, e9, e10⟩ := hagree c
      refine (Cert.Reference11Ideal.Read.val_main_v87_eq (F := Ideal) m' c).trans (Eq.trans ?_ (Cert.Kernel11Ideal.Lru.final_h m c).symm)
      exact congr (congr (congr (congr (congr (congr (congr (congr (congr (congrArg (Cert.Reference11Ideal.Read.val_main_v87 (F := Ideal)) e0) e2) e3) e4) e5) e6) e7) e8) e9) e10

end Cert.LruSampleClaim
-- ==== Proof.lean ====
module

public import proofs.«01_k».proof.Defs
public import proofs.«01_k».proof.Proof.MobaClaim
public import proofs.«01_k».proof.Proof.MlpClaim
public import proofs.«01_k».proof.Proof.InClaim
public import proofs.«01_k».proof.Proof.InSClaim
public import proofs.«01_k».proof.Proof.OutClaim
public import proofs.«01_k».proof.Proof.SampleClaim
public import proofs.«01_k».proof.Proof.LruSampleClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Pre_finite_qk.Gen.facts,
    MobaClaim.frame_p, MobaClaim.frame_pi, MobaClaim.frame_pi_pre, MobaClaim.frame_ri, MobaClaim.frame_ri_pre,
    MlpClaim.frame_p, MlpClaim.frame_pi, MlpClaim.frame_ri,
    InClaim.frame_p, InClaim.frame_pi, InClaim.frame_ri,
    InZClaim.frame_p, InZClaim.frame_pi, InZClaim.frame_ri,
    InSClaim.frame_p, InSClaim.frame_pi, InSClaim.frame_ri,
    OutAClaim.frame_p, OutAClaim.frame_pi, OutAClaim.frame_ri,
    OutSClaim.frame_p, OutSClaim.frame_pi, OutSClaim.frame_ri,
    InSampleClaim.frame_p, InSampleClaim.frame_pi, InSampleClaim.frame_ri,
    InSSampleClaim.frame_p, InSSampleClaim.frame_pi, InSSampleClaim.frame_ri,
    MlpSampleClaim.frame_p, MlpSampleClaim.frame_pi, MlpSampleClaim.frame_ri,
    LruSampleClaim.frame_p, LruSampleClaim.frame_pi, LruSampleClaim.frame_ri,
    MobaClaim.preserves, MobaClaim.algebraic, trivial, MlpClaim.algebraic,
    trivial, InClaim.algebraic,
    trivial, InZClaim.algebraic,
    trivial, InSClaim.algebraic,
    trivial, OutAClaim.algebraic,
    trivial, OutSClaim.algebraic,
    trivial, InSampleClaim.algebraic,
    trivial, InSSampleClaim.algebraic,
    trivial, MlpSampleClaim.algebraic,
    trivial, LruSampleClaim.algebraic⟩

end Cert.Proof

end
